-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6))
      ∧ r.2.sem = fun _ => 0)

def preserves_Kernel_KernelIdeal : Prop :=
  IdealRules.named_const.Statement Cert.KernelIdeal.κ "g0" .f32 0x399ACCA1#32 ((6146015080813575034695417713226912903305888181886472031037824629831672928949925977371885924422256558280598640253784375251182367178077275943508811277617726037926828835493962089938703670916216150637232924767423218594179651908716059369457431352364368667582308905998928857404131059860187300660764250399851094923206841232876192030133070875041117904520293983055025851039902553125047623681 / 20815864389328798163850480654728171077230524494533409610638224700807216119346720596024478883464648369684843227908562015582767132496646929816279813211354641525848259018778440691546366699323167100945918841095379622423387354295096957733925002768876520583464697770622321657076833170056511209332449663781837603694136444406281042053396870977465916057756101739472373801429441421111406337458176 : ℝ) : EReal)
  ∧ IdealRules.named_const.Statement Cert.KernelIdeal.κ "g1" .f32 0x3C9160A5#32 ((42774078302235318565319257509240389102448610944058038806438187308967998022705219385729663158638449482363242547246423463242593270189466810827507253377583114893638375653286835591007069102165292454913397853719673918607538604174150929255316756471434149954438683890468730174719505936020561911515555997155458494501519964452840485792481596827492989182299408582213918538682711594745086139424161235245664305277724872062197080286979918058563320302114990397887505300439041 / 2410312426921032588580116606028314112912093247945688951359675039065257391591803200669085024107346049663448766280888004787862416978794958324969612987890774651455213339381625224770782077917681499676845543137387820057597345857904599109461387122099507964997815641342300677629473355281617428411794163967785870370368969109221591943054232011562758450080579587850900993714892283476646631181515063804873375182260506246992837898705971012525843324401232986857004760339316736 : ℝ) : EReal)
  ∧ IdealRules.named_const.Statement Cert.KernelIdeal.κ "g2" .f32 0x3E097FCE#32 ((37475942568369757962947522235530371133981530150116838269147324413047700895014398970446404169811997688419833959989077757701150649868243230123056568953964412798172396287429646722188387330264786795375818576214031616869032274669030355559348596733438707526107308633142545065787965914180851284280383384025423970000476770692381976054937465989431021902621277854218705005366130766187721539711495327024166368641272006952024074184121303316623563671196861028284711972009680015975871738940145523351472588749523046764641137000009779131884491317421506561 / 279095111627852376407822673918065072905887935345660252615989519488029661278604994789701101367875859521849524793382568057369148405837577299984720398976429790087982805274893437406788716103454867635208144157749912668657006085226160261808841484862703257771979713923863820038729637520989894984676774385364934677289947762340313157123529922421738738162392233756507666339799675257002539356619747080176786496732679854783185583233878234270370065954615221443190595445898747930123678952192875629172092437548194134594886873249778512829119416327938768896 : ℝ) : EReal)
  ∧ IdealRules.named_const.Statement Cert.KernelIdeal.κ "g3" .f32 0x3EBBFC5D#32 ((11865504027970838771731346061683101436994979092949631599037079718981644706917580014911102414175085528643666188591370983920968194011711659169451226844120009995840891480759624977868736986513250783427504228510443452927050635948750086027473241612026344113952918539841083265621530105483498237021333267100718263868013566694893934279056051614332115121424258551337630287851288624870009988393213915090641049449897944231399544068578059227753373776746392142852101691703865017730668871755067274316504625716657064558790363574959526408194231415564059175410672318668947295267860607377447532996550538797464469098486006259918212890625 / 32317006071311007300714876688669951960444102669715484032130345427524655138867890893197201411522913463688717960921898019494119559150490921095088152386448283120630877367300996091750197750389652106796057638384067568276792218642619756161838094338476170470581645852036305042887575891541065808607552399123930385521914333389668342420684974786564569494856176035326322058077805659331026192708460314150258592864177116725943603718461857357598351152301645904403697613233287231227125684710820209725157101726931323469678542580656697935045997268352998638215525166389437335543602135433229604645318478604952148193555853611059596230656 : ℝ) : EReal)
  ∧ IdealRules.named_const.Statement Cert.KernelIdeal.κ "g4" .f32 0x3F1B322A#32 ((2268560858212437164610433925711934373410582837965183998424115932072889031456775415934332958631165982217084171365658533939505628934401906064660409151362039483958284679840648367042721120317582229425251279030418832818292987838711392170461436941262761909390722105699485266572005223949970251724447769284689701216507438358815813025882298809109174153706339626450005908428456226551941838168074331527913534817745321469167246007014538572292256084915688960900068391958392077068485455993514961701480858639654936648349583570824852556419356611498493528242253710534570980455697219242920022717462415340389291846170475473292031866551657954709245694201252631734461050733432357052374907386272875143352917669314561 / 3742053650892133432367999773538322459225928823527575869347258443714776254479140165467924450143929014376701328043796892084250680644651644268919891406030558009514559848402392186697349032657288467726728117428485865736692545611669179323917560467904459270003565249200768855069969069462910188335948939853235385655600614050799627402904169955617680686939217306230732743306013312855692685442723231659949822010462888578091073832552856131420378840703853686445535243055462767679945780563431553986820134725467051353840270015201262955847832589866641019681571016376279703475133297517542073557917754709550486937454822846451632280550418910946262563991699255138480187856382366661603621981981643212128456085078016 : ℝ) : EReal)
  ∧ IdealRules.named_const.Statement Cert.KernelIdeal.κ "g5" .f32 0x3F475941#32 ((337413325564862239829610804928086933447240624148564312320119597592679839403487791267665388642378988857166811881886615610903735512386530606675784621900115357739141415528218198504857866110789077872469367254629204505150137588880451017301164305113323386844473495852085330340154288874389305164173754807611033561110780084819027640552143993625052734044496551648453411116199448793072157444460210849146970877733016141486801970954679177492885104144776642486135467458438925512340025454736897082062523929258652017781506753483735621598127157820627264606547049520878488333322867294030154779287575939778503295541836721550945990196769803301139613659860258224955069565810259728492587379568098367034380814279745525053775389467085605347823566489644677320545087024435711576643684472144527361 / 433300210274926779301235722995130529126851924312253566276831366547097655953268278873591999368453759375352459120642109169274240110620843517970102311224458427564046616227161115801662152359395451958893835480905010246703239443701925453743683726938789767940577524555724362397039358587448248740993955708382317083531851133758531532844694304737183093418571190053292997716413815714417740434254315670267335553209606545389900958653541702218767662872949109999460596999125719155768466778443229719919179735890978537026576050107500869340314188887101095263339865901080787145771915722368720844521851040375582291274824574444462419841916186875058374404329003250698574832235855871168399140082282900718430116575617097058691735266917705341386171618452673063526784039252631042036988932549246976 : ℝ) : EReal)
  ∧ IdealRules.named_const.Statement Cert.KernelIdeal.κ "g6" .f32 0x3F61E98D#32 ((44275933001788723009087189004406629456185558207332747867642712943151554828468488377533272736418712189278782616161047210929315370508778247758052201719962879660055865696879094863129463372703274884572552420946222213909778378366961041416140341416293514822078426833460711263743283496670773031329350821423162437403679977307148303735076944714526688715579927904995556456488103602634822359829952521232926542320071149931856266817933423703432269042442636032858580050472077676460779471534683163731067775864671927973547035866560192878885873974778802745285399431976029747635377890080788011101117707583578382474146313505569053749097953659852933537062042116297383553651152865866999804689119520382292842101610389821960529978895733465869012223134947820230783957872234774758446564646736680947103568594529505412600577259071717085423168472314596399008611595402721361921 / 50172736614702193476010968685027850385725009984025754056752351897843540836727791310381960450640875187526127726743042077209009344297825833306791007079122302230257203282437017967319010464223403411666028891130176909178099340433873790449696141722887908379766592991480784511678588901194608305160012368897433073139024954535368556203311682248348132318295329821383241290835531777849305693041041567149516614437907351900261582473684954345924071473123034130274134722954297790455372889453739340801985909201900859696589364708551884000815765385640619922267443118020140789791084738002770787452810244806002844531297159666640599398253866669734555265873912487067788750536758461265538846803163989987905143549491955559219046972218912619029970610724339486044100503651037465691797221960390994444244006704352888836634150488713713548412324761281525404083023713782816833536 : ℝ) : EReal)
  ∧ IdealRules.named_const.Statement Cert.KernelIdeal.κ "g7" .f32 0x3F707CE8#32 ((5457578116896234373030737050452871284503562312287257236323214801751651385767181166262045935084362047640066968508555065439951956828835114042263162471483867696507228786363824495157666995393161444816858802235986693092622421998449934383727349815275774824537430970136290747635382107000611400619314796941200044495037341337739958339767278633581981851381635814001234288720867746515647816205768561016152260853314839726158393455210831329203668369049204017829829231628961380152267663391523655643318692802859432466701375795096617133552303949487394943235439176500258458335258290073276466529400450470673837760073612535465583335327929430972640850246512426587841378155056826710368861273277181943917100220100509703205853547765206963727872532801586378083550670524229871882211418628608409306047472309356393387983960726059074560461678332168608035217511070201043245241749670516273992104254204325815142393764356487650957205914892256259918212890625 / 5809605995369958062859502533304574370686975176362895236661486152287203730997110225737336044533118407251326157754980517443990529594540047121662885672187032401032111639706440498844049850989051627200244765807041812394729680540024104827976584369381522292361208779044769892743225751738076979568811309579125511333093243519553784816306381580161860200247492568448150242515304449577187604136428738580990172551573934146255830366405915000869643732053218566832545291107903722831634138599586406690325959725187447169059540805012310209639011750748760017095360734234945757416272994856013308616958529958304677637019181594088528345061285863898271763457294883546638879554311615446446330199254382340016292057090751175533888161918987295591531536698701292267685465517437915790823154844634780260102891718032495396075041899485513811126977307478969074857043710716150121315922024556759241239013152919710956468406379442914941614357107914462567329693696 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v4) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v2) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v20) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_InProj_InProjIdeal : Prop :=
  IdealRules.named_const.Statement Cert.InProjIdeal.κ "scale" .f32 0x3DB504F3#32 (((Real.sqrt 128)⁻¹ : ℝ) : EReal)
  ∧ IdealRules.named_const.Statement Cert.InProjIdeal.κ "scale2" .f32 0x3E0293EE#32 (((Real.sqrt 128)⁻¹ * (Real.log 2)⁻¹ : ℝ) : EReal)

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)
      ∧ m' ((c.tc : Thread Cert.InProjRefIdeal.nD Cert.InProjRefIdeal.τ).loc Cert.InProjRefIdeal.main_arg6) = m ((c.tc : Thread Cert.InProjIdeal.nD Cert.InProjIdeal.τ).loc Cert.InProjIdeal.main_arg6)) →
    ∃ (v0 : (c : Dev Cert.InProjIdeal.nD) → Buf (Elt Ideal) ((c.tc : Thread Cert.InProjIdeal.nD Cert.InProjIdeal.τ).loc Cert.InProjIdeal.main_v28_0)) (v1 : (c : Dev Cert.InProjIdeal.nD) → Buf (Elt Ideal) ((c.tc : Thread Cert.InProjIdeal.nD Cert.InProjIdeal.τ).loc Cert.InProjIdeal.main_v28_1)) (v2 : (c : Dev Cert.InProjIdeal.nD) → Buf (Elt Ideal) ((c.tc : Thread Cert.InProjIdeal.nD Cert.InProjIdeal.τ).loc Cert.InProjIdeal.main_v28_2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v28_0) = v0 c
          ∧ r.2.mem ((c.tc : Thread Cert.InProjIdeal.nD Cert.InProjIdeal.τ).loc Cert.InProjIdeal.main_v28_1) = v1 c
          ∧ r.2.mem ((c.tc : Thread Cert.InProjIdeal.nD Cert.InProjIdeal.τ).loc Cert.InProjIdeal.main_v28_2) = v2 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v131) = v0 c
          ∧ r.2.mem ((c.tc : Thread Cert.InProjRefIdeal.nD Cert.InProjRefIdeal.τ).loc Cert.InProjRefIdeal.main_v133) = v1 c
          ∧ r.2.mem ((c.tc : Thread Cert.InProjRefIdeal.nD Cert.InProjRefIdeal.τ).loc Cert.InProjRefIdeal.main_v135) = v2 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5)
          ∧ r.2.mem ((c.tc : Thread Cert.InProjRefIdeal.nD Cert.InProjRefIdeal.τ).loc Cert.InProjRefIdeal.main_arg6) = m' ((c.tc : Thread Cert.InProjRefIdeal.nD Cert.InProjRefIdeal.τ).loc Cert.InProjRefIdeal.main_arg6))

def Claim : Prop :=
  ∃ (hKernel : Cert.Kernel.Facts) (hKernelIdeal : Cert.KernelIdeal.Facts) (hReferenceIdeal : Cert.ReferenceIdeal.Facts) (hOutProj : Cert.OutProj.Facts) (hOutProjIdeal : Cert.OutProjIdeal.Facts) (hOutProjRefIdeal : Cert.OutProjRefIdeal.Facts) (hFfn : Cert.Ffn.Facts) (hFfnIdeal : Cert.FfnIdeal.Facts) (hFfnRefIdeal : Cert.FfnRefIdeal.Facts) (hInProj : Cert.InProj.Facts) (hInProjIdeal : Cert.InProjIdeal.Facts) (hInProjRefIdeal : Cert.InProjRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Ffn (hFfn := hFfn)
    ∧ quiescent_FfnIdeal (hFfnIdeal := hFfnIdeal)
    ∧ quiescent_FfnRefIdeal (hFfnRefIdeal := hFfnRefIdeal)
    ∧ quiescent_InProj (hInProj := hInProj)
    ∧ quiescent_InProjIdeal (hInProjIdeal := hInProjIdeal)
    ∧ quiescent_InProjRefIdeal (hInProjRefIdeal := hInProjRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_OutProj_OutProjIdeal
    ∧ algebraic_OutProjIdeal_OutProjRefIdeal (hOutProjIdeal := hOutProjIdeal) (hOutProjRefIdeal := hOutProjRefIdeal)
    ∧ preserves_Ffn_FfnIdeal
    ∧ algebraic_FfnIdeal_FfnRefIdeal (hFfnIdeal := hFfnIdeal) (hFfnRefIdeal := hFfnRefIdeal)
    ∧ preserves_InProj_InProjIdeal
    ∧ algebraic_InProjIdeal_InProjRefIdeal (hInProjIdeal := hInProjIdeal) (hInProjRefIdeal := hInProjRefIdeal)
-- ==== Pre_finite.lean ====
abbrev S8192x7168 : Shape := ⟨2, ![8192, 7168]⟩
abbrev S1x1024 : Shape := ⟨2, ![1, 1024]⟩
abbrev S8192x3072 : Shape := ⟨2, ![8192, 3072]⟩
abbrev S_ : Shape := ⟨0, ![]⟩

class Facts : Prop where
  slices_S8192x7168_S8192x3072_0_0 : S8192x7168.Slices ![0, 0] S8192x3072
  bitsLt_bf16_f32 : FTy.bits .bf16 < FTy.bits .f32
  bcast_S_S8192x3072 : S_.BroadcastsInDim S8192x3072 (![] : Fin 0 → Fin S8192x3072.rank)
  reducesTo_S8192x3072_S_d0_1 : S8192x3072.ReducesTo [0, 1] S_
  h_S_ : 0 < S_.numel

variable [Facts]

def fn {F : FTy → Type} [FloatOps F] (main_arg0 : FVec F S8192x7168 .bf16) (main_arg1 : FVec F S1x1024 .f32) : IVec S_ 1 :=
  let main_v0 : FVec F S8192x3072 .bf16 := (extractStridedSlice S8192x3072 ![0, 0] · slices_S8192x7168_S8192x3072_0_0) main_arg0
  let main_v1 : FVec F S8192x3072 .f32 := (extf .f32 · bitsLt_bf16_f32) main_v0
  let main_v2 : FVec F S8192x3072 .f32 := Host.absf main_v1
  let main_cst : FVec F S_ .f32 := constant S_ .f32 0x7F800000#32
  let main_v3 : FVec F S8192x3072 .f32 := broadcastInDim S8192x3072 ![] bcast_S_S8192x3072 main_cst
  let main_v4 : IVec S8192x3072 1 := cmpf .olt main_v2 main_v3
  let main_c : IVec S_ 1 := constantI S_ 1 1#1
  let main_v5 : IVec S_ 1 := (fun x v => Host.reduce IntOp.andi x v reducesTo_S8192x3072_S_d0_1 h_S_) main_v4 main_c
  main_v5
-- ==== Kernel.lean ====
abbrev S8192x7168 : Shape := ⟨2, ![8192, 7168]⟩
abbrev S1x1024 : Shape := ⟨2, ![1, 1024]⟩
abbrev S1024 : Shape := ⟨1, ![1024]⟩
abbrev S8 : Shape := ⟨1, ![8]⟩
abbrev S_ : Shape := ⟨0, ![]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S8x1x1 : Shape := ⟨3, ![8, 1, 1]⟩
abbrev S1x256x256 : Shape := ⟨3, ![1, 256, 256]⟩
abbrev S8x256x256 : Shape := ⟨3, ![8, 256, 256]⟩
abbrev S1x8 : Shape := ⟨2, ![1, 8]⟩
abbrev S256x8 : Shape := ⟨2, ![256, 8]⟩
abbrev S256x8x128 : Shape := ⟨3, ![256, 8, 128]⟩
abbrev S256x1024 : Shape := ⟨2, ![256, 1024]⟩
abbrev S8192x1024 : Shape := ⟨2, ![8192, 1024]⟩
abbrev S1024x1024 : Shape := ⟨2, ![1024, 1024]⟩
abbrev S8x128x128 : Shape := ⟨3, ![8, 128, 128]⟩
abbrev S1x128x128 : Shape := ⟨3, ![1, 128, 128]⟩
abbrev S128x128 : Shape := ⟨2, ![128, 128]⟩
abbrev S256x128 : Shape := ⟨2, ![256, 128]⟩
abbrev S1x128 : Shape := ⟨2, ![1, 128]⟩

abbrev nBuf : Space → Nat
  | .hbm => 79
  | .vmem => 15
  | .smem => 0
  | _ => 0

abbrev bufTy : (tb : Table) → Fin (tcTables nBuf tb) → BufTy
  | .hbm, ⟨0, _⟩ => ⟨S8192x7168, .bf16⟩
  | .hbm, ⟨1, _⟩ => ⟨S1x1024, .f32⟩
  | .hbm, ⟨2, _⟩ => ⟨S1024, .f32⟩
  | .hbm, ⟨3, _⟩ => ⟨S1x1024, .f32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S8, .f32⟩
  | .hbm, ⟨13, _⟩ => ⟨S8, .f32⟩
  | .hbm, ⟨14, _⟩ => ⟨S256, .f32⟩
  | .hbm, ⟨15, _⟩ => ⟨S256x1, .f32⟩
  | .hbm, ⟨16, _⟩ => ⟨S1x256, .f32⟩
  | .hbm, ⟨17, _⟩ => ⟨S256x256, .f32⟩
  | .hbm, ⟨18, _⟩ => ⟨S256x256, .f32⟩
  | .hbm, ⟨19, _⟩ => ⟨S256x256, .f32⟩
  | .hbm, ⟨20, _⟩ => ⟨S256x256, .f32⟩
  | .hbm, ⟨21, _⟩ => ⟨S256, .i32⟩
  | .hbm, ⟨22, _⟩ => ⟨S_, .i32⟩
  | .hbm, ⟨23, _⟩ => ⟨S_, .i32⟩
  | .hbm, ⟨24, _⟩ => ⟨S256, .i32⟩
  | .hbm, ⟨25, _⟩ => ⟨S256, .i32⟩
  | .hbm, ⟨26, _⟩ => ⟨S256, .i32⟩
  | .hbm, ⟨27, _⟩ => ⟨S_, .i32⟩
  | .hbm, ⟨28, _⟩ => ⟨S256, .i32⟩
  | .hbm, ⟨29, _⟩ => ⟨S256, .i1⟩
  | .hbm, ⟨30, _⟩ => ⟨S256, .i32⟩
  | .hbm, ⟨31, _⟩ => ⟨S256, .i32⟩
  | .hbm, ⟨32, _⟩ => ⟨S_, .i32⟩
  | .hbm, ⟨33, _⟩ => ⟨S256, .i32⟩
  | .hbm, ⟨34, _⟩ => ⟨S256, .i1⟩
  | .hbm, ⟨35, _⟩ => ⟨S256, .i1⟩
  | .hbm, ⟨36, _⟩ => ⟨S_, .i32⟩
  | .hbm, ⟨37, _⟩ => ⟨S256, .i32⟩
  | .hbm, ⟨38, _⟩ => ⟨S256, .i32⟩
  | .hbm, ⟨39, _⟩ => ⟨S256, .i32⟩
  | .hbm, ⟨40, _⟩ => ⟨S1x256, .i32⟩
  | .hbm, ⟨41, _⟩ => ⟨S256x1, .i32⟩
  | .hbm, ⟨42, _⟩ => ⟨S256x256, .i32⟩
  | .hbm, ⟨43, _⟩ => ⟨S256x256, .i32⟩
  | .hbm, ⟨44, _⟩ => ⟨S256x256, .i1⟩
  | .hbm, ⟨45, _⟩ => ⟨S8x1x1, .f32⟩
  | .hbm, ⟨46, _⟩ => ⟨S1x256x256, .f32⟩
  | .hbm, ⟨47, _⟩ => ⟨S8x256x256, .f32⟩
  | .hbm, ⟨48, _⟩ => ⟨S8x256x256, .f32⟩
  | .hbm, ⟨49, _⟩ => ⟨S8x256x256, .f32⟩
  | .hbm, ⟨50, _⟩ => ⟨S8x256x256, .f32⟩
  | .hbm, ⟨51, _⟩ => ⟨S_, .f32⟩
  | .hbm, ⟨52, _⟩ => ⟨S_, .f32⟩
  | .hbm, ⟨53, _⟩ => ⟨S8x256x256, .i1⟩
  | .hbm, ⟨54, _⟩ => ⟨S8x256x256, .f32⟩
  | .hbm, ⟨55, _⟩ => ⟨S8x256x256, .f32⟩
  | .hbm, ⟨56, _⟩ => ⟨S1x8, .f32⟩
  | .hbm, ⟨57, _⟩ => ⟨S_, .f32⟩
  | .hbm, ⟨58, _⟩ => ⟨S256, .f32⟩
  | .hbm, ⟨59, _⟩ => ⟨S256, .f32⟩
  | .hbm, ⟨60, _⟩ => ⟨S256x1, .f32⟩
  | .hbm, ⟨61, _⟩ => ⟨S256x8, .f32⟩
  | .hbm, ⟨62, _⟩ => ⟨S256x8, .f32⟩
  | .hbm, ⟨63, _⟩ => ⟨S256x8, .f32⟩
  | .hbm, ⟨64, _⟩ => ⟨S256x8, .f32⟩
  | .hbm, ⟨65, _⟩ => ⟨S1x8, .f32⟩
  | .hbm, ⟨66, _⟩ => ⟨S_, .f32⟩
  | .hbm, ⟨67, _⟩ => ⟨S256, .f32⟩
  | .hbm, ⟨68, _⟩ => ⟨S256, .f32⟩
  | .hbm, ⟨69, _⟩ => ⟨S256x1, .f32⟩
  | .hbm, ⟨70, _⟩ => ⟨S256x8, .f32⟩
  | .hbm, ⟨71, _⟩ => ⟨S256x8, .f32⟩
  | .hbm, ⟨72, _⟩ => ⟨S256x8, .f32⟩
  | .hbm, ⟨73, _⟩ => ⟨S256x8, .f32⟩
  | .hbm, ⟨74, _⟩ => ⟨S256x8x128, .f32⟩
  | .hbm, ⟨75, _⟩ => ⟨S256x1024, .f32⟩
  | .hbm, ⟨76, _⟩ => ⟨S256x8x128, .f32⟩
  | .hbm, ⟨77, _⟩ => ⟨S256x1024, .f32⟩
  | .hbm, ⟨78, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S8x256x256, .f32⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | .local _ .vmem, ⟨12, _⟩ => ⟨S1024x1024, .bf16⟩
  | .local _ .vmem, ⟨13, _⟩ => ⟨S1024x1024, .bf16⟩
  | .local _ .vmem, ⟨14, _⟩ => ⟨S8x128x128, .f32⟩
  | _, _ => ⟨S8192x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_c : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_c : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_0 : Ref sig .tc := ⟨.hbm, 36, rfl⟩
abbrev main_call0_v12 : Ref sig .tc := ⟨.hbm, 37, rfl⟩
abbrev main_call0_v13 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_1 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v30 : Ref sig .tc := ⟨.hbm, 55, rfl⟩
abbrev main_v31 : Ref sig .tc := ⟨.hbm, 56, rfl⟩
abbrev main_cst_2 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_3 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "g0" => some ((6146015080813575034695417713226912903305888181886472031037824629831672928949925977371885924422256558280598640253784375251182367178077275943508811277617726037926828835493962089938703670916216150637232924767423218594179651908716059369457431352364368667582308905998928857404131059860187300660764250399851094923206841232876192030133070875041117904520293983055025851039902553125047623681 / 20815864389328798163850480654728171077230524494533409610638224700807216119346720596024478883464648369684843227908562015582767132496646929816279813211354641525848259018778440691546366699323167100945918841095379622423387354295096957733925002768876520583464697770622321657076833170056511209332449663781837603694136444406281042053396870977465916057756101739472373801429441421111406337458176 : ℝ) : EReal)
  | "g1" => some ((42774078302235318565319257509240389102448610944058038806438187308967998022705219385729663158638449482363242547246423463242593270189466810827507253377583114893638375653286835591007069102165292454913397853719673918607538604174150929255316756471434149954438683890468730174719505936020561911515555997155458494501519964452840485792481596827492989182299408582213918538682711594745086139424161235245664305277724872062197080286979918058563320302114990397887505300439041 / 2410312426921032588580116606028314112912093247945688951359675039065257391591803200669085024107346049663448766280888004787862416978794958324969612987890774651455213339381625224770782077917681499676845543137387820057597345857904599109461387122099507964997815641342300677629473355281617428411794163967785870370368969109221591943054232011562758450080579587850900993714892283476646631181515063804873375182260506246992837898705971012525843324401232986857004760339316736 : ℝ) : EReal)
  | "g2" => some ((37475942568369757962947522235530371133981530150116838269147324413047700895014398970446404169811997688419833959989077757701150649868243230123056568953964412798172396287429646722188387330264786795375818576214031616869032274669030355559348596733438707526107308633142545065787965914180851284280383384025423970000476770692381976054937465989431021902621277854218705005366130766187721539711495327024166368641272006952024074184121303316623563671196861028284711972009680015975871738940145523351472588749523046764641137000009779131884491317421506561 / 279095111627852376407822673918065072905887935345660252615989519488029661278604994789701101367875859521849524793382568057369148405837577299984720398976429790087982805274893437406788716103454867635208144157749912668657006085226160261808841484862703257771979713923863820038729637520989894984676774385364934677289947762340313157123529922421738738162392233756507666339799675257002539356619747080176786496732679854783185583233878234270370065954615221443190595445898747930123678952192875629172092437548194134594886873249778512829119416327938768896 : ℝ) : EReal)
  | "g3" => some ((11865504027970838771731346061683101436994979092949631599037079718981644706917580014911102414175085528643666188591370983920968194011711659169451226844120009995840891480759624977868736986513250783427504228510443452927050635948750086027473241612026344113952918539841083265621530105483498237021333267100718263868013566694893934279056051614332115121424258551337630287851288624870009988393213915090641049449897944231399544068578059227753373776746392142852101691703865017730668871755067274316504625716657064558790363574959526408194231415564059175410672318668947295267860607377447532996550538797464469098486006259918212890625 / 32317006071311007300714876688669951960444102669715484032130345427524655138867890893197201411522913463688717960921898019494119559150490921095088152386448283120630877367300996091750197750389652106796057638384067568276792218642619756161838094338476170470581645852036305042887575891541065808607552399123930385521914333389668342420684974786564569494856176035326322058077805659331026192708460314150258592864177116725943603718461857357598351152301645904403697613233287231227125684710820209725157101726931323469678542580656697935045997268352998638215525166389437335543602135433229604645318478604952148193555853611059596230656 : ℝ) : EReal)
  | "g4" => some ((2268560858212437164610433925711934373410582837965183998424115932072889031456775415934332958631165982217084171365658533939505628934401906064660409151362039483958284679840648367042721120317582229425251279030418832818292987838711392170461436941262761909390722105699485266572005223949970251724447769284689701216507438358815813025882298809109174153706339626450005908428456226551941838168074331527913534817745321469167246007014538572292256084915688960900068391958392077068485455993514961701480858639654936648349583570824852556419356611498493528242253710534570980455697219242920022717462415340389291846170475473292031866551657954709245694201252631734461050733432357052374907386272875143352917669314561 / 3742053650892133432367999773538322459225928823527575869347258443714776254479140165467924450143929014376701328043796892084250680644651644268919891406030558009514559848402392186697349032657288467726728117428485865736692545611669179323917560467904459270003565249200768855069969069462910188335948939853235385655600614050799627402904169955617680686939217306230732743306013312855692685442723231659949822010462888578091073832552856131420378840703853686445535243055462767679945780563431553986820134725467051353840270015201262955847832589866641019681571016376279703475133297517542073557917754709550486937454822846451632280550418910946262563991699255138480187856382366661603621981981643212128456085078016 : ℝ) : EReal)
  | "g5" => some ((337413325564862239829610804928086933447240624148564312320119597592679839403487791267665388642378988857166811881886615610903735512386530606675784621900115357739141415528218198504857866110789077872469367254629204505150137588880451017301164305113323386844473495852085330340154288874389305164173754807611033561110780084819027640552143993625052734044496551648453411116199448793072157444460210849146970877733016141486801970954679177492885104144776642486135467458438925512340025454736897082062523929258652017781506753483735621598127157820627264606547049520878488333322867294030154779287575939778503295541836721550945990196769803301139613659860258224955069565810259728492587379568098367034380814279745525053775389467085605347823566489644677320545087024435711576643684472144527361 / 433300210274926779301235722995130529126851924312253566276831366547097655953268278873591999368453759375352459120642109169274240110620843517970102311224458427564046616227161115801662152359395451958893835480905010246703239443701925453743683726938789767940577524555724362397039358587448248740993955708382317083531851133758531532844694304737183093418571190053292997716413815714417740434254315670267335553209606545389900958653541702218767662872949109999460596999125719155768466778443229719919179735890978537026576050107500869340314188887101095263339865901080787145771915722368720844521851040375582291274824574444462419841916186875058374404329003250698574832235855871168399140082282900718430116575617097058691735266917705341386171618452673063526784039252631042036988932549246976 : ℝ) : EReal)
  | "g6" => some ((44275933001788723009087189004406629456185558207332747867642712943151554828468488377533272736418712189278782616161047210929315370508778247758052201719962879660055865696879094863129463372703274884572552420946222213909778378366961041416140341416293514822078426833460711263743283496670773031329350821423162437403679977307148303735076944714526688715579927904995556456488103602634822359829952521232926542320071149931856266817933423703432269042442636032858580050472077676460779471534683163731067775864671927973547035866560192878885873974778802745285399431976029747635377890080788011101117707583578382474146313505569053749097953659852933537062042116297383553651152865866999804689119520382292842101610389821960529978895733465869012223134947820230783957872234774758446564646736680947103568594529505412600577259071717085423168472314596399008611595402721361921 / 50172736614702193476010968685027850385725009984025754056752351897843540836727791310381960450640875187526127726743042077209009344297825833306791007079122302230257203282437017967319010464223403411666028891130176909178099340433873790449696141722887908379766592991480784511678588901194608305160012368897433073139024954535368556203311682248348132318295329821383241290835531777849305693041041567149516614437907351900261582473684954345924071473123034130274134722954297790455372889453739340801985909201900859696589364708551884000815765385640619922267443118020140789791084738002770787452810244806002844531297159666640599398253866669734555265873912487067788750536758461265538846803163989987905143549491955559219046972218912619029970610724339486044100503651037465691797221960390994444244006704352888836634150488713713548412324761281525404083023713782816833536 : ℝ) : EReal)
  | "g7" => some ((5457578116896234373030737050452871284503562312287257236323214801751651385767181166262045935084362047640066968508555065439951956828835114042263162471483867696507228786363824495157666995393161444816858802235986693092622421998449934383727349815275774824537430970136290747635382107000611400619314796941200044495037341337739958339767278633581981851381635814001234288720867746515647816205768561016152260853314839726158393455210831329203668369049204017829829231628961380152267663391523655643318692802859432466701375795096617133552303949487394943235439176500258458335258290073276466529400450470673837760073612535465583335327929430972640850246512426587841378155056826710368861273277181943917100220100509703205853547765206963727872532801586378083550670524229871882211418628608409306047472309356393387983960726059074560461678332168608035217511070201043245241749670516273992104254204325815142393764356487650957205914892256259918212890625 / 5809605995369958062859502533304574370686975176362895236661486152287203730997110225737336044533118407251326157754980517443990529594540047121662885672187032401032111639706440498844049850989051627200244765807041812394729680540024104827976584369381522292361208779044769892743225751738076979568811309579125511333093243519553784816306381580161860200247492568448150242515304449577187604136428738580990172551573934146255830366405915000869643732053218566832545291107903722831634138599586406690325959725187447169059540805012310209639011750748760017095360734234945757416272994856013308616958529958304677637019181594088528345061285863898271763457294883546638879554311615446446330199254382340016292057090751175533888161918987295591531536698701292267685465517437915790823154844634780260102891718032495396075041899485513811126977307478969074857043710716150121315922024556759241239013152919710956468406379442914941614357107914462567329693696 : ℝ) : EReal)
  | _ => none
-- ==== ReferenceIdeal.lean ====
abbrev S8192x7168 : Shape := ⟨2, ![8192, 7168]⟩
abbrev S1x1024 : Shape := ⟨2, ![1, 1024]⟩
abbrev S8 : Shape := ⟨1, ![8]⟩
abbrev S_ : Shape := ⟨0, ![]⟩
abbrev S1x8 : Shape := ⟨2, ![1, 8]⟩
abbrev S64 : Shape := ⟨1, ![64]⟩
abbrev S64x1 : Shape := ⟨2, ![64, 1]⟩
abbrev S64x8 : Shape := ⟨2, ![64, 8]⟩
abbrev S8192x1024 : Shape := ⟨2, ![8192, 1024]⟩
abbrev S2x64x64x8x128 : Shape := ⟨5, ![2, 64, 64, 8, 128]⟩
abbrev S64x8x1 : Shape := ⟨3, ![64, 8, 1]⟩
abbrev S1x1x64x8x1 : Shape := ⟨5, ![1, 1, 64, 8, 1]⟩
abbrev S64x2x8x128x128 : Shape := ⟨5, ![64, 2, 8, 128, 128]⟩
abbrev S2x8x128x128 : Shape := ⟨4, ![2, 8, 128, 128]⟩
abbrev S1x2x8x128x128 : Shape := ⟨5, ![1, 2, 8, 128, 128]⟩
abbrev S8x1x1 : Shape := ⟨3, ![8, 1, 1]⟩
abbrev S1x8x1x1 : Shape := ⟨4, ![1, 8, 1, 1]⟩
abbrev S1x64 : Shape := ⟨2, ![1, 64]⟩
abbrev S64x64 : Shape := ⟨2, ![64, 64]⟩
abbrev S1x64x64 : Shape := ⟨3, ![1, 64, 64]⟩
abbrev S8x64x64 : Shape := ⟨3, ![8, 64, 64]⟩
abbrev S2x64x8x64x64 : Shape := ⟨5, ![2, 64, 8, 64, 64]⟩
abbrev S1x1x8x64x64 : Shape := ⟨5, ![1, 1, 8, 64, 64]⟩
abbrev S2x64x8x128x64 : Shape := ⟨5, ![2, 64, 8, 128, 64]⟩
abbrev S2x4096x8x128 : Shape := ⟨4, ![2, 4096, 8, 128]⟩
abbrev S2x4096x8 : Shape := ⟨3, ![2, 4096, 8]⟩
abbrev S2x4096x8x1 : Shape := ⟨4, ![2, 4096, 8, 1]⟩
abbrev S1024 : Shape := ⟨1, ![1024]⟩
abbrev S8x128 : Shape := ⟨2, ![8, 128]⟩
abbrev S1x1x8x128 : Shape := ⟨4, ![1, 1, 8, 128]⟩
abbrev S2x4096x1024 : Shape := ⟨3, ![2, 4096, 1024]⟩

abbrev nBuf : Space → Nat
  | .hbm => 176
  | .vmem => 0
  | .smem => 0
  | _ => 0

abbrev hbmTy0_0 (i : Nat) : BufTy := match i % 128 with
  | 0 => ⟨S8192x7168, .bf16⟩
  | 1 => ⟨S1x1024, .f32⟩
  | 2 => ⟨S8, .f32⟩
  | 3 => ⟨S_, .f32⟩
  | 4 => ⟨S8, .f32⟩
  | 5 => ⟨S8, .f32⟩
  | 6 => ⟨S8, .f32⟩
  | 7 => ⟨S_, .f32⟩
  | 8 => ⟨S8, .f32⟩
  | 9 => ⟨S8, .f32⟩
  | 10 => ⟨S8, .f32⟩
  | 11 => ⟨S8, .f32⟩
  | 12 => ⟨S1x8, .f32⟩
  | 13 => ⟨S64, .f32⟩
  | 14 => ⟨S_, .f32⟩
  | 15 => ⟨S64, .f32⟩
  | 16 => ⟨S64, .f32⟩
  | 17 => ⟨S64x1, .f32⟩
  | 18 => ⟨S64x8, .f32⟩
  | 19 => ⟨S64x8, .f32⟩
  | 20 => ⟨S64x8, .f32⟩
  | 21 => ⟨S64x8, .f32⟩
  | 22 => ⟨S8192x1024, .bf16⟩
  | 23 => ⟨S8192x1024, .f32⟩
  | 24 => ⟨S2x64x64x8x128, .f32⟩
  | 25 => ⟨S64x8x1, .f32⟩
  | 26 => ⟨S1x1x64x8x1, .f32⟩
  | 27 => ⟨S2x64x64x8x128, .f32⟩
  | 28 => ⟨S2x64x64x8x128, .f32⟩
  | 29 => ⟨S8192x1024, .bf16⟩
  | 30 => ⟨S8192x1024, .f32⟩
  | 31 => ⟨S2x64x64x8x128, .f32⟩
  | 32 => ⟨S64x2x8x128x128, .f32⟩
  | 33 => ⟨S_, .f32⟩
  | 34 => ⟨S2x8x128x128, .f32⟩
  | 35 => ⟨S_, .f32⟩
  | 36 => ⟨S64x2x8x128x128, .f32⟩
  | 37 => ⟨S_, .i32⟩
  | 38 => ⟨S64x2x8x128x128, .f32⟩
  | 39 => ⟨S_, .i32⟩
  | 40 => ⟨S2x8x128x128, .f32⟩
  | 41 => ⟨S64x2x8x128x128, .f32⟩
  | 42 => ⟨S_, .i32⟩
  | 43 => ⟨S_, .i1⟩
  | 44 => ⟨S_, .i32⟩
  | 45 => ⟨S_, .i32⟩
  | 46 => ⟨S_, .i32⟩
  | 47 => ⟨S_, .i32⟩
  | 48 => ⟨S1x2x8x128x128, .f32⟩
  | 49 => ⟨S2x8x128x128, .f32⟩
  | 50 => ⟨S8, .f32⟩
  | 51 => ⟨S_, .f32⟩
  | 52 => ⟨S8, .f32⟩
  | 53 => ⟨S8, .f32⟩
  | 54 => ⟨S8, .f32⟩
  | 55 => ⟨S_, .f32⟩
  | 56 => ⟨S8, .f32⟩
  | 57 => ⟨S8, .f32⟩
  | 58 => ⟨S8, .f32⟩
  | 59 => ⟨S8, .f32⟩
  | 60 => ⟨S_, .f32⟩
  | 61 => ⟨S8, .f32⟩
  | 62 => ⟨S8, .f32⟩
  | 63 => ⟨S8, .f32⟩
  | 64 => ⟨S8x1x1, .f32⟩
  | 65 => ⟨S1x8x1x1, .f32⟩
  | 66 => ⟨S2x8x128x128, .f32⟩
  | 67 => ⟨S2x8x128x128, .f32⟩
  | 68 => ⟨S2x8x128x128, .f32⟩
  | 69 => ⟨S1x2x8x128x128, .f32⟩
  | 70 => ⟨S_, .i32⟩
  | 71 => ⟨S_, .i32⟩
  | 72 => ⟨S_, .i32⟩
  | 73 => ⟨S_, .i32⟩
  | 74 => ⟨S64x2x8x128x128, .f32⟩
  | 75 => ⟨S_, .i32⟩
  | 76 => ⟨S_, .i32⟩
  | 77 => ⟨S64, .f32⟩
  | 78 => ⟨S8, .f32⟩
  | 79 => ⟨S_, .f32⟩
  | 80 => ⟨S8, .f32⟩
  | 81 => ⟨S8, .f32⟩
  | 82 => ⟨S8, .f32⟩
  | 83 => ⟨S_, .f32⟩
  | 84 => ⟨S8, .f32⟩
  | 85 => ⟨S8, .f32⟩
  | 86 => ⟨S8, .f32⟩
  | 87 => ⟨S8, .f32⟩
  | 88 => ⟨S8192x1024, .bf16⟩
  | 89 => ⟨S8192x1024, .f32⟩
  | 90 => ⟨S2x64x64x8x128, .f32⟩
  | 91 => ⟨S8192x1024, .bf16⟩
  | 92 => ⟨S8192x1024, .f32⟩
  | 93 => ⟨S2x64x64x8x128, .f32⟩
  | 94 => ⟨S8192x1024, .bf16⟩
  | 95 => ⟨S8192x1024, .f32⟩
  | 96 => ⟨S2x64x64x8x128, .f32⟩
  | 97 => ⟨S8x1x1, .f32⟩
  | 98 => ⟨S64x1, .f32⟩
  | 99 => ⟨S1x64, .f32⟩
  | 100 => ⟨S64x64, .f32⟩
  | 101 => ⟨S64x64, .f32⟩
  | 102 => ⟨S64x64, .f32⟩
  | 103 => ⟨S64x64, .f32⟩
  | 104 => ⟨S1x64x64, .f32⟩
  | 105 => ⟨S8x64x64, .f32⟩
  | 106 => ⟨S8x64x64, .f32⟩
  | 107 => ⟨S8x64x64, .f32⟩
  | 108 => ⟨S8x64x64, .f32⟩
  | 109 => ⟨S2x64x8x64x64, .f32⟩
  | 110 => ⟨S1x1x8x64x64, .f32⟩
  | 111 => ⟨S2x64x8x64x64, .f32⟩
  | 112 => ⟨S2x64x8x64x64, .f32⟩
  | 113 => ⟨S2x64x8x128x64, .f32⟩
  | 114 => ⟨S2x64x64x8x128, .f32⟩
  | 115 => ⟨S1x8, .f32⟩
  | 116 => ⟨S_, .f32⟩
  | 117 => ⟨S64, .f32⟩
  | 118 => ⟨S64, .f32⟩
  | 119 => ⟨S64x1, .f32⟩
  | 120 => ⟨S64x8, .f32⟩
  | 121 => ⟨S64x8, .f32⟩
  | 122 => ⟨S64x8, .f32⟩
  | 123 => ⟨S64x8, .f32⟩
  | 124 => ⟨S64x8x1, .f32⟩
  | 125 => ⟨S1x1x64x8x1, .f32⟩
  | 126 => ⟨S2x64x64x8x128, .f32⟩
  | 127 => ⟨S2x64x64x8x128, .f32⟩
  | _ => ⟨S8192x7168, .bf16⟩

abbrev hbmTy0_1 (i : Nat) : BufTy := match i % 128 with
  | 0 => ⟨S2x64x8x128x64, .f32⟩
  | 1 => ⟨S2x64x64x8x128, .f32⟩
  | 2 => ⟨S2x64x64x8x128, .f32⟩
  | 3 => ⟨S2x4096x8x128, .f32⟩
  | 4 => ⟨S_, .f32⟩
  | 5 => ⟨S2x4096x8, .f32⟩
  | 6 => ⟨S2x4096x8x1, .f32⟩
  | 7 => ⟨S_, .f32⟩
  | 8 => ⟨S2x4096x8x1, .f32⟩
  | 9 => ⟨S2x4096x8x1, .f32⟩
  | 10 => ⟨S2x4096x8x128, .f32⟩
  | 11 => ⟨S2x4096x8x128, .f32⟩
  | 12 => ⟨S2x4096x8x128, .f32⟩
  | 13 => ⟨S_, .f32⟩
  | 14 => ⟨S2x4096x8, .f32⟩
  | 15 => ⟨S2x4096x8x1, .f32⟩
  | 16 => ⟨S_, .f32⟩
  | 17 => ⟨S2x4096x8x1, .f32⟩
  | 18 => ⟨S2x4096x8x1, .f32⟩
  | 19 => ⟨S2x4096x8x128, .f32⟩
  | 20 => ⟨S2x4096x8x128, .f32⟩
  | 21 => ⟨S_, .f32⟩
  | 22 => ⟨S2x4096x8x1, .f32⟩
  | 23 => ⟨S2x4096x8x1, .f32⟩
  | 24 => ⟨S2x4096x8x1, .f32⟩
  | 25 => ⟨S2x4096x8x128, .f32⟩
  | 26 => ⟨S2x4096x8x128, .f32⟩
  | 27 => ⟨S1024, .f32⟩
  | 28 => ⟨S8x128, .f32⟩
  | 29 => ⟨S1x1x8x128, .f32⟩
  | 30 => ⟨S2x4096x8x128, .f32⟩
  | 31 => ⟨S2x4096x8x128, .f32⟩
  | 32 => ⟨S8192x1024, .bf16⟩
  | 33 => ⟨S8192x1024, .f32⟩
  | 34 => ⟨S2x4096x1024, .f32⟩
  | 35 => ⟨S2x4096x1024, .f32⟩
  | 36 => ⟨S2x4096x1024, .f32⟩
  | 37 => ⟨S_, .f32⟩
  | 38 => ⟨S2x4096x1024, .f32⟩
  | 39 => ⟨S2x4096x1024, .f32⟩
  | 40 => ⟨S_, .f32⟩
  | 41 => ⟨S2x4096x1024, .f32⟩
  | 42 => ⟨S2x4096x1024, .f32⟩
  | 43 => ⟨S2x4096x1024, .f32⟩
  | 44 => ⟨S2x4096x1024, .f32⟩
  | 45 => ⟨S2x4096x1024, .f32⟩
  | 46 => ⟨S8192x1024, .f32⟩
  | 47 => ⟨S8192x1024, .bf16⟩
  | _ => ⟨S8192x7168, .bf16⟩

abbrev hbmTy (i : Nat) : BufTy := match i / 128 with
  | 0 => hbmTy0_0 i
  | 1 => hbmTy0_1 i
  | _ => ⟨S8192x7168, .bf16⟩

abbrev bufTy : (tb : Table) → Fin (tcTables nBuf tb) → BufTy
  | .hbm, ⟨i, _⟩ => hbmTy i
  | _, _ => ⟨S8192x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_cst_2 : Ref sig .tc := ⟨.hbm, 33, rfl⟩
abbrev main_v28 : Ref sig .tc := ⟨.hbm, 34, rfl⟩
abbrev main_cst_3 : Ref sig .tc := ⟨.hbm, 35, rfl⟩
abbrev main_v29 : Ref sig .tc := ⟨.hbm, 36, rfl⟩
abbrev main_c : Ref sig .tc := ⟨.hbm, 37, rfl⟩
abbrev main_v30_0 : Ref sig .tc := ⟨.hbm, 38, rfl⟩
abbrev main_v30_1 : Ref sig .tc := ⟨.hbm, 39, rfl⟩
abbrev main_v30_2 : Ref sig .tc := ⟨.hbm, 40, rfl⟩
abbrev main_v30_3 : Ref sig .tc := ⟨.hbm, 41, rfl⟩
abbrev main_while0c_c_15 : Ref sig .tc := ⟨.hbm, 42, rfl⟩
abbrev main_while0c_v114 : Ref sig .tc := ⟨.hbm, 43, rfl⟩
abbrev main_while0b_call0_c : Ref sig .tc := ⟨.hbm, 44, rfl⟩
abbrev main_while0b_call0_c_0 : Ref sig .tc := ⟨.hbm, 45, rfl⟩
abbrev main_while0b_call0_c_1 : Ref sig .tc := ⟨.hbm, 46, rfl⟩
abbrev main_while0b_call0_c_2 : Ref sig .tc := ⟨.hbm, 47, rfl⟩
abbrev main_while0b_call0_v0 : Ref sig .tc := ⟨.hbm, 48, rfl⟩
abbrev main_while0b_v114 : Ref sig .tc := ⟨.hbm, 49, rfl⟩
abbrev main_while0b_v115 : Ref sig .tc := ⟨.hbm, 50, rfl⟩
abbrev main_while0b_cst_15 : Ref sig .tc := ⟨.hbm, 51, rfl⟩
abbrev main_while0b_v116 : Ref sig .tc := ⟨.hbm, 52, rfl⟩
abbrev main_while0b_v117 : Ref sig .tc := ⟨.hbm, 53, rfl⟩
abbrev main_while0b_v118 : Ref sig .tc := ⟨.hbm, 54, rfl⟩
abbrev main_while0b_cst_16 : Ref sig .tc := ⟨.hbm, 55, rfl⟩
abbrev main_while0b_v119 : Ref sig .tc := ⟨.hbm, 56, rfl⟩
abbrev main_while0b_v120 : Ref sig .tc := ⟨.hbm, 57, rfl⟩
abbrev main_while0b_v121 : Ref sig .tc := ⟨.hbm, 58, rfl⟩
abbrev main_while0b_v122 : Ref sig .tc := ⟨.hbm, 59, rfl⟩
abbrev main_while0b_cst_17 : Ref sig .tc := ⟨.hbm, 60, rfl⟩
abbrev main_while0b_v123 : Ref sig .tc := ⟨.hbm, 61, rfl⟩
abbrev main_while0b_v124 : Ref sig .tc := ⟨.hbm, 62, rfl⟩
abbrev main_while0b_v125 : Ref sig .tc := ⟨.hbm, 63, rfl⟩
abbrev main_while0b_v126 : Ref sig .tc := ⟨.hbm, 64, rfl⟩
abbrev main_while0b_v127 : Ref sig .tc := ⟨.hbm, 65, rfl⟩
abbrev main_while0b_v128 : Ref sig .tc := ⟨.hbm, 66, rfl⟩
abbrev main_while0b_v129 : Ref sig .tc := ⟨.hbm, 67, rfl⟩
abbrev main_while0b_v130 : Ref sig .tc := ⟨.hbm, 68, rfl⟩
abbrev main_while0b_call1_v0 : Ref sig .tc := ⟨.hbm, 69, rfl⟩
abbrev main_while0b_call1_c : Ref sig .tc := ⟨.hbm, 70, rfl⟩
abbrev main_while0b_call1_c_0 : Ref sig .tc := ⟨.hbm, 71, rfl⟩
abbrev main_while0b_call1_c_1 : Ref sig .tc := ⟨.hbm, 72, rfl⟩
abbrev main_while0b_call1_c_2 : Ref sig .tc := ⟨.hbm, 73, rfl⟩
abbrev main_while0b_v131 : Ref sig .tc := ⟨.hbm, 74, rfl⟩
abbrev main_while0b_c_18 : Ref sig .tc := ⟨.hbm, 75, rfl⟩
abbrev main_while0b_v132 : Ref sig .tc := ⟨.hbm, 76, rfl⟩
abbrev main_v31 : Ref sig .tc := ⟨.hbm, 77, rfl⟩
abbrev main_v32 : Ref sig .tc := ⟨.hbm, 78, rfl⟩
abbrev main_cst_4 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_cst_5 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_cst_6 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_cst_7 : Ref sig .tc := ⟨.hbm, 132, rfl⟩
abbrev main_v83 : Ref sig .tc := ⟨.hbm, 133, rfl⟩
abbrev main_v84 : Ref sig .tc := ⟨.hbm, 134, rfl⟩
abbrev main_cst_8 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_cst_9 : Ref sig .tc := ⟨.hbm, 141, rfl⟩
abbrev main_v90 : Ref sig .tc := ⟨.hbm, 142, rfl⟩
abbrev main_v91 : Ref sig .tc := ⟨.hbm, 143, rfl⟩
abbrev main_cst_10 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_cst_11 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_call2_v0 : Ref sig .tc := ⟨.hbm, 163, rfl⟩
abbrev main_call2_v1 : Ref sig .tc := ⟨.hbm, 164, rfl⟩
abbrev main_call2_cst : Ref sig .tc := ⟨.hbm, 165, rfl⟩
abbrev main_call2_v2 : Ref sig .tc := ⟨.hbm, 166, rfl⟩
abbrev main_call2_v3 : Ref sig .tc := ⟨.hbm, 167, rfl⟩
abbrev main_call2_cst_0 : Ref sig .tc := ⟨.hbm, 168, rfl⟩
abbrev main_call2_v4 : Ref sig .tc := ⟨.hbm, 169, rfl⟩
abbrev main_call2_v5 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩

abbrev nD : Nat := 1
abbrev τ : Topo := Topo.v7x

variable {F : FTy → Type} [FloatOps F]

abbrev main_while0_count : Scf.Loop 32 := ⟨0#32, 64#32, 1#32⟩
-- ==== OutProj.lean ====
abbrev S8192x1024 : Shape := ⟨2, ![8192, 1024]⟩
abbrev S2048x2048 : Shape := ⟨2, ![2048, 2048]⟩
abbrev S8192x2048 : Shape := ⟨2, ![8192, 2048]⟩
abbrev S512x1024 : Shape := ⟨2, ![512, 1024]⟩
abbrev S1024x2048 : Shape := ⟨2, ![1024, 2048]⟩
abbrev S512x2048 : Shape := ⟨2, ![512, 2048]⟩

abbrev nBuf : Space → Nat
  | .hbm => 5
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2048x2048, .bf16⟩
  | .hbm, ⟨3, _⟩ => ⟨S8192x2048, .f32⟩
  | .hbm, ⟨4, _⟩ => ⟨S8192x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x2048, .bf16⟩
  | .local _ .vmem, ⟨5, _⟩ => ⟨S1024x2048, .bf16⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutProjRefIdeal.lean ====
abbrev S8192x1024 : Shape := ⟨2, ![8192, 1024]⟩
abbrev S2048x2048 : Shape := ⟨2, ![2048, 2048]⟩
abbrev S8192x2048 : Shape := ⟨2, ![8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2048x2048, .bf16⟩
  | .hbm, ⟨3, _⟩ => ⟨S8192x2048, .f32⟩
  | .hbm, ⟨4, _⟩ => ⟨S8192x2048, .bf16⟩
  | .hbm, ⟨5, _⟩ => ⟨S8192x2048, .f32⟩
  | .hbm, ⟨6, _⟩ => ⟨S2048x2048, .f32⟩
  | .hbm, ⟨7, _⟩ => ⟨S8192x2048, .f32⟩
  | .hbm, ⟨8, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Ffn.lean ====
abbrev S8192x2048 : Shape := ⟨2, ![8192, 2048]⟩
abbrev S1x2048 : Shape := ⟨2, ![1, 2048]⟩
abbrev S2048x8192 : Shape := ⟨2, ![2048, 8192]⟩
abbrev S2048 : Shape := ⟨1, ![2048]⟩
abbrev S1024x2048 : Shape := ⟨2, ![1024, 2048]⟩
abbrev S2048x1024 : Shape := ⟨2, ![2048, 1024]⟩
abbrev S1024x128 : Shape := ⟨2, ![1024, 128]⟩
abbrev S1024 : Shape := ⟨1, ![1024]⟩
abbrev S1024x1 : Shape := ⟨2, ![1024, 1]⟩
abbrev S1024x1024 : Shape := ⟨2, ![1024, 1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x8192, .bf16⟩
  | .hbm, ⟨3, _⟩ => ⟨S8192x2048, .bf16⟩
  | .hbm, ⟨4, _⟩ => ⟨S2048, .f32⟩
  | .hbm, ⟨5, _⟩ => ⟨S1x2048, .f32⟩
  | .hbm, ⟨6, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .f32⟩
  | .local _ .vmem, ⟨8, _⟩ => ⟨S1024x2048, .f32⟩
  | .local _ .vmem, ⟨9, _⟩ => ⟨S1024x2048, .bf16⟩
  | .local _ .vmem, ⟨10, _⟩ => ⟨S1024x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== FfnRefIdeal.lean ====
abbrev S8192x2048 : Shape := ⟨2, ![8192, 2048]⟩
abbrev S1x2048 : Shape := ⟨2, ![1, 2048]⟩
abbrev S2048x8192 : Shape := ⟨2, ![2048, 8192]⟩
abbrev S2048 : Shape := ⟨1, ![2048]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩

abbrev nBuf : Space → Nat
  | .hbm => 30
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x8192, .bf16⟩
  | .hbm, ⟨3, _⟩ => ⟨S8192x2048, .bf16⟩
  | .hbm, ⟨4, _⟩ => ⟨S2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S2048x8192, .f32⟩
  | .hbm, ⟨22, _⟩ => ⟨S8192x8192, .f32⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S8192x2048, .f32⟩
  | .hbm, ⟨28, _⟩ => ⟨S8192x2048, .f32⟩
  | .hbm, ⟨29, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_cst : Ref sig .tc := ⟨.hbm, 23, rfl⟩
abbrev main_call0_v0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== InProj.lean ====
abbrev S2x4096x2048 : Shape := ⟨3, ![2, 4096, 2048]⟩
abbrev S1x2048 : Shape := ⟨2, ![1, 2048]⟩
abbrev S1x2048x7168 : Shape := ⟨3, ![1, 2048, 7168]⟩
abbrev S1x128 : Shape := ⟨2, ![1, 128]⟩
abbrev S1x2048x8192 : Shape := ⟨3, ![1, 2048, 8192]⟩
abbrev S1x8192x2048 : Shape := ⟨3, ![1, 8192, 2048]⟩
abbrev S64 : Shape := ⟨1, ![64]⟩
abbrev S_ : Shape := ⟨0, ![]⟩
abbrev S4096 : Shape := ⟨1, ![4096]⟩
abbrev S4096x1 : Shape := ⟨2, ![4096, 1]⟩
abbrev S1x64 : Shape := ⟨2, ![1, 64]⟩
abbrev S4096x64 : Shape := ⟨2, ![4096, 64]⟩
abbrev S4096x128 : Shape := ⟨2, ![4096, 128]⟩
abbrev S8192x2048 : Shape := ⟨2, ![8192, 2048]⟩
abbrev S2048 : Shape := ⟨1, ![2048]⟩
abbrev S2048x7168 : Shape := ⟨2, ![2048, 7168]⟩
abbrev S128 : Shape := ⟨1, ![128]⟩
abbrev S2048x8192 : Shape := ⟨2, ![2048, 8192]⟩
abbrev S8192x7168 : Shape := ⟨2, ![8192, 7168]⟩
abbrev S1024x2048 : Shape := ⟨2, ![1024, 2048]⟩
abbrev S2048x1792 : Shape := ⟨2, ![2048, 1792]⟩
abbrev S1024x128 : Shape := ⟨2, ![1024, 128]⟩
abbrev S64x8192 : Shape := ⟨2, ![64, 8192]⟩
abbrev S256x2048 : Shape := ⟨2, ![256, 2048]⟩
abbrev S1024x1792 : Shape := ⟨2, ![1024, 1792]⟩
abbrev S512x2048 : Shape := ⟨2, ![512, 2048]⟩
abbrev S512 : Shape := ⟨1, ![512]⟩
abbrev S512x1 : Shape := ⟨2, ![512, 1]⟩
abbrev S512x128 : Shape := ⟨2, ![512, 128]⟩
abbrev S32x8192 : Shape := ⟨2, ![32, 8192]⟩
abbrev S128x2048 : Shape := ⟨2, ![128, 2048]⟩
abbrev S2048x256 : Shape := ⟨2, ![2048, 256]⟩
abbrev S512x256 : Shape := ⟨2, ![512, 256]⟩
abbrev S1024x256 : Shape := ⟨2, ![1024, 256]⟩
abbrev S1024 : Shape := ⟨1, ![1024]⟩
abbrev S1024x1 : Shape := ⟨2, ![1024, 1]⟩

abbrev nBuf : Space → Nat
  | .hbm => 40
  | .vmem => 23
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S1x2048x7168, .f32⟩
  | .hbm, ⟨3, _⟩ => ⟨S1x128, .f32⟩
  | .hbm, ⟨4, _⟩ => ⟨S1x128, .f32⟩
  | .hbm, ⟨5, _⟩ => ⟨S1x2048x8192, .f32⟩
  | .hbm, ⟨6, _⟩ => ⟨S1x8192x2048, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S4096, .f32⟩
  | .hbm, ⟨16, _⟩ => ⟨S4096x1, .f32⟩
  | .hbm, ⟨17, _⟩ => ⟨S1x64, .f32⟩
  | .hbm, ⟨18, _⟩ => ⟨S4096x64, .f32⟩
  | .hbm, ⟨19, _⟩ => ⟨S4096x64, .f32⟩
  | .hbm, ⟨20, _⟩ => ⟨S4096x64, .f32⟩
  | .hbm, ⟨21, _⟩ => ⟨S4096x64, .f32⟩
  | .hbm, ⟨22, _⟩ => ⟨S4096x64, .f32⟩
  | .hbm, ⟨23, _⟩ => ⟨S4096x128, .f32⟩
  | .hbm, ⟨24, _⟩ => ⟨S4096x64, .f32⟩
  | .hbm, ⟨25, _⟩ => ⟨S4096x128, .f32⟩
  | .hbm, ⟨26, _⟩ => ⟨S8192x2048, .f32⟩
  | .hbm, ⟨27, _⟩ => ⟨S2048, .f32⟩
  | .hbm, ⟨28, _⟩ => ⟨S1x2048, .f32⟩
  | .hbm, ⟨29, _⟩ => ⟨S2048x7168, .f32⟩
  | .hbm, ⟨30, _⟩ => ⟨S2048x7168, .bf16⟩
  | .hbm, ⟨31, _⟩ => ⟨S128, .f32⟩
  | .hbm, ⟨32, _⟩ => ⟨S1x128, .f32⟩
  | .hbm, ⟨33, _⟩ => ⟨S128, .f32⟩
  | .hbm, ⟨34, _⟩ => ⟨S1x128, .f32⟩
  | .hbm, ⟨35, _⟩ => ⟨S2048x8192, .f32⟩
  | .hbm, ⟨36, _⟩ => ⟨S8192x2048, .f32⟩
  | .hbm, ⟨37, _⟩ => ⟨S8192x7168, .bf16⟩
  | .hbm, ⟨38, _⟩ => ⟨S2048x8192, .bf16⟩
  | .hbm, ⟨39, _⟩ => ⟨S8192x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1792, .bf16⟩
  | .local _ .vmem, ⟨4, _⟩ => ⟨S2048x1792, .bf16⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1x128, .f32⟩
  | .local _ .vmem, ⟨10, _⟩ => ⟨S1x128, .f32⟩
  | .local _ .vmem, ⟨11, _⟩ => ⟨S64x8192, .f32⟩
  | .local _ .vmem, ⟨12, _⟩ => ⟨S64x8192, .f32⟩
  | .local _ .vmem, ⟨13, _⟩ => ⟨S256x2048, .f32⟩
  | .local _ .vmem, ⟨14, _⟩ => ⟨S256x2048, .f32⟩
  | .local _ .vmem, ⟨15, _⟩ => ⟨S1024x1792, .bf16⟩
  | .local _ .vmem, ⟨16, _⟩ => ⟨S1024x1792, .bf16⟩
  | .local _ .vmem, ⟨17, _⟩ => ⟨S64x8192, .bf16⟩
  | .local _ .vmem, ⟨18, _⟩ => ⟨S64x8192, .bf16⟩
  | .local _ .vmem, ⟨19, _⟩ => ⟨S256x2048, .bf16⟩
  | .local _ .vmem, ⟨20, _⟩ => ⟨S256x2048, .bf16⟩
  | .local _ .vmem, ⟨21, _⟩ => ⟨S1024x2048, .bf16⟩
  | .local _ .vmem, ⟨22, _⟩ => ⟨S1024x128, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28_0 : Ref sig .tc := ⟨.hbm, 37, rfl⟩
abbrev main_v28_1 : Ref sig .tc := ⟨.hbm, 38, rfl⟩
abbrev main_v28_2 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_4 : BitVec 32 := 0#32
  let c2_i32_5 : BitVec 32 := 2#32
  let v12 : BitVec 32 := Scalar.addi c0_i32_4 c2_i32_5
  let c1_i32_6 : BitVec 32 := 1#32
  ⟨c0_i32_4, v12, c1_i32_6⟩
def k0_mult1 (k0_t1 : Fin k0_t1_loop.trips) : BitVec 32 :=
  let c0_i32_4 : BitVec 32 := 0#32
  let c1_i32_6 : BitVec 32 := 1#32
  let arg16 : BitVec 32 := Scf.iv c0_i32_4 c1_i32_6 k0_t1
  let c512_i32 : BitVec 32 := 512#32
  let v13 : BitVec 32 := Scalar.muli arg16 c512_i32
  v13
def k0_off1 (k0_t1 : Fin k0_t1_loop.trips) : Fin 2 → Nat :=
  let c0_i32_4 : BitVec 32 := 0#32
  let c1_i32_6 : BitVec 32 := 1#32
  let arg16 : BitVec 32 := Scf.iv c0_i32_4 c1_i32_6 k0_t1
  let c512_i32 : BitVec 32 := 512#32
  let v13 : BitVec 32 := Scalar.muli arg16 c512_i32
  let v14 : BitVec 32 := v13
  let v15 : Index := Scalar.indexCast v14
  let c0 : Index := 0#32
  ![v15.toNat, 0]
def k0_off2 (k0_t1 : Fin k0_t1_loop.trips) : Fin 2 → Nat :=
  let c0_i32_4 : BitVec 32 := 0#32
  let c1_i32_6 : BitVec 32 := 1#32
  let arg16 : BitVec 32 := Scf.iv c0_i32_4 c1_i32_6 k0_t1
  let c512_i32 : BitVec 32 := 512#32
  let v13 : BitVec 32 := Scalar.muli arg16 c512_i32
  let v14 : BitVec 32 := v13
  let v28 : Index := Scalar.indexCast v14
  let c0_10 : Index := 0#32
  ![v28.toNat, 0]
def k0_mult2 (k0_t1 : Fin k0_t1_loop.trips) : BitVec 32 :=
  let c0_i32_4 : BitVec 32 := 0#32
  let c1_i32_6 : BitVec 32 := 1#32
  let arg16 : BitVec 32 := Scf.iv c0_i32_4 c1_i32_6 k0_t1
  let c32_i32 : BitVec 32 := 32#32
  let v41 : BitVec 32 := Scalar.muli arg16 c32_i32
  v41
def k0_off3 (k0_t1 : Fin k0_t1_loop.trips) : Fin 2 → Nat :=
  let c0_i32_4 : BitVec 32 := 0#32
  let c1_i32_6 : BitVec 32 := 1#32
  let arg16 : BitVec 32 := Scf.iv c0_i32_4 c1_i32_6 k0_t1
  let c32_i32 : BitVec 32 := 32#32
  let v41 : BitVec 32 := Scalar.muli arg16 c32_i32
  let v42 : BitVec 32 := v41
  let v43 : Index := Scalar.indexCast v42
  let c0_14 : Index := 0#32
  ![v43.toNat, 0]
def k0_mult3 (k0_t1 : Fin k0_t1_loop.trips) : BitVec 32 :=
  let c0_i32_4 : BitVec 32 := 0#32
  let c1_i32_6 : BitVec 32 := 1#32
  let arg16 : BitVec 32 := Scf.iv c0_i32_4 c1_i32_6 k0_t1
  let c128_i32 : BitVec 32 := 128#32
  let v49 : BitVec 32 := Scalar.muli arg16 c128_i32
  v49
def k0_off4 (k0_t1 : Fin k0_t1_loop.trips) : Fin 2 → Nat :=
  let c0_i32_4 : BitVec 32 := 0#32
  let c1_i32_6 : BitVec 32 := 1#32
  let arg16 : BitVec 32 := Scf.iv c0_i32_4 c1_i32_6 k0_t1
  let c128_i32 : BitVec 32 := 128#32
  let v49 : BitVec 32 := Scalar.muli arg16 c128_i32
  let v50 : BitVec 32 := v49
  let v51 : Index := Scalar.indexCast v50
  let c0_16 : Index := 0#32
  ![v51.toNat, 0]
def k0_off5 (k0_t1 : Fin k0_t1_loop.trips) : Fin 2 → Nat :=
  let c0_i32_4 : BitVec 32 := 0#32
  let c1_i32_6 : BitVec 32 := 1#32
  let arg16 : BitVec 32 := Scf.iv c0_i32_4 c1_i32_6 k0_t1
  let c512_i32 : BitVec 32 := 512#32
  let v13 : BitVec 32 := Scalar.muli arg16 c512_i32
  let v14 : BitVec 32 := v13
  let v77 : Index := Scalar.indexCast v14
  let c0_25 : Index := 0#32
  ![v77.toNat, 0]
def k0_off6 (k0_t1 : Fin k0_t1_loop.trips) : Fin 2 → Nat :=
  let c0_i32_4 : BitVec 32 := 0#32
  let c1_i32_6 : BitVec 32 := 1#32
  let arg16 : BitVec 32 := Scf.iv c0_i32_4 c1_i32_6 k0_t1
  let c512_i32 : BitVec 32 := 512#32
  let v13 : BitVec 32 := Scalar.muli arg16 c512_i32
  let v14 : BitVec 32 := v13
  let v94 : Index := Scalar.indexCast v14
  let c128 : Index := 128#32
  ![v94.toNat, 128]
def k0_off7 (k0_t1 : Fin k0_t1_loop.trips) : Fin 2 → Nat :=
  let c0_i32_4 : BitVec 32 := 0#32
  let c1_i32_6 : BitVec 32 := 1#32
  let arg16 : BitVec 32 := Scf.iv c0_i32_4 c1_i32_6 k0_t1
  let c512_i32 : BitVec 32 := 512#32
  let v13 : BitVec 32 := Scalar.muli arg16 c512_i32
  let v14 : BitVec 32 := v13
  let v116 : Index := Scalar.indexCast v14
  let c256_37 : Index := 256#32
  ![v116.toNat, 256]
def k0_off8 (k0_t1 : Fin k0_t1_loop.trips) : Fin 2 → Nat :=
  let c0_i32_4 : BitVec 32 := 0#32
  let c1_i32_6 : BitVec 32 := 1#32
  let arg16 : BitVec 32 := Scf.iv c0_i32_4 c1_i32_6 k0_t1
  let c512_i32 : BitVec 32 := 512#32
  let v13 : BitVec 32 := Scalar.muli arg16 c512_i32
  let v14 : BitVec 32 := v13
  let v133 : Index := Scalar.indexCast v14
  let c384 : Index := 384#32
  ![v133.toNat, 384]
def k0_off9 (k0_t1 : Fin k0_t1_loop.trips) : Fin 2 → Nat :=
  let c0_i32_4 : BitVec 32 := 0#32
  let c1_i32_6 : BitVec 32 := 1#32
  let arg16 : BitVec 32 := Scf.iv c0_i32_4 c1_i32_6 k0_t1
  let c512_i32 : BitVec 32 := 512#32
  let v13 : BitVec 32 := Scalar.muli arg16 c512_i32
  let v14 : BitVec 32 := v13
  let v155 : Index := Scalar.indexCast v14
  let c512_49 : Index := 512#32
  ![v155.toNat, 512]
def k0_off10 (k0_t1 : Fin k0_t1_loop.trips) : Fin 2 → Nat :=
  let c0_i32_4 : BitVec 32 := 0#32
  let c1_i32_6 : BitVec 32 := 1#32
  let arg16 : BitVec 32 := Scf.iv c0_i32_4 c1_i32_6 k0_t1
  let c512_i32 : BitVec 32 := 512#32
  let v13 : BitVec 32 := Scalar.muli arg16 c512_i32
  let v14 : BitVec 32 := v13
  let v172 : Index := Scalar.indexCast v14
  let c640 : Index := 640#32
  ![v172.toNat, 640]
def k0_off11 (k0_t1 : Fin k0_t1_loop.trips) : Fin 2 → Nat :=
  let c0_i32_4 : BitVec 32 := 0#32
  let c1_i32_6 : BitVec 32 := 1#32
  let arg16 : BitVec 32 := Scf.iv c0_i32_4 c1_i32_6 k0_t1
  let c512_i32 : BitVec 32 := 512#32
  let v13 : BitVec 32 := Scalar.muli arg16 c512_i32
  let v14 : BitVec 32 := v13
  let v194 : Index := Scalar.indexCast v14
  let c768_61 : Index := 768#32
  ![v194.toNat, 768]
def k0_off12 (k0_t1 : Fin k0_t1_loop.trips) : Fin 2 → Nat :=
  let c0_i32_4 : BitVec 32 := 0#32
  let c1_i32_6 : BitVec 32 := 1#32
  let arg16 : BitVec 32 := Scf.iv c0_i32_4 c1_i32_6 k0_t1
  let c512_i32 : BitVec 32 := 512#32
  let v13 : BitVec 32 := Scalar.muli arg16 c512_i32
  let v14 : BitVec 32 := v13
  let v211 : Index := Scalar.indexCast v14
  let c896 : Index := 896#32
  ![v211.toNat, 896]
def k0_off13 (k0_t1 : Fin k0_t1_loop.trips) : Fin 2 → Nat :=
  let c0_i32_4 : BitVec 32 := 0#32
  let c1_i32_6 : BitVec 32 := 1#32
  let arg16 : BitVec 32 := Scf.iv c0_i32_4 c1_i32_6 k0_t1
  let c512_i32 : BitVec 32 := 512#32
  let v13 : BitVec 32 := Scalar.muli arg16 c512_i32
  let v14 : BitVec 32 := v13
  let v235 : Index := Scalar.indexCast v14
  let c1024_74 : Index := 1024#32
  ![v235.toNat, 1024]
def k0_off14 (k0_t1 : Fin k0_t1_loop.trips) : Fin 2 → Nat :=
  let c0_i32_4 : BitVec 32 := 0#32
  let c1_i32_6 : BitVec 32 := 1#32
  let arg16 : BitVec 32 := Scf.iv c0_i32_4 c1_i32_6 k0_t1
  let c512_i32 : BitVec 32 := 512#32
  let v13 : BitVec 32 := Scalar.muli arg16 c512_i32
  let v14 : BitVec 32 := v13
  let v254 : Index := Scalar.indexCast v14
  let c1152 : Index := 1152#32
  ![v254.toNat, 1152]
def k0_off15 (k0_t1 : Fin k0_t1_loop.trips) : Fin 2 → Nat :=
  let c0_i32_4 : BitVec 32 := 0#32
  let c1_i32_6 : BitVec 32 := 1#32
  let arg16 : BitVec 32 := Scf.iv c0_i32_4 c1_i32_6 k0_t1
  let c512_i32 : BitVec 32 := 512#32
  let v13 : BitVec 32 := Scalar.muli arg16 c512_i32
  let v14 : BitVec 32 := v13
  let v278 : Index := Scalar.indexCast v14
  let c1280_88 : Index := 1280#32
  ![v278.toNat, 1280]
def k0_off16 (k0_t1 : Fin k0_t1_loop.trips) : Fin 2 → Nat :=
  let c0_i32_4 : BitVec 32 := 0#32
  let c1_i32_6 : BitVec 32 := 1#32
  let arg16 : BitVec 32 := Scf.iv c0_i32_4 c1_i32_6 k0_t1
  let c512_i32 : BitVec 32 := 512#32
  let v13 : BitVec 32 := Scalar.muli arg16 c512_i32
  let v14 : BitVec 32 := v13
  let v297 : Index := Scalar.indexCast v14
  let c1408 : Index := 1408#32
  ![v297.toNat, 1408]
def k0_off17 (k0_t1 : Fin k0_t1_loop.trips) : Fin 2 → Nat :=
  let c0_i32_4 : BitVec 32 := 0#32
  let c1_i32_6 : BitVec 32 := 1#32
  let arg16 : BitVec 32 := Scf.iv c0_i32_4 c1_i32_6 k0_t1
  let c512_i32 : BitVec 32 := 512#32
  let v13 : BitVec 32 := Scalar.muli arg16 c512_i32
  let v14 : BitVec 32 := v13
  let v321 : Index := Scalar.indexCast v14
  let c1536_102 : Index := 1536#32
  ![v321.toNat, 1536]
def k0_off18 (k0_t1 : Fin k0_t1_loop.trips) : Fin 2 → Nat :=
  let c0_i32_4 : BitVec 32 := 0#32
  let c1_i32_6 : BitVec 32 := 1#32
  let arg16 : BitVec 32 := Scf.iv c0_i32_4 c1_i32_6 k0_t1
  let c512_i32 : BitVec 32 := 512#32
  let v13 : BitVec 32 := Scalar.muli arg16 c512_i32
  let v14 : BitVec 32 := v13
  let v340 : Index := Scalar.indexCast v14
  let c1664 : Index := 1664#32
  ![v340.toNat, 1664]
def k0_cond3 (i : grid0.Coords) : BitVec 1 :=
  let arg1 : BitVec 32 := BitVec.ofNat 32 (i 1).val
  let c2_i32 : BitVec 32 := 2#32
  let v6 : BitVec 1 := Scalar.cmpi .eq arg1 c2_i32
  let v7 : BitVec 32 := Scalar.extui v6
  let c0_i32_2 : BitVec 32 := 0#32
  let v8 : BitVec 1 := Scalar.cmpi .ne v7 c0_i32_2
  v8

@[reducible] def k0_t2_loop : Scf.Loop 32 :=
  let c0_i32_4 : BitVec 32 := 0#32
  let c2_i32_5 : BitVec 32 := 2#32
  let v12 : BitVec 32 := Scalar.addi c0_i32_4 c2_i32_5
  let c1_i32_6 : BitVec 32 := 1#32
  ⟨c0_i32_4, v12, c1_i32_6⟩
def k0_mult4 (k0_t2 : Fin k0_t2_loop.trips) : BitVec 32 :=
  let c0_i32_4 : BitVec 32 := 0#32
  let c1_i32_6 : BitVec 32 := 1#32
  let arg16 : BitVec 32 := Scf.iv c0_i32_4 c1_i32_6 k0_t2
  let c512_i32 : BitVec 32 := 512#32
  let v13 : BitVec 32 := Scalar.muli arg16 c512_i32
  v13
def k0_mult5 (k0_t2 : Fin k0_t2_loop.trips) : BitVec 32 :=
  let c0_i32_4 : BitVec 32 := 0#32
  let c1_i32_6 : BitVec 32 := 1#32
  let arg16 : BitVec 32 := Scf.iv c0_i32_4 c1_i32_6 k0_t2
  let c32_i32 : BitVec 32 := 32#32
  let v15 : BitVec 32 := Scalar.muli arg16 c32_i32
  v15
def k0_off19 (k0_t2 : Fin k0_t2_loop.trips) : Fin 2 → Nat :=
  let c0_i32_4 : BitVec 32 := 0#32
  let c1_i32_6 : BitVec 32 := 1#32
  let arg16 : BitVec 32 := Scf.iv c0_i32_4 c1_i32_6 k0_t2
  let c32_i32 : BitVec 32 := 32#32
  let v15 : BitVec 32 := Scalar.muli arg16 c32_i32
  let v16 : BitVec 32 := v15
  let v17 : Index := Scalar.indexCast v16
  let c0 : Index := 0#32
  ![v17.toNat, 0]
def k0_mult6 (k0_t2 : Fin k0_t2_loop.trips) : BitVec 32 :=
  let c0_i32_4 : BitVec 32 := 0#32
  let c1_i32_6 : BitVec 32 := 1#32
  let arg16 : BitVec 32 := Scf.iv c0_i32_4 c1_i32_6 k0_t2
  let c128_i32 : BitVec 32 := 128#32
  let v23 : BitVec 32 := Scalar.muli arg16 c128_i32
  v23
def k0_off20 (k0_t2 : Fin k0_t2_loop.trips) : Fin 2 → Nat :=
  let c0_i32_4 : BitVec 32 := 0#32
  let c1_i32_6 : BitVec 32 := 1#32
  let arg16 : BitVec 32 := Scf.iv c0_i32_4 c1_i32_6 k0_t2
  let c128_i32 : BitVec 32 := 128#32
  let v23 : BitVec 32 := Scalar.muli arg16 c128_i32
  let v24 : BitVec 32 := v23
  let v25 : Index := Scalar.indexCast v24
  let c0_9 : Index := 0#32
  ![v25.toNat, 0]
def k0_off21 (k0_t2 : Fin k0_t2_loop.trips) : Fin 2 → Nat :=
  let c0_i32_4 : BitVec 32 := 0#32
  let c1_i32_6 : BitVec 32 := 1#32
  let arg16 : BitVec 32 := Scf.iv c0_i32_4 c1_i32_6 k0_t2
  let c512_i32 : BitVec 32 := 512#32
  let v13 : BitVec 32 := Scalar.muli arg16 c512_i32
  let v14 : BitVec 32 := v13
  let v31 : Index := Scalar.indexCast v14
  let c0_11 : Index := 0#32
  ![v31.toNat, 0]
def k0_off22 (k0_t2 : Fin k0_t2_loop.trips) : Fin 2 → Nat :=
  let c0_i32_4 : BitVec 32 := 0#32
  let c1_i32_6 : BitVec 32 := 1#32
  let arg16 : BitVec 32 := Scf.iv c0_i32_4 c1_i32_6 k0_t2
  let c512_i32 : BitVec 32 := 512#32
  let v13 : BitVec 32 := Scalar.muli arg16 c512_i32
  let v14 : BitVec 32 := v13
  let v37 : Index := Scalar.indexCast v14
  let c0_13 : Index := 0#32
  ![v37.toNat, 0]
def k0_off23 (k0_t2 : Fin k0_t2_loop.trips) : Fin 2 → Nat :=
  let c0_i32_4 : BitVec 32 := 0#32
  let c1_i32_6 : BitVec 32 := 1#32
  let arg16 : BitVec 32 := Scf.iv c0_i32_4 c1_i32_6 k0_t2
  let c512_i32 : BitVec 32 := 512#32
  let v13 : BitVec 32 := Scalar.muli arg16 c512_i32
  let v14 : BitVec 32 := v13
  let v57 : Index := Scalar.indexCast v14
  let c512_20 : Index := 512#32
  ![v57.toNat, 512]
def k0_off24 (k0_t2 : Fin k0_t2_loop.trips) : Fin 2 → Nat :=
  let c0_i32_4 : BitVec 32 := 0#32
  let c1_i32_6 : BitVec 32 := 1#32
  let arg16 : BitVec 32 := Scf.iv c0_i32_4 c1_i32_6 k0_t2
  let c512_i32 : BitVec 32 := 512#32
  let v13 : BitVec 32 := Scalar.muli arg16 c512_i32
  let v14 : BitVec 32 := v13
  let v80 : Index := Scalar.indexCast v14
  let c640 : Index := 640#32
  ![v80.toNat, 640]
def k0_off25 (k0_t2 : Fin k0_t2_loop.trips) : Fin 2 → Nat :=
  let c0_i32_4 : BitVec 32 := 0#32
  let c1_i32_6 : BitVec 32 := 1#32
  let arg16 : BitVec 32 := Scf.iv c0_i32_4 c1_i32_6 k0_t2
  let c512_i32 : BitVec 32 := 512#32
  let v13 : BitVec 32 := Scalar.muli arg16 c512_i32
  let v14 : BitVec 32 := v13
  let v108 : Index := Scalar.indexCast v14
  let c768_38 : Index := 768#32
  ![v108.toNat, 768]
def k0_off26 (k0_t2 : Fin k0_t2_loop.trips) : Fin 2 → Nat :=
  let c0_i32_4 : BitVec 32 := 0#32
  let c1_i32_6 : BitVec 32 := 1#32
  let arg16 : BitVec 32 := Scf.iv c0_i32_4 c1_i32_6 k0_t2
  let c512_i32 : BitVec 32 := 512#32
  let v13 : BitVec 32 := Scalar.muli arg16 c512_i32
  let v14 : BitVec 32 := v13
  let v131 : Index := Scalar.indexCast v14
  let c896 : Index := 896#32
  ![v131.toNat, 896]
def k0_off27 (k0_t2 : Fin k0_t2_loop.trips) : Fin 2 → Nat :=
  let c0_i32_4 : BitVec 32 := 0#32
  let c1_i32_6 : BitVec 32 := 1#32
  let arg16 : BitVec 32 := Scf.iv c0_i32_4 c1_i32_6 k0_t2
  let c512_i32 : BitVec 32 := 512#32
  let v13 : BitVec 32 := Scalar.muli arg16 c512_i32
  let v14 : BitVec 32 := v13
  let v159 : Index := Scalar.indexCast v14
  let c1024_56 : Index := 1024#32
  ![v159.toNat, 1024]
def k0_off28 (k0_t2 : Fin k0_t2_loop.trips) : Fin 2 → Nat :=
  let c0_i32_4 : BitVec 32 := 0#32
  let c1_i32_6 : BitVec 32 := 1#32
  let arg16 : BitVec 32 := Scf.iv c0_i32_4 c1_i32_6 k0_t2
  let c512_i32 : BitVec 32 := 512#32
  let v13 : BitVec 32 := Scalar.muli arg16 c512_i32
  let v14 : BitVec 32 := v13
  let v182 : Index := Scalar.indexCast v14
  let c1152 : Index := 1152#32
  ![v182.toNat, 1152]
def k0_off29 (k0_t2 : Fin k0_t2_loop.trips) : Fin 2 → Nat :=
  let c0_i32_4 : BitVec 32 := 0#32
  let c1_i32_6 : BitVec 32 := 1#32
  let arg16 : BitVec 32 := Scf.iv c0_i32_4 c1_i32_6 k0_t2
  let c512_i32 : BitVec 32 := 512#32
  let v13 : BitVec 32 := Scalar.muli arg16 c512_i32
  let v14 : BitVec 32 := v13
  let v210 : Index := Scalar.indexCast v14
  let c1280_74 : Index := 1280#32
  ![v210.toNat, 1280]
def k0_off30 (k0_t2 : Fin k0_t2_loop.trips) : Fin 2 → Nat :=
  let c0_i32_4 : BitVec 32 := 0#32
  let c1_i32_6 : BitVec 32 := 1#32
  let arg16 : BitVec 32 := Scf.iv c0_i32_4 c1_i32_6 k0_t2
  let c512_i32 : BitVec 32 := 512#32
  let v13 : BitVec 32 := Scalar.muli arg16 c512_i32
  let v14 : BitVec 32 := v13
  let v233 : Index := Scalar.indexCast v14
  let c1408 : Index := 1408#32
  ![v233.toNat, 1408]
def k0_off31 (k0_t2 : Fin k0_t2_loop.trips) : Fin 2 → Nat :=
  let c0_i32_4 : BitVec 32 := 0#32
  let c1_i32_6 : BitVec 32 := 1#32
  let arg16 : BitVec 32 := Scf.iv c0_i32_4 c1_i32_6 k0_t2
  let c512_i32 : BitVec 32 := 512#32
  let v13 : BitVec 32 := Scalar.muli arg16 c512_i32
  let v14 : BitVec 32 := v13
  let v259 : Index := Scalar.indexCast v14
  let c1536_91 : Index := 1536#32
  ![v259.toNat, 1536]
def k0_off32 (k0_t2 : Fin k0_t2_loop.trips) : Fin 2 → Nat :=
  let c0_i32_4 : BitVec 32 := 0#32
  let c1_i32_6 : BitVec 32 := 1#32
  let arg16 : BitVec 32 := Scf.iv c0_i32_4 c1_i32_6 k0_t2
  let c512_i32 : BitVec 32 := 512#32
  let v13 : BitVec 32 := Scalar.muli arg16 c512_i32
  let v14 : BitVec 32 := v13
  let v280 : Index := Scalar.indexCast v14
  let c1664 : Index := 1664#32
  ![v280.toNat, 1664]
def k0_off33 (k0_t2 : Fin k0_t2_loop.trips) : Fin 2 → Nat :=
  let c0_i32_4 : BitVec 32 := 0#32
  let c1_i32_6 : BitVec 32 := 1#32
  let arg16 : BitVec 32 := Scf.iv c0_i32_4 c1_i32_6 k0_t2
  let c512_i32 : BitVec 32 := 512#32
  let v13 : BitVec 32 := Scalar.muli arg16 c512_i32
  let v14 : BitVec 32 := v13
  let v292 : Index := Scalar.indexCast v14
  let c0_103 : Index := 0#32
  ![v292.toNat, 0]
def k0_off34 (k0_t2 : Fin k0_t2_loop.trips) : Fin 2 → Nat :=
  let c0_i32_4 : BitVec 32 := 0#32
  let c1_i32_6 : BitVec 32 := 1#32
  let arg16 : BitVec 32 := Scf.iv c0_i32_4 c1_i32_6 k0_t2
  let c512_i32 : BitVec 32 := 512#32
  let v13 : BitVec 32 := Scalar.muli arg16 c512_i32
  let v14 : BitVec 32 := v13
  let v299 : Index := Scalar.indexCast v14
  let c128 : Index := 128#32
  ![v299.toNat, 128]
def k0_off35 (k0_t2 : Fin k0_t2_loop.trips) : Fin 2 → Nat :=
  let c0_i32_4 : BitVec 32 := 0#32
  let c1_i32_6 : BitVec 32 := 1#32
  let arg16 : BitVec 32 := Scf.iv c0_i32_4 c1_i32_6 k0_t2
  let c512_i32 : BitVec 32 := 512#32
  let v13 : BitVec 32 := Scalar.muli arg16 c512_i32
  let v14 : BitVec 32 := v13
  let v311 : Index := Scalar.indexCast v14
  let c256_109 : Index := 256#32
  ![v311.toNat, 256]
def k0_off36 (k0_t2 : Fin k0_t2_loop.trips) : Fin 2 → Nat :=
  let c0_i32_4 : BitVec 32 := 0#32
  let c1_i32_6 : BitVec 32 := 1#32
  let arg16 : BitVec 32 := Scf.iv c0_i32_4 c1_i32_6 k0_t2
  let c512_i32 : BitVec 32 := 512#32
  let v13 : BitVec 32 := Scalar.muli arg16 c512_i32
  let v14 : BitVec 32 := v13
  let v318 : Index := Scalar.indexCast v14
  let c384 : Index := 384#32
  ![v318.toNat, 384]
def k0_cond2 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

def k0_cond4 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S64x8192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x1792 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S64x8192 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== InProjIdeal.lean ====
variable {F : FTy → Type} [FloatOps F] [Named F]
def κ : String → Option EReal := fun
  | "scale" => some (((Real.sqrt 128)⁻¹ : ℝ) : EReal)
  | "scale2" => some (((Real.sqrt 128)⁻¹ * (Real.log 2)⁻¹ : ℝ) : EReal)
  | _ => none
-- ==== InProjRefIdeal.lean ====
abbrev S2x4096x2048 : Shape := ⟨3, ![2, 4096, 2048]⟩
abbrev S1x2048 : Shape := ⟨2, ![1, 2048]⟩
abbrev S1x2048x7168 : Shape := ⟨3, ![1, 2048, 7168]⟩
abbrev S1x128 : Shape := ⟨2, ![1, 128]⟩
abbrev S1x2048x8192 : Shape := ⟨3, ![1, 2048, 8192]⟩
abbrev S1x8192x2048 : Shape := ⟨3, ![1, 8192, 2048]⟩
abbrev S4096 : Shape := ⟨1, ![4096]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2048x7168 : Shape := ⟨2, ![2048, 7168]⟩
abbrev S2x4096x7168 : Shape := ⟨3, ![2, 4096, 7168]⟩
abbrev S2x4096x1024 : Shape := ⟨3, ![2, 4096, 1024]⟩
abbrev S2x4096x8x128 : Shape := ⟨4, ![2, 4096, 8, 128]⟩
abbrev S64 : Shape := ⟨1, ![64]⟩
abbrev S4096x1 : Shape := ⟨2, ![4096, 1]⟩
abbrev S1x64 : Shape := ⟨2, ![1, 64]⟩
abbrev S4096x64 : Shape := ⟨2, ![4096, 64]⟩
abbrev S1x4096x1x64 : Shape := ⟨4, ![1, 4096, 1, 64]⟩
abbrev S2x4096x8x64 : Shape := ⟨4, ![2, 4096, 8, 64]⟩
abbrev S128 : Shape := ⟨1, ![128]⟩
abbrev S2x4096x8 : Shape := ⟨3, ![2, 4096, 8]⟩
abbrev S2x4096x8x1 : Shape := ⟨4, ![2, 4096, 8, 1]⟩
abbrev S1x1x1x128 : Shape := ⟨4, ![1, 1, 1, 128]⟩
abbrev S8192x1024 : Shape := ⟨2, ![8192, 1024]⟩
abbrev S8192x7168 : Shape := ⟨2, ![8192, 7168]⟩
abbrev S2048x8192 : Shape := ⟨2, ![2048, 8192]⟩
abbrev S8192x2048 : Shape := ⟨2, ![8192, 2048]⟩

abbrev nBuf : Space → Nat
  | .hbm => 158
  | .vmem => 0
  | .smem => 0
  | _ => 0

abbrev hbmTy0_0 (i : Nat) : BufTy := match i % 128 with
  | 0 => ⟨S2x4096x2048, .f32⟩
  | 1 => ⟨S1x2048, .f32⟩
  | 2 => ⟨S1x2048x7168, .f32⟩
  | 3 => ⟨S1x128, .f32⟩
  | 4 => ⟨S1x128, .f32⟩
  | 5 => ⟨S1x2048x8192, .f32⟩
  | 6 => ⟨S1x8192x2048, .f32⟩
  | 7 => ⟨S4096, .f32⟩
  | 8 => ⟨S2048, .f32⟩
  | 9 => ⟨S2x4096x2048, .f32⟩
  | 10 => ⟨S_, .f32⟩
  | 11 => ⟨S2x4096, .f32⟩
  | 12 => ⟨S2x4096x1, .f32⟩
  | 13 => ⟨S_, .f32⟩
  | 14 => ⟨S2x4096x1, .f32⟩
  | 15 => ⟨S2x4096x1, .f32⟩
  | 16 => ⟨S_, .f32⟩
  | 17 => ⟨S2x4096x1, .f32⟩
  | 18 => ⟨S2x4096x1, .f32⟩
  | 19 => ⟨S2x4096x1, .f32⟩
  | 20 => ⟨S2x4096x2048, .f32⟩
  | 21 => ⟨S2x4096x2048, .f32⟩
  | 22 => ⟨S1x1x2048, .f32⟩
  | 23 => ⟨S2x4096x2048, .f32⟩
  | 24 => ⟨S2x4096x2048, .f32⟩
  | 25 => ⟨S2048x7168, .f32⟩
  | 26 => ⟨S2x4096x7168, .f32⟩
  | 27 => ⟨S2x4096x1024, .f32⟩
  | 28 => ⟨S2x4096x1024, .f32⟩
  | 29 => ⟨S2x4096x1024, .f32⟩
  | 30 => ⟨S2x4096x1024, .f32⟩
  | 31 => ⟨S2x4096x1024, .f32⟩
  | 32 => ⟨S2x4096x1024, .f32⟩
  | 33 => ⟨S2x4096x1024, .f32⟩
  | 34 => ⟨S2x4096x8x128, .f32⟩
  | 35 => ⟨S2x4096x8x128, .f32⟩
  | 36 => ⟨S2x4096x8x128, .f32⟩
  | 37 => ⟨S2x4096x8x128, .f32⟩
  | 38 => ⟨S2x4096x8x128, .f32⟩
  | 39 => ⟨S2x4096x8x128, .f32⟩
  | 40 => ⟨S2x4096x8x128, .f32⟩
  | 41 => ⟨S_, .f32⟩
  | 42 => ⟨S_, .f32⟩
  | 43 => ⟨S64, .f32⟩
  | 44 => ⟨S64, .f32⟩
  | 45 => ⟨S_, .f32⟩
  | 46 => ⟨S64, .f32⟩
  | 47 => ⟨S64, .f32⟩
  | 48 => ⟨S_, .f32⟩
  | 49 => ⟨S64, .f32⟩
  | 50 => ⟨S64, .f32⟩
  | 51 => ⟨S4096x1, .f32⟩
  | 52 => ⟨S1x64, .f32⟩
  | 53 => ⟨S4096x64, .f32⟩
  | 54 => ⟨S4096x64, .f32⟩
  | 55 => ⟨S4096x64, .f32⟩
  | 56 => ⟨S4096x64, .f32⟩
  | 57 => ⟨S1x4096x1x64, .f32⟩
  | 58 => ⟨S4096x64, .f32⟩
  | 59 => ⟨S1x4096x1x64, .f32⟩
  | 60 => ⟨S2x4096x8x64, .f32⟩
  | 61 => ⟨S2x4096x8x64, .f32⟩
  | 62 => ⟨S2x4096x8x64, .f32⟩
  | 63 => ⟨S2x4096x8x64, .f32⟩
  | 64 => ⟨S2x4096x8x64, .f32⟩
  | 65 => ⟨S2x4096x8x64, .f32⟩
  | 66 => ⟨S2x4096x8x64, .f32⟩
  | 67 => ⟨S2x4096x8x64, .f32⟩
  | 68 => ⟨S2x4096x8x64, .f32⟩
  | 69 => ⟨S2x4096x8x64, .f32⟩
  | 70 => ⟨S2x4096x8x64, .f32⟩
  | 71 => ⟨S2x4096x8x64, .f32⟩
  | 72 => ⟨S2x4096x8x128, .f32⟩
  | 73 => ⟨S64, .f32⟩
  | 74 => ⟨S64, .f32⟩
  | 75 => ⟨S_, .f32⟩
  | 76 => ⟨S64, .f32⟩
  | 77 => ⟨S64, .f32⟩
  | 78 => ⟨S_, .f32⟩
  | 79 => ⟨S64, .f32⟩
  | 80 => ⟨S64, .f32⟩
  | 81 => ⟨S4096x1, .f32⟩
  | 82 => ⟨S1x64, .f32⟩
  | 83 => ⟨S4096x64, .f32⟩
  | 84 => ⟨S4096x64, .f32⟩
  | 85 => ⟨S4096x64, .f32⟩
  | 86 => ⟨S4096x64, .f32⟩
  | 87 => ⟨S1x4096x1x64, .f32⟩
  | 88 => ⟨S4096x64, .f32⟩
  | 89 => ⟨S1x4096x1x64, .f32⟩
  | 90 => ⟨S2x4096x8x64, .f32⟩
  | 91 => ⟨S2x4096x8x64, .f32⟩
  | 92 => ⟨S2x4096x8x64, .f32⟩
  | 93 => ⟨S2x4096x8x64, .f32⟩
  | 94 => ⟨S2x4096x8x64, .f32⟩
  | 95 => ⟨S2x4096x8x64, .f32⟩
  | 96 => ⟨S2x4096x8x64, .f32⟩
  | 97 => ⟨S2x4096x8x64, .f32⟩
  | 98 => ⟨S2x4096x8x64, .f32⟩
  | 99 => ⟨S2x4096x8x64, .f32⟩
  | 100 => ⟨S2x4096x8x64, .f32⟩
  | 101 => ⟨S2x4096x8x64, .f32⟩
  | 102 => ⟨S2x4096x8x128, .f32⟩
  | 103 => ⟨S2x4096x8x128, .f32⟩
  | 104 => ⟨S2x4096x8x128, .f32⟩
  | 105 => ⟨S128, .f32⟩
  | 106 => ⟨S2x4096x8x128, .f32⟩
  | 107 => ⟨S_, .f32⟩
  | 108 => ⟨S2x4096x8, .f32⟩
  | 109 => ⟨S2x4096x8x1, .f32⟩
  | 110 => ⟨S_, .f32⟩
  | 111 => ⟨S2x4096x8x1, .f32⟩
  | 112 => ⟨S2x4096x8x1, .f32⟩
  | 113 => ⟨S_, .f32⟩
  | 114 => ⟨S2x4096x8x1, .f32⟩
  | 115 => ⟨S2x4096x8x1, .f32⟩
  | 116 => ⟨S2x4096x8x1, .f32⟩
  | 117 => ⟨S2x4096x8x128, .f32⟩
  | 118 => ⟨S2x4096x8x128, .f32⟩
  | 119 => ⟨S1x1x1x128, .f32⟩
  | 120 => ⟨S2x4096x8x128, .f32⟩
  | 121 => ⟨S2x4096x8x128, .f32⟩
  | 122 => ⟨S2x4096x8x128, .f32⟩
  | 123 => ⟨S2x4096x8x128, .f32⟩
  | 124 => ⟨S_, .f32⟩
  | 125 => ⟨S_, .f32⟩
  | 126 => ⟨S2x4096x8x128, .f32⟩
  | 127 => ⟨S2x4096x8x128, .f32⟩
  | _ => ⟨S2x4096x2048, .f32⟩

abbrev hbmTy0_1 (i : Nat) : BufTy := match i % 128 with
  | 0 => ⟨S128, .f32⟩
  | 1 => ⟨S2x4096x8x128, .f32⟩
  | 2 => ⟨S_, .f32⟩
  | 3 => ⟨S2x4096x8, .f32⟩
  | 4 => ⟨S2x4096x8x1, .f32⟩
  | 5 => ⟨S_, .f32⟩
  | 6 => ⟨S2x4096x8x1, .f32⟩
  | 7 => ⟨S2x4096x8x1, .f32⟩
  | 8 => ⟨S_, .f32⟩
  | 9 => ⟨S2x4096x8x1, .f32⟩
  | 10 => ⟨S2x4096x8x1, .f32⟩
  | 11 => ⟨S2x4096x8x1, .f32⟩
  | 12 => ⟨S2x4096x8x128, .f32⟩
  | 13 => ⟨S2x4096x8x128, .f32⟩
  | 14 => ⟨S1x1x1x128, .f32⟩
  | 15 => ⟨S2x4096x8x128, .f32⟩
  | 16 => ⟨S2x4096x8x128, .f32⟩
  | 17 => ⟨S8192x1024, .f32⟩
  | 18 => ⟨S8192x1024, .f32⟩
  | 19 => ⟨S8192x1024, .f32⟩
  | 20 => ⟨S8192x1024, .f32⟩
  | 21 => ⟨S8192x1024, .f32⟩
  | 22 => ⟨S8192x1024, .f32⟩
  | 23 => ⟨S8192x1024, .f32⟩
  | 24 => ⟨S8192x7168, .f32⟩
  | 25 => ⟨S8192x7168, .bf16⟩
  | 26 => ⟨S2048x8192, .f32⟩
  | 27 => ⟨S2048x8192, .bf16⟩
  | 28 => ⟨S8192x2048, .f32⟩
  | 29 => ⟨S8192x2048, .bf16⟩
  | _ => ⟨S2x4096x2048, .f32⟩

abbrev hbmTy (i : Nat) : BufTy := match i / 128 with
  | 0 => hbmTy0_0 i
  | 1 => hbmTy0_1 i
  | _ => ⟨S2x4096x2048, .f32⟩

abbrev bufTy : (tb : Table) → Fin (tcTables nBuf tb) → BufTy
  | .hbm, ⟨i, _⟩ => hbmTy i
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_2 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_v35 : Ref sig .tc := ⟨.hbm, 47, rfl⟩
abbrev main_cst_4 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_cst_5 : Ref sig .tc := ⟨.hbm, 75, rfl⟩
abbrev main_v62 : Ref sig .tc := ⟨.hbm, 76, rfl⟩
abbrev main_v63 : Ref sig .tc := ⟨.hbm, 77, rfl⟩
abbrev main_cst_6 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_cst_7 : Ref sig .tc := ⟨.hbm, 107, rfl⟩
abbrev main_v92 : Ref sig .tc := ⟨.hbm, 108, rfl⟩
abbrev main_v93 : Ref sig .tc := ⟨.hbm, 109, rfl⟩
abbrev main_cst_8 : Ref sig .tc := ⟨.hbm, 110, rfl⟩
abbrev main_v94 : Ref sig .tc := ⟨.hbm, 111, rfl⟩
abbrev main_v95 : Ref sig .tc := ⟨.hbm, 112, rfl⟩
abbrev main_cst_9 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_cst_10 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_cst_11 : Ref sig .tc := ⟨.hbm, 130, rfl⟩
abbrev main_v111 : Ref sig .tc := ⟨.hbm, 131, rfl⟩
abbrev main_v112 : Ref sig .tc := ⟨.hbm, 132, rfl⟩
abbrev main_cst_12 : Ref sig .tc := ⟨.hbm, 133, rfl⟩
abbrev main_v113 : Ref sig .tc := ⟨.hbm, 134, rfl⟩
abbrev main_v114 : Ref sig .tc := ⟨.hbm, 135, rfl⟩
abbrev main_cst_13 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩

abbrev nD : Nat := 1
abbrev τ : Topo := Topo.v7x

variable {F : FTy → Type} [FloatOps F]
-- ==== Proof.RefLoop.lean ====
/- The reference's loop over the chunks, as a sequence of states: every run of the reference ends with its result at
   `Step.R_main_v113` of the state after the last chunk. -/
module

public import proofs.«01_k».proof.Proof.Gen.ReferenceIdeal.Run
public import proofs.«01_k».proof.Proof.Gen.ReferenceIdeal.Step

@[expose] public section

noncomputable section

namespace Cert.Proof.RefLoop

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]
variable (V0 : Valuation τ sig (Elt F)) (s : State F) (j : ℕ)

/-- The buffers hold the state `s` and the number `j` of the chunk. -/
structure At : Prop where
  state : V0 (Proc.devRef .tc main_v30_2) = s.main_v30_2
  prev : V0 (Proc.devRef .tc main_v30_3) = s.main_v30_3
  contrib : V0 (Proc.devRef .tc main_v30_0) = s.main_v30_0
  number : V0 (Proc.devRef .tc main_v30_1) = constantI S_ 32 (BitVec.ofNat 32 j)

variable {V0 s j}

set_option maxRecDepth 16384 in
theorem state_next (h : At V0 s j) : step_main_v30_2 V0 = (step j s).main_v30_2 := by
  unfold step_main_v30_2
  rw [h.state, h.contrib, h.number]
  rfl

set_option maxRecDepth 16384 in
theorem prev_next (h : At V0 s j) : step_main_v30_3 V0 = (step j s).main_v30_3 := by
  unfold step_main_v30_3
  rw [h.state, h.prev, h.number]
  rfl

theorem number_next (h : At V0 s j) : step_main_v30_1 V0 = constantI S_ 32 (BitVec.ofNat 32 (j + 1)) := by
  unfold step_main_v30_1
  rw [h.number]
  funext i
  show BitVec.ofNat 32 j + 1#32 = BitVec.ofNat 32 (j + 1)
  simp only [BitVec.ofNat_add]

/-- One chunk. -/
theorem At.next (h : At V0 s j) : At (STEP V0) (step j s) (j + 1) where
  state := (STEP_main_v30_2 V0).trans (state_next h)
  prev := (STEP_main_v30_3 V0).trans (prev_next h)
  contrib := (STEP_main_v30_0 V0).trans h.contrib
  number := (STEP_main_v30_1 V0).trans (number_next h)

/-- The state after `n` chunks. -/
def states (x : (⟨S8192x7168, .bf16⟩ : BufTy).Contents (Elt F)) : ℕ → State F
  | 0 => init x
  | n + 1 => step n (states x n)

variable (m : (ℓ : Loc nD τ sig) → Buf (Elt F) ℓ) (c : Dev nD)

set_option maxRecDepth 65536 in
theorem at_entry : At (entryContents preI m c) (init (m ((c.tc : Thread nD τ).loc main_arg0))) 0 := by
  constructor <;> (simp only [entryContents, afterL_cons, afterL_nil]; after_reads_simp) <;> rfl

theorem at_states : ∀ k, At (STEP^[k] (entryContents preI m c)) (states (m ((c.tc : Thread nD τ).loc main_arg0)) k) k
  | 0 => at_entry m c
  | k + 1 => by
    rw [Function.iterate_succ_apply']
    exact (at_states k).next

set_option maxRecDepth 16384 in
theorem out_eq (h : At V0 s j) {x : (⟨S8192x7168, .bf16⟩ : BufTy).Contents (Elt F)}
    (hx : V0 (Proc.devRef .tc main_arg0) = x) {g : (⟨S1x1024, .f32⟩ : BufTy).Contents (Elt F)}
    (hg : V0 (Proc.devRef .tc main_arg1) = g) : out_main_v113 V0 = Cert.ReferenceIdeal.Step.R_main_v113 s x g := by
  unfold out_main_v113
  rw [h.prev, hx, hg]
  rfl

/-- Every run of the reference ends with its result read off the state after 64 chunks, its arguments unchanged. -/
theorem run (ρ : Dev nD → PrngReg) :
    θ_run (defs (F := F)) (onTc (τ := τ) (main (F := F))) ⟨m, fun _ => 0, ρ⟩ fun r => ∀ c : Dev nD,
      r.2.mem ((c.tc : Thread nD τ).loc main_v113) =
        Cert.ReferenceIdeal.Step.R_main_v113 (states (m ((c.tc : Thread nD τ).loc main_arg0)) 64)
          (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨(h c).1.trans (out_eq (at_states m c 64) (iter_main_arg0 m c 64) (iter_main_arg1 m c 64)), (h c).2.1,
      (h c).2.2⟩) (Value.run m ρ)

end Cert.Proof.RefLoop

end
-- ==== Proof.InRun.lean ====
/- The runs of one grid step of the input projection, in its four cases: on which tile of columns the step works. Case A,
   the first tile, stores its norm's rows and loads them back in the same trip of its loop; the pieces it leaves are
   the loop's, and depend on nothing the buffers held before. -/
module

public import proofs.«01_k».proof.Proof.Gen.InProjIdeal.Frame.Runs

@[expose] public section

set_option maxRecDepth 16384

noncomputable section

namespace Cert.InProjIdeal.Run

open Idealize.ShloMosaic Idealize.ShloMosaic.TcCoe Idealize.ShloMosaic.Tactic
open Cert.InProjIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The pieces the loop of case A leaves, last stored first, from buffers that held anything. -/
def pbA (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1792 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S64x8192 .f32) (harg9 : arg9.IsWhole) (arg10 : Memref sig .tc .vmem S256x2048 .f32) (harg10 : arg10.IsWhole) (arg11 : Memref sig .tc .vmem S1024x1792 .bf16) (harg11 : arg11.IsWhole) (arg12 : Memref sig .tc .vmem S64x8192 .bf16) (harg12 : arg12.IsWhole) (arg13 : Memref sig .tc .vmem S256x2048 .bf16) (harg13 : arg13.IsWhole) (arg14 : Memref sig .tc .vmem S1024x2048 .bf16) (harg14 : arg14.IsWhole) (arg15 : Memref sig .tc .vmem S1024x128 .f32) (harg15 : arg15.IsWhole) (hc0 : cond0_0 i)
    (x0 : Vec F S1024x2048 .f32) (x1 : Vec F S1x2048 .f32) (x2 : Vec F S2048x1792 .bf16) (x3 : Vec F S1024x128 .f32) (x4 : Vec F S1024x128 .f32) (x5 : Vec F S1x128 .f32) (x6 : Vec F S1x128 .f32) (x7 : Vec F S64x8192 .f32) (x8 : Vec F S256x2048 .f32) :=
  pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 hc0 (harg2.unread x0) (harg3.unread x1) (harg4.unread x2) (harg5.unread x3) (harg6.unread x4) (harg9.unread x7) (harg10.unread x8) arg11.view.junk arg12.view.junk arg13.view.junk arg14.view.junk arg15.view.junk (Scf.trips k0_t1_loop.lb k0_t1_loop.ub k0_t1_loop.st)

/-- What the buffers held before does not matter. -/
theorem pbA_eq (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1792 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S64x8192 .f32) (harg9 : arg9.IsWhole) (arg10 : Memref sig .tc .vmem S256x2048 .f32) (harg10 : arg10.IsWhole) (arg11 : Memref sig .tc .vmem S1024x1792 .bf16) (harg11 : arg11.IsWhole) (arg12 : Memref sig .tc .vmem S64x8192 .bf16) (harg12 : arg12.IsWhole) (arg13 : Memref sig .tc .vmem S256x2048 .bf16) (harg13 : arg13.IsWhole) (arg14 : Memref sig .tc .vmem S1024x2048 .bf16) (harg14 : arg14.IsWhole) (arg15 : Memref sig .tc .vmem S1024x128 .f32) (harg15 : arg15.IsWhole) (hc0 : cond0_0 i)
    (x0 : Vec F S1024x2048 .f32) (x1 : Vec F S1x2048 .f32) (x2 : Vec F S2048x1792 .bf16) (x3 : Vec F S1024x128 .f32) (x4 : Vec F S1024x128 .f32) (x5 : Vec F S1x128 .f32) (x6 : Vec F S1x128 .f32) (x7 : Vec F S64x8192 .f32) (x8 : Vec F S256x2048 .f32) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) :
    pbA c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8
      = pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 hc0 (harg2.unread x0) (harg3.unread x1) (harg4.unread x2) (harg5.unread x3) (harg6.unread x4) (harg9.unread x7) (harg10.unread x8) f11 f12 f13 f14 f15 (Scf.trips k0_t1_loop.lb k0_t1_loop.ub k0_t1_loop.st) := by
  sl_kernel_rfl

set_option maxHeartbeats 1000000 in
/-- Case A runs, and leaves these pieces. -/
theorem runA (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1792 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S64x8192 .f32) (harg9 : arg9.IsWhole) (arg10 : Memref sig .tc .vmem S256x2048 .f32) (harg10 : arg10.IsWhole) (arg11 : Memref sig .tc .vmem S1024x1792 .bf16) (harg11 : arg11.IsWhole) (arg12 : Memref sig .tc .vmem S64x8192 .bf16) (harg12 : arg12.IsWhole) (arg13 : Memref sig .tc .vmem S256x2048 .bf16) (harg13 : arg13.IsWhole) (arg14 : Memref sig .tc .vmem S1024x2048 .bf16) (harg14 : arg14.IsWhole) (arg15 : Memref sig .tc .vmem S1024x128 .f32) (harg15 : arg15.IsWhole) (hc0 : cond0_0 i) (hc1 : ¬cond0_1 i) (hc2 : ¬cond0_2 i) (hc3 : ¬cond0_3 i)
    (x0 : Vec F S1024x2048 .f32) (x1 : Vec F S1x2048 .f32) (x2 : Vec F S2048x1792 .bf16) (x3 : Vec F S1024x128 .f32) (x4 : Vec F S1024x128 .f32) (x5 : Vec F S1x128 .f32) (x6 : Vec F S1x128 .f32) (x7 : Vec F S64x8192 .f32) (x8 : Vec F S256x2048 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f (pbA c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).1) ∗ (∃ f, arg12.view.loc (c : Thread nD τ) ↦[arg12.view.set]{fullShare} arg12.view.writes (Elt F) f (pbA c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).2.1) ∗ (∃ f, arg13.view.loc (c : Thread nD τ) ↦[arg13.view.set]{fullShare} arg13.view.writes (Elt F) f (pbA c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).2.2.1) ∗ (∃ f, arg14.view.loc (c : Thread nD τ) ↦[arg14.view.set]{fullShare} arg14.view.writes (Elt F) f (pbA c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).2.2.2.1) ∗ (∃ f, arg15.view.loc (c : Thread nD τ) ↦[arg15.view.set]{fullShare} arg15.view.writes (Elt F) f (pbA c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).2.2.2.2)) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14 arg15 harg15) K := by
  intro E K
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; rw [pbA_eq c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 f9 f10 f11 fs0 fs1]; iexact H9
  isplitl [H10]
  · iexists _; rw [pbA_eq c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 f9 f10 f11 fs0 fs1]; iexact H10
  isplitl [H11]
  · iexists _; rw [pbA_eq c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 f9 f10 f11 fs0 fs1]; iexact H11
  isplitl [HS0]
  · iexists _; rw [pbA_eq c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 f9 f10 f11 fs0 fs1]; iexact HS0
  iexists _; rw [pbA_eq c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 f9 f10 f11 fs0 fs1]; iexact HS1

/-- Case A's pieces, with the run. -/
def kernelRun0_A (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1792 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S64x8192 .f32) (harg9 : arg9.IsWhole) (arg10 : Memref sig .tc .vmem S256x2048 .f32) (harg10 : arg10.IsWhole) (arg11 : Memref sig .tc .vmem S1024x1792 .bf16) (harg11 : arg11.IsWhole) (arg12 : Memref sig .tc .vmem S64x8192 .bf16) (harg12 : arg12.IsWhole) (arg13 : Memref sig .tc .vmem S256x2048 .bf16) (harg13 : arg13.IsWhole) (arg14 : Memref sig .tc .vmem S1024x2048 .bf16) (harg14 : arg14.IsWhole) (arg15 : Memref sig .tc .vmem S1024x128 .f32) (harg15 : arg15.IsWhole) (hc0 : cond0_0 i) (hc1 : ¬cond0_1 i) (hc2 : ¬cond0_2 i) (hc3 : ¬cond0_3 i)
    (x0 : Vec F S1024x2048 .f32) (x1 : Vec F S1x2048 .f32) (x2 : Vec F S2048x1792 .bf16) (x3 : Vec F S1024x128 .f32) (x4 : Vec F S1024x128 .f32) (x5 : Vec F S1x128 .f32) (x6 : Vec F S1x128 .f32) (x7 : Vec F S64x8192 .f32) (x8 : Vec F S256x2048 .f32) :
    Σ' (L9 : List (View.Piece (Elt F) S1024x1792 .bf16)), Σ' (L10 : List (View.Piece (Elt F) S64x8192 .bf16)), Σ' (L11 : List (View.Piece (Elt F) S256x2048 .bf16)), Σ' (LS0 : List (View.Piece (Elt F) S1024x2048 .bf16)), { LS1 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1)) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14 arg15 harg15) K } :=
  ⟨(pbA c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).1, (pbA c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).2.1,
    (pbA c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).2.2.1, (pbA c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).2.2.2.1,
    (pbA c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8).2.2.2.2,
    runA c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8⟩

set_option maxHeartbeats 1000000 in
/-- Case B's pieces, with the run. -/
noncomputable def kernelRun0_B (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1792 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S64x8192 .f32) (harg9 : arg9.IsWhole) (arg10 : Memref sig .tc .vmem S256x2048 .f32) (harg10 : arg10.IsWhole) (arg11 : Memref sig .tc .vmem S1024x1792 .bf16) (harg11 : arg11.IsWhole) (arg12 : Memref sig .tc .vmem S64x8192 .bf16) (harg12 : arg12.IsWhole) (arg13 : Memref sig .tc .vmem S256x2048 .bf16) (harg13 : arg13.IsWhole) (arg14 : Memref sig .tc .vmem S1024x2048 .bf16) (harg14 : arg14.IsWhole) (arg15 : Memref sig .tc .vmem S1024x128 .f32) (harg15 : arg15.IsWhole) (hc0 : ¬cond0_0 i) (hc1 : cond0_1 i) (hc2 : ¬cond0_2 i) (hc3 : ¬cond0_3 i)
    (x0 : Vec F S1024x2048 .f32) (x1 : Vec F S1x2048 .f32) (x2 : Vec F S2048x1792 .bf16) (x3 : Vec F S1024x128 .f32) (x4 : Vec F S1024x128 .f32) (x5 : Vec F S1x128 .f32) (x6 : Vec F S1x128 .f32) (x7 : Vec F S64x8192 .f32) (x8 : Vec F S256x2048 .f32) (xs0 : Vec F S1024x2048 .bf16) (xs1 : Vec F S1024x128 .f32) :
    Σ' (L9 : List (View.Piece (Elt F) S1024x1792 .bf16)), Σ' (L10 : List (View.Piece (Elt F) S64x8192 .bf16)), Σ' (L11 : List (View.Piece (Elt F) S256x2048 .bf16)), Σ' (LS0 : List (View.Piece (Elt F) S1024x2048 .bf16)), { LS1 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs0 ∗ owns (c : Thread nD τ) arg15 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ owns (c : Thread nD τ) arg14 fullShare xs0 ∗ owns (c : Thread nD τ) arg15 fullShare xs1) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, [], [], fun E K => ?run⟩
  case run =>
    simp only [cc0_in_proj_eq_skeleton]; unfold cc0_in_proj_skel
    simp only [k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg14.eq_unread hfs0; obtain rfl := harg15.eq_unread hfs1
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]; · iexists _; iexact H10
    isplitl [H11]; · iexists _; iexact H11
    isplitl [HS0]
    · iexists _; isplitr; · ipureintro; exact harg14.read_unread _
      iexact HS0
    iexists _; isplitr; · ipureintro; exact harg15.read_unread _
    iexact HS1

set_option maxHeartbeats 1000000 in
/-- Case C's pieces, with the run. -/
noncomputable def kernelRun0_C (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1792 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S64x8192 .f32) (harg9 : arg9.IsWhole) (arg10 : Memref sig .tc .vmem S256x2048 .f32) (harg10 : arg10.IsWhole) (arg11 : Memref sig .tc .vmem S1024x1792 .bf16) (harg11 : arg11.IsWhole) (arg12 : Memref sig .tc .vmem S64x8192 .bf16) (harg12 : arg12.IsWhole) (arg13 : Memref sig .tc .vmem S256x2048 .bf16) (harg13 : arg13.IsWhole) (arg14 : Memref sig .tc .vmem S1024x2048 .bf16) (harg14 : arg14.IsWhole) (arg15 : Memref sig .tc .vmem S1024x128 .f32) (harg15 : arg15.IsWhole) (hc0 : ¬cond0_0 i) (hc1 : ¬cond0_1 i) (hc2 : cond0_2 i) (hc3 : ¬cond0_3 i)
    (x0 : Vec F S1024x2048 .f32) (x1 : Vec F S1x2048 .f32) (x2 : Vec F S2048x1792 .bf16) (x3 : Vec F S1024x128 .f32) (x4 : Vec F S1024x128 .f32) (x5 : Vec F S1x128 .f32) (x6 : Vec F S1x128 .f32) (x7 : Vec F S64x8192 .f32) (x8 : Vec F S256x2048 .f32) (xs0 : Vec F S1024x2048 .bf16) (xs1 : Vec F S1024x128 .f32) :
    Σ' (L9 : List (View.Piece (Elt F) S1024x1792 .bf16)), Σ' (L10 : List (View.Piece (Elt F) S64x8192 .bf16)), Σ' (L11 : List (View.Piece (Elt F) S256x2048 .bf16)), Σ' (LS0 : List (View.Piece (Elt F) S1024x2048 .bf16)), { LS1 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs0 ∗ owns (c : Thread nD τ) arg15 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ owns (c : Thread nD τ) arg14 fullShare xs0 ∗ owns (c : Thread nD τ) arg15 fullShare xs1) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, [], [], fun E K => ?run⟩
  case run =>
    simp only [cc0_in_proj_eq_skeleton]; unfold cc0_in_proj_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg14.eq_unread hfs0; obtain rfl := harg15.eq_unread hfs1
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]; · iexists _; iexact H10
    isplitl [H11]; · iexists _; iexact H11
    isplitl [HS0]
    · iexists _; isplitr; · ipureintro; exact harg14.read_unread _
      iexact HS0
    iexists _; isplitr; · ipureintro; exact harg15.read_unread _
    iexact HS1

set_option maxHeartbeats 1000000 in
/-- Case D's pieces, with the run. -/
noncomputable def kernelRun0_D (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1792 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S64x8192 .f32) (harg9 : arg9.IsWhole) (arg10 : Memref sig .tc .vmem S256x2048 .f32) (harg10 : arg10.IsWhole) (arg11 : Memref sig .tc .vmem S1024x1792 .bf16) (harg11 : arg11.IsWhole) (arg12 : Memref sig .tc .vmem S64x8192 .bf16) (harg12 : arg12.IsWhole) (arg13 : Memref sig .tc .vmem S256x2048 .bf16) (harg13 : arg13.IsWhole) (arg14 : Memref sig .tc .vmem S1024x2048 .bf16) (harg14 : arg14.IsWhole) (arg15 : Memref sig .tc .vmem S1024x128 .f32) (harg15 : arg15.IsWhole) (hc0 : ¬cond0_0 i) (hc1 : ¬cond0_1 i) (hc2 : ¬cond0_2 i) (hc3 : cond0_3 i)
    (x0 : Vec F S1024x2048 .f32) (x1 : Vec F S1x2048 .f32) (x2 : Vec F S2048x1792 .bf16) (x3 : Vec F S1024x128 .f32) (x4 : Vec F S1024x128 .f32) (x5 : Vec F S1x128 .f32) (x6 : Vec F S1x128 .f32) (x7 : Vec F S64x8192 .f32) (x8 : Vec F S256x2048 .f32) (xs0 : Vec F S1024x2048 .bf16) (xs1 : Vec F S1024x128 .f32) :
    Σ' (L9 : List (View.Piece (Elt F) S1024x1792 .bf16)), Σ' (L10 : List (View.Piece (Elt F) S64x8192 .bf16)), Σ' (L11 : List (View.Piece (Elt F) S256x2048 .bf16)), Σ' (LS0 : List (View.Piece (Elt F) S1024x2048 .bf16)), { LS1 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs0 ∗ owns (c : Thread nD τ) arg15 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ owns (c : Thread nD τ) arg14 fullShare xs0 ∗ owns (c : Thread nD τ) arg15 fullShare xs1) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, [], [], fun E K => ?run⟩
  case run =>
    simp only [cc0_in_proj_eq_skeleton]; unfold cc0_in_proj_skel
    simp only [k0_part19_eq_skeleton, k0_part20_eq_skeleton, k0_part21_eq_skeleton, k0_part22_eq_skeleton, k0_part23_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg14.eq_unread hfs0; obtain rfl := harg15.eq_unread hfs1
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]; · iexists _; iexact H10
    isplitl [H11]; · iexists _; iexact H11
    isplitl [HS0]
    · iexists _; isplitr; · ipureintro; exact harg14.read_unread _
      iexact HS0
    iexists _; isplitr; · ipureintro; exact harg15.read_unread _
    iexact HS1

end Cert.InProjIdeal.Run

end
-- ==== Proof.InBlocks.lean ====
/- One grid step of the input projection, in the kernel's own operations: the pieces a step stores, by the part of
   its rows, the pair of heads of a product, the head of the pair, and what is done to a head's 128 columns. -/
module

public import proofs.«01_k».proof.Proof.InRun

@[expose] public section

set_option maxRecDepth 16384

noncomputable section

namespace Cert.Proof.InBlocks

open Idealize.ShloMosaic Idealize.ShloMosaic.TcCoe Idealize.ShloMosaic.Tactic Cert.InProjIdeal Cert.InProjIdeal.Gen Cert.InProjIdeal.Run

variable {F : FTy → Type} [FloatOps F] [Named F]

/-- What is done to a head's columns: nothing, the rotation, the rotation and the scale, the norm with the query's gain
    and scale, the norm with the key's gain. -/
inductive Step where
  | plain | rot | rotS | normQ | normK
  deriving DecidableEq

/-! The products and what is done to a head, for 512 rows at once. -/

def acc512 (h : Vec F S512x2048 .bf16) (w : Vec F S2048x256 .bf16) : FVec F S512x256 .f32 :=
  matmul dot_S512x2048_S2048x256_S512x256_1_0_0_1_n_n none h (shapeCast S2048x256 w shapeCasts_S2048x256_S2048x256)
    (constant S512x256 .f32 0x00000000#32)

/-- One of the two heads of a product. -/
def half512 : Fin 2 → FVec F S512x256 .f32 → FVec F S512x128 .f32
  | ⟨0, _⟩, a => extractStridedSlice S512x128 ![0, 0] a slices_S512x256_o0_0_S512x128
  | ⟨1, _⟩, a => extractStridedSlice S512x128 ![0, 128] a slices_S512x256_o0_128_S512x128

def rot512 (y : FVec F S512x128 .f32) (c s : Vec F S512x128 .f32) : FVec F S512x128 .f32 :=
  addf (mulf y (shapeCast S512x128 c shapeCasts_S512x128_S512x128))
    (mulf (dynamicRotate 1 64#32 none y rotates_S512x128_d1) (shapeCast S512x128 s shapeCasts_S512x128_S512x128))

def norm512 (y : FVec F S512x128 .f32) (g : Vec F S1x128 .f32) : FVec F S512x128 .f32 :=
  mulf
    (mulf y
      (broadcastTo S512x128
        (rsqrt (addf
          (divf (shapeCast S512x1 (multiReduction .add [1] S512 (mulf y y) 0x00000000#32 reduces_S512x128_S512 (.inl rfl) rfl)
            shapeCasts_S512_S512x1) (broadcast S512x1 (Scalar.ofBits .f32 0x43000000#32)))
          (broadcast S512x1 (Scalar.ofBits .f32 0x358637BD#32)))) broadcasts_S512x1_S512x128))
    (broadcastTo S512x128 (shapeCast S1x128 g shapeCasts_S1x128_S1x128) broadcasts_S1x128_S512x128)

def step512 (y : FVec F S512x128 .f32) (c s : Vec F S512x128 .f32) (qg kg : Vec F S1x128 .f32) : Step → FVec F S512x128 .f32
  | .plain => y
  | .rot => rot512 y c s
  | .rotS => mulf (rot512 y c s) (broadcast S512x128 (Named.named κ "scale" 0x3DB504F3#32))
  | .normQ => mulf (norm512 y qg) (broadcast S512x128 (Named.named κ "scale2" 0x3E0293EE#32))
  | .normK => norm512 y kg

/-! The products and what is done to a head, for 1024 rows at once. -/

def acc1024 (h : Vec F S1024x2048 .bf16) (w : Vec F S2048x256 .bf16) : FVec F S1024x256 .f32 :=
  matmul dot_S1024x2048_S2048x256_S1024x256_1_0_0_1_n_n none h (shapeCast S2048x256 w shapeCasts_S2048x256_S2048x256)
    (constant S1024x256 .f32 0x00000000#32)

/-- One of the two heads of a product. -/
def half1024 : Fin 2 → FVec F S1024x256 .f32 → FVec F S1024x128 .f32
  | ⟨0, _⟩, a => extractStridedSlice S1024x128 ![0, 0] a slices_S1024x256_o0_0_S1024x128
  | ⟨1, _⟩, a => extractStridedSlice S1024x128 ![0, 128] a slices_S1024x256_o0_128_S1024x128

def rot1024 (y : FVec F S1024x128 .f32) (c s : Vec F S1024x128 .f32) : FVec F S1024x128 .f32 :=
  addf (mulf y (shapeCast S1024x128 c shapeCasts_S1024x128_S1024x128))
    (mulf (dynamicRotate 1 64#32 none y rotates_S1024x128_d1) (shapeCast S1024x128 s shapeCasts_S1024x128_S1024x128))

def norm1024 (y : FVec F S1024x128 .f32) (g : Vec F S1x128 .f32) : FVec F S1024x128 .f32 :=
  mulf
    (mulf y
      (broadcastTo S1024x128
        (rsqrt (addf
          (divf (shapeCast S1024x1 (multiReduction .add [1] S1024 (mulf y y) 0x00000000#32 reduces_S1024x128_S1024 (.inl rfl) rfl)
            shapeCasts_S1024_S1024x1) (broadcast S1024x1 (Scalar.ofBits .f32 0x43000000#32)))
          (broadcast S1024x1 (Scalar.ofBits .f32 0x358637BD#32)))) broadcasts_S1024x1_S1024x128))
    (broadcastTo S1024x128 (shapeCast S1x128 g shapeCasts_S1x128_S1x128) broadcasts_S1x128_S1024x128)

def step1024 (y : FVec F S1024x128 .f32) (c s : Vec F S1024x128 .f32) (qg kg : Vec F S1x128 .f32) : Step → FVec F S1024x128 .f32
  | .plain => y
  | .rot => rot1024 y c s
  | .rotS => mulf (rot1024 y c s) (broadcast S1024x128 (Named.named κ "scale" 0x3DB504F3#32))
  | .normQ => mulf (norm1024 y qg) (broadcast S1024x128 (Named.named κ "scale2" 0x3E0293EE#32))
  | .normK => norm1024 y kg

/-! The places a step reads and writes. -/

theorem inb_out (q : Fin 2) (p : Fin 7) (b : Fin 2) :
    ∀ a, (![512 * q.val, 128 * (2 * p.val + b.val)] : Fin 2 → ℕ) a + S512x128.size a ≤ S1024x1792.size a := by
  intro a; have := q.isLt; have := p.isLt; have := b.isLt
  fin_cases a
  · show 512 * q.val + 512 ≤ 1024; omega
  · show 128 * (2 * p.val + b.val) + 128 ≤ 1792; omega

theorem inb_outB (p : Fin 7) (b : Fin 2) :
    ∀ a, (![0, 128 * (2 * p.val + b.val)] : Fin 2 → ℕ) a + S1024x128.size a ≤ S1024x1792.size a := by
  intro a; have := p.isLt; have := b.isLt
  fin_cases a
  · show 0 + 1024 ≤ 1024; omega
  · show 128 * (2 * p.val + b.val) + 128 ≤ 1792; omega

theorem inb_w (p : Fin 7) : ∀ a, (![0, 256 * p.val] : Fin 2 → ℕ) a + S2048x256.size a ≤ S2048x1792.size a := by
  intro a; have := p.isLt
  fin_cases a
  · show 0 + 2048 ≤ 2048; omega
  · show 256 * p.val + 256 ≤ 1792; omega

theorem inb_h (q : Fin 2) : ∀ a, (![512 * q.val, 0] : Fin 2 → ℕ) a + S512x2048.size a ≤ S1024x2048.size a := by
  intro a; have := q.isLt
  fin_cases a
  · show 512 * q.val + 512 ≤ 1024; omega
  · show 0 + 2048 ≤ 2048; omega

theorem inb_r (q : Fin 2) : ∀ a, (![512 * q.val, 0] : Fin 2 → ℕ) a + S512x128.size a ≤ S1024x128.size a := by
  intro a; have := q.isLt
  fin_cases a
  · show 512 * q.val + 512 ≤ 1024; omega
  · show 0 + 128 ≤ 128; omega

theorem inb_s1 (q : Fin 2) : ∀ a, (![32 * q.val, 0] : Fin 2 → ℕ) a + S32x8192.size a ≤ S64x8192.size a := by
  intro a; have := q.isLt
  fin_cases a
  · show 32 * q.val + 32 ≤ 64; omega
  · show 0 + 8192 ≤ 8192; omega

theorem inb_s2 (q : Fin 2) : ∀ a, (![128 * q.val, 0] : Fin 2 → ℕ) a + S128x2048.size a ≤ S256x2048.size a := by
  intro a; have := q.isLt
  fin_cases a
  · show 128 * q.val + 128 ≤ 256; omega
  · show 0 + 2048 ≤ 2048; omega

abbrev rOut (q : Fin 2) (p : Fin 7) (b : Fin 2) : Rect S1024x1792 := Rect.unit ![512 * q.val, 128 * (2 * p.val + b.val)] S512x128.size (inb_out q p b)
abbrev rOutB (p : Fin 7) (b : Fin 2) : Rect S1024x1792 := Rect.unit ![0, 128 * (2 * p.val + b.val)] S1024x128.size (inb_outB p b)
abbrev rW (p : Fin 7) : Rect S2048x1792 := Rect.unit ![0, 256 * p.val] S2048x256.size (inb_w p)
abbrev rH (q : Fin 2) : Rect S1024x2048 := Rect.unit ![512 * q.val, 0] S512x2048.size (inb_h q)
abbrev rR (q : Fin 2) : Rect S1024x128 := Rect.unit ![512 * q.val, 0] S512x128.size (inb_r q)
abbrev rS1 (q : Fin 2) : Rect S64x8192 := Rect.unit ![32 * q.val, 0] S32x8192.size (inb_s1 q)
abbrev rS2 (q : Fin 2) : Rect S256x2048 := Rect.unit ![128 * q.val, 0] S128x2048.size (inb_s2 q)

/-- The heads of a tile by pair and place, with what is done to each, the last stored first. -/
abbrev headsA : List (Fin 7 × Fin 2 × Step) :=
  [(6, 1, .rotS), (6, 0, .rotS), (5, 1, .rotS), (5, 0, .rotS), (4, 1, .rotS), (4, 0, .rotS), (3, 1, .rot), (3, 0, .rot),
   (2, 1, .rot), (2, 0, .rot), (1, 1, .rot), (1, 0, .rot), (0, 1, .rot), (0, 0, .rot)]
abbrev headsB : List (Fin 7 × Fin 2 × Step) :=
  [(6, 1, .plain), (6, 0, .plain), (5, 1, .plain), (5, 0, .plain), (4, 1, .plain), (4, 0, .plain), (3, 1, .plain),
   (3, 0, .plain), (2, 1, .plain), (2, 0, .plain), (1, 1, .plain), (1, 0, .plain), (0, 1, .rotS), (0, 0, .rotS)]
abbrev headsC : List (Fin 7 × Fin 2 × Step) :=
  [(1, 1, .plain), (1, 0, .plain), (0, 1, .plain), (0, 0, .plain), (6, 1, .normK), (6, 0, .normK), (5, 1, .normQ),
   (5, 0, .normQ), (4, 1, .normQ), (4, 0, .normQ), (3, 1, .normQ), (3, 0, .normQ), (2, 1, .normQ), (2, 0, .normQ)]
abbrev headsD : List (Fin 7 × Fin 2 × Step) :=
  [(6, 1, .plain), (6, 0, .plain), (5, 1, .plain), (5, 0, .plain), (4, 1, .plain), (4, 0, .plain), (3, 1, .plain),
   (3, 0, .plain), (2, 1, .normK), (2, 0, .normK), (1, 1, .normK), (1, 0, .normK), (0, 1, .normK), (0, 0, .normK)]

/-- A head's piece of a step in two parts, from what is loaded. -/
def piece (h : Fin 2 → Vec F S512x2048 .bf16) (w : Fin 7 → Vec F S2048x256 .bf16) (r c s : Fin 2 → Vec F S512x128 .f32)
    (qg kg : Vec F S1x128 .f32) (q : Fin 2) (x : Fin 7 × Fin 2 × Step) : View.Piece (Elt F) S1024x1792 .bf16 :=
  ⟨rOut q x.1 x.2.1,
    truncf .bf16 (step512 (mulf (half512 x.2.1 (acc512 (h q) (w x.1))) (r q)) (c q) (s q) qg kg x.2.2) bitsLt_bf16_f32⟩

/-- A head's piece of a step in one part. -/
def pieceB (h : Vec F S1024x2048 .bf16) (w : Fin 7 → Vec F S2048x256 .bf16) (r c s : Vec F S1024x128 .f32)
    (qg kg : Vec F S1x128 .f32) (x : Fin 7 × Fin 2 × Step) : View.Piece (Elt F) S1024x1792 .bf16 :=
  ⟨rOutB x.1 x.2.1,
    truncf .bf16 (step1024 (mulf (half1024 x.2.1 (acc1024 h (w x.1))) r) c s qg kg x.2.2) bitsLt_bf16_f32⟩

/-- The rows' scale, on 128 columns. -/
def scalePart (x : Vec F S512x2048 .f32) : FVec F S512x128 .f32 := k0_pay12 x

/-- The rows times the gain. -/
def gainPart (x : Vec F S512x2048 .f32) (g : Vec F S1x2048 .f32) : FVec F S512x2048 .bf16 := k0_pay13 x g

def hPiece (x : Fin 2 → Vec F S512x2048 .f32) (g : Vec F S1x2048 .f32) (q : Fin 2) : View.Piece (Elt F) S1024x2048 .bf16 :=
  ⟨rH q, k0_pay13 (x q) g⟩
def rPiece (x : Fin 2 → Vec F S512x2048 .f32) (q : Fin 2) : View.Piece (Elt F) S1024x128 .f32 := ⟨rR q, k0_pay12 (x q)⟩
def s1Piece (x : Fin 2 → Vec F S32x8192 .f32) (q : Fin 2) : View.Piece (Elt F) S64x8192 .bf16 :=
  ⟨rS1 q, truncf .bf16 (shapeCast S32x8192 (x q) shapeCasts_S32x8192_S32x8192) bitsLt_bf16_f32⟩
def s2Piece (x : Fin 2 → Vec F S128x2048 .f32) (q : Fin 2) : View.Piece (Elt F) S256x2048 .bf16 :=
  ⟨rS2 q, truncf .bf16 (shapeCast S128x2048 (x q) shapeCasts_S128x2048_S128x2048) bitsLt_bf16_f32⟩

section Runs

variable (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1792 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S64x8192 .f32) (harg9 : arg9.IsWhole) (arg10 : Memref sig .tc .vmem S256x2048 .f32) (harg10 : arg10.IsWhole) (arg11 : Memref sig .tc .vmem S1024x1792 .bf16) (harg11 : arg11.IsWhole) (arg12 : Memref sig .tc .vmem S64x8192 .bf16) (harg12 : arg12.IsWhole) (arg13 : Memref sig .tc .vmem S256x2048 .bf16) (harg13 : arg13.IsWhole) (arg14 : Memref sig .tc .vmem S1024x2048 .bf16) (harg14 : arg14.IsWhole) (arg15 : Memref sig .tc .vmem S1024x128 .f32) (harg15 : arg15.IsWhole)
  (x0 : Vec F S1024x2048 .f32) (x1 : Vec F S1x2048 .f32) (x2 : Vec F S2048x1792 .bf16) (x3 : Vec F S1024x128 .f32) (x4 : Vec F S1024x128 .f32) (x5 : Vec F S1x128 .f32) (x6 : Vec F S1x128 .f32) (x7 : Vec F S64x8192 .f32) (x8 : Vec F S256x2048 .f32)

theorem outA (hc0 : cond0_0 i) (hc1 : ¬cond0_1 i) (hc2 : ¬cond0_2 i) (hc3 : ¬cond0_3 i) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8).1
      = headsA.map (piece (fun q => View.readCov arg14.view [hPiece (fun q => View.readAt (Elt F) arg2.view (rH q).toLoadRect (harg2.unread x0)) (View.readAt (Elt F) arg3.view (Rect.unit ![0, 0] S1x2048.size inb_S1x2048_S1x2048_0_0).toLoadRect (harg3.unread x1)) q] (rH q).toLoadRect) (fun p => View.readAt (Elt F) arg4.view (rW p).toLoadRect (harg4.unread x2)) (fun q => View.readCov arg15.view [rPiece (fun q => View.readAt (Elt F) arg2.view (rH q).toLoadRect (harg2.unread x0)) q] (rR q).toLoadRect) (fun q => View.readAt (Elt F) arg5.view (rR q).toLoadRect (harg5.unread x3)) (fun q => View.readAt (Elt F) arg6.view (rR q).toLoadRect (harg6.unread x4)) (View.readAt (Elt F) arg7.view (Rect.unit ![0, 0] S1x128.size inb_S1x128_S1x128_0_0).toLoadRect (harg7.unread x5)) (View.readAt (Elt F) arg8.view (Rect.unit ![0, 0] S1x128.size inb_S1x128_S1x128_0_0).toLoadRect (harg8.unread x6)) 1) ++ headsA.map (piece (fun q => View.readCov arg14.view [hPiece (fun q => View.readAt (Elt F) arg2.view (rH q).toLoadRect (harg2.unread x0)) (View.readAt (Elt F) arg3.view (Rect.unit ![0, 0] S1x2048.size inb_S1x2048_S1x2048_0_0).toLoadRect (harg3.unread x1)) q] (rH q).toLoadRect) (fun p => View.readAt (Elt F) arg4.view (rW p).toLoadRect (harg4.unread x2)) (fun q => View.readCov arg15.view [rPiece (fun q => View.readAt (Elt F) arg2.view (rH q).toLoadRect (harg2.unread x0)) q] (rR q).toLoadRect) (fun q => View.readAt (Elt F) arg5.view (rR q).toLoadRect (harg5.unread x3)) (fun q => View.readAt (Elt F) arg6.view (rR q).toLoadRect (harg6.unread x4)) (View.readAt (Elt F) arg7.view (Rect.unit ![0, 0] S1x128.size inb_S1x128_S1x128_0_0).toLoadRect (harg7.unread x5)) (View.readAt (Elt F) arg8.view (Rect.unit ![0, 0] S1x128.size inb_S1x128_S1x128_0_0).toLoadRect (harg8.unread x6)) 0) := by
  sl_kernel_rfl

theorem slab1A (hc0 : cond0_0 i) (hc1 : ¬cond0_1 i) (hc2 : ¬cond0_2 i) (hc3 : ¬cond0_3 i) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8).2.1
      = [s1Piece (fun q => View.readAt (Elt F) arg9.view (rS1 q).toLoadRect (harg9.unread x7)) 1, s1Piece (fun q => View.readAt (Elt F) arg9.view (rS1 q).toLoadRect (harg9.unread x7)) 0] := by
  sl_kernel_rfl

theorem slab2A (hc0 : cond0_0 i) (hc1 : ¬cond0_1 i) (hc2 : ¬cond0_2 i) (hc3 : ¬cond0_3 i) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8).2.2.1
      = [s2Piece (fun q => View.readAt (Elt F) arg10.view (rS2 q).toLoadRect (harg10.unread x8)) 1, s2Piece (fun q => View.readAt (Elt F) arg10.view (rS2 q).toLoadRect (harg10.unread x8)) 0] := by
  sl_kernel_rfl

theorem hA (hc0 : cond0_0 i) (hc1 : ¬cond0_1 i) (hc2 : ¬cond0_2 i) (hc3 : ¬cond0_3 i) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8).2.2.2.1
      = [hPiece (fun q => View.readAt (Elt F) arg2.view (rH q).toLoadRect (harg2.unread x0)) (View.readAt (Elt F) arg3.view (Rect.unit ![0, 0] S1x2048.size inb_S1x2048_S1x2048_0_0).toLoadRect (harg3.unread x1)) 1, hPiece (fun q => View.readAt (Elt F) arg2.view (rH q).toLoadRect (harg2.unread x0)) (View.readAt (Elt F) arg3.view (Rect.unit ![0, 0] S1x2048.size inb_S1x2048_S1x2048_0_0).toLoadRect (harg3.unread x1)) 0] := by
  sl_kernel_rfl

theorem rA (hc0 : cond0_0 i) (hc1 : ¬cond0_1 i) (hc2 : ¬cond0_2 i) (hc3 : ¬cond0_3 i) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8).2.2.2.2.1
      = [rPiece (fun q => View.readAt (Elt F) arg2.view (rH q).toLoadRect (harg2.unread x0)) 1, rPiece (fun q => View.readAt (Elt F) arg2.view (rH q).toLoadRect (harg2.unread x0)) 0] := by
  sl_kernel_rfl

theorem outB (hc0 : ¬cond0_0 i) (hc1 : cond0_1 i) (hc2 : ¬cond0_2 i) (hc3 : ¬cond0_3 i) (xs0 : Vec F S1024x2048 .bf16) (xs1 : Vec F S1024x128 .f32) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 xs0 xs1).1
      = headsB.map (pieceB (View.readAt (Elt F) arg14.view (Rect.unit ![0, 0] S1024x2048.size inb_S1024x2048_S1024x2048_0_0).toLoadRect (harg14.unread xs0)) (fun p => View.readAt (Elt F) arg4.view (rW p).toLoadRect (harg4.unread x2)) (View.readAt (Elt F) arg15.view (Rect.unit ![0, 0] S1024x128.size inb_S1024x128_S1024x128_0_0).toLoadRect (harg15.unread xs1)) (View.readAt (Elt F) arg5.view (Rect.unit ![0, 0] S1024x128.size inb_S1024x128_S1024x128_0_0).toLoadRect (harg5.unread x3)) (View.readAt (Elt F) arg6.view (Rect.unit ![0, 0] S1024x128.size inb_S1024x128_S1024x128_0_0).toLoadRect (harg6.unread x4)) (View.readAt (Elt F) arg7.view (Rect.unit ![0, 0] S1x128.size inb_S1x128_S1x128_0_0).toLoadRect (harg7.unread x5)) (View.readAt (Elt F) arg8.view (Rect.unit ![0, 0] S1x128.size inb_S1x128_S1x128_0_0).toLoadRect (harg8.unread x6))) := by
  sl_kernel_rfl

theorem slab1B (hc0 : ¬cond0_0 i) (hc1 : cond0_1 i) (hc2 : ¬cond0_2 i) (hc3 : ¬cond0_3 i) (xs0 : Vec F S1024x2048 .bf16) (xs1 : Vec F S1024x128 .f32) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 xs0 xs1).2.1
      = [⟨Rect.unit ![0, 0] S64x8192.size inb_S64x8192_S64x8192_0_0, truncf .bf16 (shapeCast S64x8192 (View.readAt (Elt F) arg9.view (Rect.unit ![0, 0] S64x8192.size inb_S64x8192_S64x8192_0_0).toLoadRect (harg9.unread x7)) shapeCasts_S64x8192_S64x8192) bitsLt_bf16_f32⟩] := by
  sl_kernel_rfl

theorem slab2B (hc0 : ¬cond0_0 i) (hc1 : cond0_1 i) (hc2 : ¬cond0_2 i) (hc3 : ¬cond0_3 i) (xs0 : Vec F S1024x2048 .bf16) (xs1 : Vec F S1024x128 .f32) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 xs0 xs1).2.2.1
      = [⟨Rect.unit ![0, 0] S256x2048.size inb_S256x2048_S256x2048_0_0, truncf .bf16 (shapeCast S256x2048 (View.readAt (Elt F) arg10.view (Rect.unit ![0, 0] S256x2048.size inb_S256x2048_S256x2048_0_0).toLoadRect (harg10.unread x8)) shapeCasts_S256x2048_S256x2048) bitsLt_bf16_f32⟩] := by
  sl_kernel_rfl

theorem outC (hc0 : ¬cond0_0 i) (hc1 : ¬cond0_1 i) (hc2 : cond0_2 i) (hc3 : ¬cond0_3 i) (xs0 : Vec F S1024x2048 .bf16) (xs1 : Vec F S1024x128 .f32) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 xs0 xs1).1
      = headsC.map (piece (fun q => View.readAt (Elt F) arg14.view (rH q).toLoadRect (harg14.unread xs0)) (fun p => View.readAt (Elt F) arg4.view (rW p).toLoadRect (harg4.unread x2)) (fun q => View.readAt (Elt F) arg15.view (rR q).toLoadRect (harg15.unread xs1)) (fun q => View.readAt (Elt F) arg5.view (rR q).toLoadRect (harg5.unread x3)) (fun q => View.readAt (Elt F) arg6.view (rR q).toLoadRect (harg6.unread x4)) (View.readAt (Elt F) arg7.view (Rect.unit ![0, 0] S1x128.size inb_S1x128_S1x128_0_0).toLoadRect (harg7.unread x5)) (View.readAt (Elt F) arg8.view (Rect.unit ![0, 0] S1x128.size inb_S1x128_S1x128_0_0).toLoadRect (harg8.unread x6)) 1) ++ headsC.map (piece (fun q => View.readAt (Elt F) arg14.view (rH q).toLoadRect (harg14.unread xs0)) (fun p => View.readAt (Elt F) arg4.view (rW p).toLoadRect (harg4.unread x2)) (fun q => View.readAt (Elt F) arg15.view (rR q).toLoadRect (harg15.unread xs1)) (fun q => View.readAt (Elt F) arg5.view (rR q).toLoadRect (harg5.unread x3)) (fun q => View.readAt (Elt F) arg6.view (rR q).toLoadRect (harg6.unread x4)) (View.readAt (Elt F) arg7.view (Rect.unit ![0, 0] S1x128.size inb_S1x128_S1x128_0_0).toLoadRect (harg7.unread x5)) (View.readAt (Elt F) arg8.view (Rect.unit ![0, 0] S1x128.size inb_S1x128_S1x128_0_0).toLoadRect (harg8.unread x6)) 0) := by
  sl_kernel_rfl

theorem slab1C (hc0 : ¬cond0_0 i) (hc1 : ¬cond0_1 i) (hc2 : cond0_2 i) (hc3 : ¬cond0_3 i) (xs0 : Vec F S1024x2048 .bf16) (xs1 : Vec F S1024x128 .f32) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 xs0 xs1).2.1
      = [s1Piece (fun q => View.readAt (Elt F) arg9.view (rS1 q).toLoadRect (harg9.unread x7)) 1, s1Piece (fun q => View.readAt (Elt F) arg9.view (rS1 q).toLoadRect (harg9.unread x7)) 0] := by
  sl_kernel_rfl

theorem slab2C (hc0 : ¬cond0_0 i) (hc1 : ¬cond0_1 i) (hc2 : cond0_2 i) (hc3 : ¬cond0_3 i) (xs0 : Vec F S1024x2048 .bf16) (xs1 : Vec F S1024x128 .f32) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 xs0 xs1).2.2.1
      = [s2Piece (fun q => View.readAt (Elt F) arg10.view (rS2 q).toLoadRect (harg10.unread x8)) 1, s2Piece (fun q => View.readAt (Elt F) arg10.view (rS2 q).toLoadRect (harg10.unread x8)) 0] := by
  sl_kernel_rfl

theorem outD (hc0 : ¬cond0_0 i) (hc1 : ¬cond0_1 i) (hc2 : ¬cond0_2 i) (hc3 : cond0_3 i) (xs0 : Vec F S1024x2048 .bf16) (xs1 : Vec F S1024x128 .f32) :
    (kernelRun0_D c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 xs0 xs1).1
      = headsD.map (pieceB (View.readAt (Elt F) arg14.view (Rect.unit ![0, 0] S1024x2048.size inb_S1024x2048_S1024x2048_0_0).toLoadRect (harg14.unread xs0)) (fun p => View.readAt (Elt F) arg4.view (rW p).toLoadRect (harg4.unread x2)) (View.readAt (Elt F) arg15.view (Rect.unit ![0, 0] S1024x128.size inb_S1024x128_S1024x128_0_0).toLoadRect (harg15.unread xs1)) (View.readAt (Elt F) arg5.view (Rect.unit ![0, 0] S1024x128.size inb_S1024x128_S1024x128_0_0).toLoadRect (harg5.unread x3)) (View.readAt (Elt F) arg6.view (Rect.unit ![0, 0] S1024x128.size inb_S1024x128_S1024x128_0_0).toLoadRect (harg6.unread x4)) (View.readAt (Elt F) arg7.view (Rect.unit ![0, 0] S1x128.size inb_S1x128_S1x128_0_0).toLoadRect (harg7.unread x5)) (View.readAt (Elt F) arg8.view (Rect.unit ![0, 0] S1x128.size inb_S1x128_S1x128_0_0).toLoadRect (harg8.unread x6))) := by
  sl_kernel_rfl

theorem slab1D (hc0 : ¬cond0_0 i) (hc1 : ¬cond0_1 i) (hc2 : ¬cond0_2 i) (hc3 : cond0_3 i) (xs0 : Vec F S1024x2048 .bf16) (xs1 : Vec F S1024x128 .f32) :
    (kernelRun0_D c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 xs0 xs1).2.1
      = [⟨Rect.unit ![0, 0] S64x8192.size inb_S64x8192_S64x8192_0_0, truncf .bf16 (shapeCast S64x8192 (View.readAt (Elt F) arg9.view (Rect.unit ![0, 0] S64x8192.size inb_S64x8192_S64x8192_0_0).toLoadRect (harg9.unread x7)) shapeCasts_S64x8192_S64x8192) bitsLt_bf16_f32⟩] := by
  sl_kernel_rfl

theorem slab2D (hc0 : ¬cond0_0 i) (hc1 : ¬cond0_1 i) (hc2 : ¬cond0_2 i) (hc3 : cond0_3 i) (xs0 : Vec F S1024x2048 .bf16) (xs1 : Vec F S1024x128 .f32) :
    (kernelRun0_D c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 xs0 xs1).2.2.1
      = [⟨Rect.unit ![0, 0] S256x2048.size inb_S256x2048_S256x2048_0_0, truncf .bf16 (shapeCast S256x2048 (View.readAt (Elt F) arg10.view (Rect.unit ![0, 0] S256x2048.size inb_S256x2048_S256x2048_0_0).toLoadRect (harg10.unread x8)) shapeCasts_S256x2048_S256x2048) bitsLt_bf16_f32⟩] := by
  sl_kernel_rfl

end Runs

end Cert.Proof.InBlocks

end
-- ==== Proof.InStep.lean ====
/- What one grid step of the input projection leaves, at exact values: every element of its block of columns, in closed
   form, whichever parts the step's rows are taken in. -/
module

public import proofs.«01_k».proof.Proof.InBlocks
public import Idealize.ShloMosaic.Lib.Pointwise

@[expose] public section

set_option maxRecDepth 16384

noncomputable section

namespace Cert.Proof.InStep

open Idealize.ShloMosaic Idealize.ShloMosaic.TcCoe Idealize.ShloMosaic.Tactic Cert.InProjIdeal Cert.InProjIdeal.Gen Cert.InProjIdeal.Run Cert.Proof.InBlocks

/-- A column's partner in the rotation, half a head away. -/
abbrev turn (e : Fin 128) : Fin 128 := ⟨(e.val + 128 - 64) % 128, Nat.mod_lt _ (by decide)⟩

/-- A head's columns turned by the row's angles. -/
def rotv (a c s : Fin 128 → EReal) (e : Fin 128) : EReal := a e * c e + a (turn e) * s e

/-- A head's columns normed, with their gain. -/
def normv (a g : Fin 128 → EReal) (e : Fin 128) : EReal :=
  a e * Ideal.rsqrt (Ideal.div (∑ l, a l * a l) (Ideal.ofBits .f32 0x43000000#32) + Ideal.ofBits .f32 0x358637BD#32) * g e

/-- What is done to a head's columns. -/
def stepv (a c s qg kg : Fin 128 → EReal) : Step → Fin 128 → EReal
  | .plain, e => a e
  | .rot, e => rotv a c s e
  | .rotS, e => rotv a c s e * Named.named (F := Ideal) (φ := .f32) κ "scale" 0x3DB504F3#32
  | .normQ, e => normv a qg e * Named.named (F := Ideal) (φ := .f32) κ "scale2" 0x3E0293EE#32
  | .normK, e => normv a kg e

/-- What is done to the heads of a section of the projection. -/
def secStep : ℕ → Step
  | 0 => .rot
  | 1 => .rotS
  | 4 => .normQ
  | 5 => .normK
  | _ => .plain

/-- The column of a lane of the head a column lies in. -/
def laneCol (v : Fin 1792) (l : Fin 128) : Fin 1792 := ⟨128 * (v.val / 128) + l.val, by omega⟩

/-- A column of a pair of heads. -/
def col2 (p : Fin 7) (l : Fin 256) : Fin 1792 := ⟨256 * p.val + l.val, by omega⟩

/-- A row of a half. -/
def row2 (q : Fin 2) (i : Fin 512) : Fin 1024 := ⟨512 * q.val + i.val, by omega⟩

/-- A column's lane. -/
def laneOf (v : Fin 1792) : Fin 128 := ⟨v.val % 128, by omega⟩

/-- A step's block in closed form: from the normed rows `H`, the block of weights `W`, the rows' scales `R`, the tables. -/
def blockv (j : ℕ) (H : Fin 1024 → Fin 2048 → EReal) (W : Vec Ideal S2048x1792 .bf16) (R : Fin 1024 → EReal)
    (C S : Vec Ideal S1024x128 .f32) (qg kg : Vec Ideal S1x128 .f32) : Vec Ideal S1024x1792 .bf16 := fun y =>
  stepv
    (fun l => (∑ k : Fin 2048, H (y 0) k * W (ix2 k (laneCol (y 1) l))) * R (y 0))
    (fun l => C (ix2 (y 0) l)) (fun l => S (ix2 (y 0) l)) (fun l => qg (ix2 0 l)) (fun l => kg (ix2 0 l))
    (secStep ((14 * j + (y 1).val / 128) / 8)) (laneOf (y 1))

theorem half512_apply (h : Vec Ideal S512x2048 .bf16) (w : Vec Ideal S2048x256 .bf16) (b : Fin 2) (i : Fin 512) (e : Fin 128) :
    (half512 (F := Ideal) b (acc512 (F := Ideal) h w) : FVec Ideal S512x128 .f32) (ix2 i e)
      = ∑ k : Fin 2048, h (ix2 i k) * w (ix2 k (⟨128 * b.val + e.val, by have := b.isLt; omega⟩ : Fin 256)) := by
  match b with
  | ⟨0, _⟩ =>
    pointwise [half512, acc512]
  | ⟨1, _⟩ =>
    pointwise [half512, acc512]

theorem step512_apply (y : FVec Ideal S512x128 .f32) (c s : Vec Ideal S512x128 .f32) (qg kg : Vec Ideal S1x128 .f32) (t : Step)
    (i : Fin 512) (e : Fin 128) :
    (step512 (F := Ideal) y c s qg kg t : FVec Ideal S512x128 .f32) (ix2 i e)
      = stepv (fun l => y (ix2 i l)) (fun l => c (ix2 i l)) (fun l => s (ix2 i l)) (fun l => qg (ix2 0 l))
          (fun l => kg (ix2 0 l)) t e := by
  cases t with
  | plain => rfl
  | rot => pointwise [step512, rot512]; rfl
  | rotS => pointwise [step512, rot512]; rfl
  | normQ => pointwise [step512, norm512]; rfl
  | normK => pointwise [step512, norm512]; rfl

theorem half1024_apply (h : Vec Ideal S1024x2048 .bf16) (w : Vec Ideal S2048x256 .bf16) (b : Fin 2) (i : Fin 1024) (e : Fin 128) :
    (half1024 (F := Ideal) b (acc1024 (F := Ideal) h w) : FVec Ideal S1024x128 .f32) (ix2 i e)
      = ∑ k : Fin 2048, h (ix2 i k) * w (ix2 k (⟨128 * b.val + e.val, by have := b.isLt; omega⟩ : Fin 256)) := by
  match b with
  | ⟨0, _⟩ =>
    pointwise [half1024, acc1024]
  | ⟨1, _⟩ =>
    pointwise [half1024, acc1024]

theorem step1024_apply (y : FVec Ideal S1024x128 .f32) (c s : Vec Ideal S1024x128 .f32) (qg kg : Vec Ideal S1x128 .f32) (t : Step)
    (i : Fin 1024) (e : Fin 128) :
    (step1024 (F := Ideal) y c s qg kg t : FVec Ideal S1024x128 .f32) (ix2 i e)
      = stepv (fun l => y (ix2 i l)) (fun l => c (ix2 i l)) (fun l => s (ix2 i l)) (fun l => qg (ix2 0 l))
          (fun l => kg (ix2 0 l)) t e := by
  cases t with
  | plain => rfl
  | rot => pointwise [step1024, rot1024]; rfl
  | rotS => pointwise [step1024, rot1024]; rfl
  | normQ => pointwise [step1024, norm1024]; rfl
  | normK => pointwise [step1024, norm1024]; rfl

theorem ld_ix2 {a b a' b' : ℕ} {e : EltTy} (x : Vec Ideal ⟨2, ![a, b]⟩ e) (off : Fin 2 → ℕ)
    (inb : ∀ k, off k + (⟨2, ![a', b']⟩ : Shape).size k ≤ (⟨2, ![a, b]⟩ : Shape).size k) (i : Fin a') (k : Fin b') (i' : Fin a) (k' : Fin b)
    (hi : i'.val = off 0 + i.val) (hk : k'.val = off 1 + k.val) :
    View.ld (Val := Elt Ideal) x (Rect.unit off (⟨2, ![a', b']⟩ : Shape).size inb) (ix2 i k) = x (ix2 i' k') := by
  show x _ = _
  congr 1; funext d; apply Fin.ext
  match d with
  | ⟨0, _⟩ => show off 0 + 1 * i.val = i'.val; omega
  | ⟨1, _⟩ => show off 1 + 1 * k.val = k'.val; omega

section Parts

variable (heads : List (Fin 7 × Fin 2 × Step)) (j : ℕ)
  (hs : ∀ x ∈ heads, x.2.2 = secStep ((14 * j + (2 * x.1.val + x.2.1.val)) / 8))
  (hc : ∀ u : Fin 14, ∃ x ∈ heads, 2 * x.1.val + x.2.1.val = u.val)
  (H : Fin 1024 → Fin 2048 → EReal) (W : Vec Ideal S2048x1792 .bf16) (R : Fin 1024 → EReal)
  (C S : Vec Ideal S1024x128 .f32) (qg kg : Vec Ideal S1x128 .f32)
  (w : Fin 7 → Vec Ideal S2048x256 .bf16)
  (hw : ∀ p k (l : Fin 256), w p (ix2 k l) = W (ix2 k (col2 p l)))

include hs hc hw

theorem canon_one (h : Vec Ideal S1024x2048 .bf16) (r c s : Vec Ideal S1024x128 .f32)
    (hh : ∀ i k, h (ix2 i k) = H i k) (hr : ∀ i l, r (ix2 i l) = R i) (hcc : c = C) (hss : s = S) :
    View.canon (heads.map (pieceB (F := Ideal) h w r c s qg kg)) = blockv j H W R C S qg kg := by
  subst hcc hss
  funext y
  refine View.canon_apply_of_pieces (Val := Elt Ideal) (blockv j H W R c s qg kg) _ ?_ y ?_
  · intro p hp
    obtain ⟨⟨p, b, t⟩, hx, rfl⟩ := List.mem_map.mp hp
    intro x
    obtain ⟨i, e, rfl⟩ : ∃ (i : Fin 1024) (e : Fin 128), x = ix2 i e := ⟨x 0, x 1, eq_ix2 x⟩
    have ht := hs _ hx
    have hb := b.isLt
    have hp := p.isLt
    have he : (rOutB p b).emb (ix2 i e) = ix2 i (⟨128 * (2 * p.val + b.val) + e.val, by omega⟩ : Fin 1792) := by
      funext d; apply Fin.ext
      match d with
      | ⟨0, _⟩ => show 0 + 1 * i.val = i.val; omega
      | ⟨1, _⟩ => show 128 * (2 * p.val + b.val) + 1 * e.val = 128 * (2 * p.val + b.val) + e.val; omega
    show (step1024 (F := Ideal) (mulf (half1024 b (acc1024 h (w p))) r) c s qg kg t : FVec Ideal S1024x128 .f32) (ix2 i e)
      = blockv j H W R c s qg kg ((rOutB p b).emb (ix2 i e))
    rw [he, step1024_apply]
    unfold blockv
    have d1 : (128 * (2 * p.val + b.val) + e.val) / 128 = 2 * p.val + b.val := by omega
    have d2 : (128 * (2 * p.val + b.val) + e.val) % 128 = e.val := by omega
    dsimp only at ht ⊢
    have a0 : ∀ v : Fin 1792, (ix2 i v : S1024x1792.Idx) 0 = i := fun _ => rfl
    have a1 : ∀ v : Fin 1792, (ix2 i v : S1024x1792.Idx) 1 = v := fun _ => rfl
    have a2 : ∀ h, laneOf ⟨128 * (2 * p.val + b.val) + e.val, h⟩ = e := fun _ => Fin.ext d2
    simp only [a0, a1, a2, d1, ← ht]
    congr 1
    funext l
    show (half1024 (F := Ideal) b (acc1024 h (w p)) : FVec Ideal S1024x128 .f32) (ix2 i l) * r (ix2 i l) = _
    rw [half1024_apply, hr]
    congr 1
    refine Finset.sum_congr rfl fun k _ => ?_
    rw [hh, hw]
    congr 3; apply Fin.ext
    show 256 * p.val + (128 * b.val + l.val) = 128 * ((128 * (2 * p.val + b.val) + e.val) / 128) + l.val; omega
  · have h0 : (y 0).val < 1024 := (y 0).isLt
    have h1 : (y 1).val < 1792 := (y 1).isLt
    obtain ⟨x, hx, hu⟩ := hc ⟨(y 1).val / 128, by omega⟩
    refine ⟨_, List.mem_map.mpr ⟨x, hx, rfl⟩, ?_⟩
    refine (Rect.mem_set_unit (inb := inb_outB x.1 x.2.1)).mpr fun a => ?_
    have hu : 2 * x.1.val + x.2.1.val = (y 1).val / 128 := hu
    match a with
    | ⟨0, _⟩ => show 0 ≤ (y 0).val ∧ (y 0).val < 0 + 1024; omega
    | ⟨1, _⟩ => show 128 * (2 * x.1.val + x.2.1.val) ≤ (y 1).val ∧ (y 1).val < 128 * (2 * x.1.val + x.2.1.val) + 128; omega

theorem canon_two (h : Fin 2 → Vec Ideal S512x2048 .bf16) (r c s : Fin 2 → Vec Ideal S512x128 .f32)
    (hh : ∀ q (i : Fin 512) k, h q (ix2 i k) = H (row2 q i) k)
    (hr : ∀ q (i : Fin 512) l, r q (ix2 i l) = R (row2 q i))
    (hcc : ∀ q (i : Fin 512) l, c q (ix2 i l) = C (ix2 (row2 q i) l))
    (hss : ∀ q (i : Fin 512) l, s q (ix2 i l) = S (ix2 (row2 q i) l)) :
    View.canon (heads.map (piece (F := Ideal) h w r c s qg kg 1) ++ heads.map (piece (F := Ideal) h w r c s qg kg 0))
      = blockv j H W R C S qg kg := by
  funext y
  refine View.canon_apply_of_pieces (Val := Elt Ideal) (blockv j H W R C S qg kg) _ ?_ y ?_
  · intro p hp
    obtain ⟨q, ⟨p, b, t⟩, hx, rfl⟩ : ∃ q, ∃ x ∈ heads, p = piece (F := Ideal) h w r c s qg kg q x := by
      rcases List.mem_append.mp hp with hp | hp <;> obtain ⟨x, hx, rfl⟩ := List.mem_map.mp hp <;> exact ⟨_, x, hx, rfl⟩
    intro x
    obtain ⟨i, e, rfl⟩ : ∃ (i : Fin 512) (e : Fin 128), x = ix2 i e := ⟨x 0, x 1, eq_ix2 x⟩
    have ht := hs _ hx
    have hb := b.isLt
    have hp := p.isLt
    have hq := q.isLt
    have he : (rOut q p b).emb (ix2 i e)
        = ix2 (⟨512 * q.val + i.val, by omega⟩ : Fin 1024) (⟨128 * (2 * p.val + b.val) + e.val, by omega⟩ : Fin 1792) := by
      funext d; apply Fin.ext
      match d with
      | ⟨0, _⟩ => show 512 * q.val + 1 * i.val = 512 * q.val + i.val; omega
      | ⟨1, _⟩ => show 128 * (2 * p.val + b.val) + 1 * e.val = 128 * (2 * p.val + b.val) + e.val; omega
    show (step512 (F := Ideal) (mulf (half512 b (acc512 (h q) (w p))) (r q)) (c q) (s q) qg kg t : FVec Ideal S512x128 .f32)
        (ix2 i e) = blockv j H W R C S qg kg ((rOut q p b).emb (ix2 i e))
    rw [he, step512_apply]
    unfold blockv
    have d1 : (128 * (2 * p.val + b.val) + e.val) / 128 = 2 * p.val + b.val := by omega
    have d2 : (128 * (2 * p.val + b.val) + e.val) % 128 = e.val := by omega
    dsimp only at ht ⊢
    have a0 : ∀ (u : Fin 1024) (v : Fin 1792), (ix2 u v : S1024x1792.Idx) 0 = u := fun _ _ => rfl
    have a1 : ∀ (u : Fin 1024) (v : Fin 1792), (ix2 u v : S1024x1792.Idx) 1 = v := fun _ _ => rfl
    have a2 : ∀ h, laneOf ⟨128 * (2 * p.val + b.val) + e.val, h⟩ = e := fun _ => Fin.ext d2
    simp only [a0, a1, a2, d1, ← ht, hcc, hss]
    congr 1
    funext l
    show (half512 (F := Ideal) b (acc512 (h q) (w p)) : FVec Ideal S512x128 .f32) (ix2 i l) * r q (ix2 i l) = _
    rw [half512_apply, hr]
    congr 1
    refine Finset.sum_congr rfl fun k _ => ?_
    rw [hh, hw]
    congr 3; apply Fin.ext
    show 256 * p.val + (128 * b.val + l.val) = 128 * ((128 * (2 * p.val + b.val) + e.val) / 128) + l.val; omega
  · have h0 : (y 0).val < 1024 := (y 0).isLt
    have h1 : (y 1).val < 1792 := (y 1).isLt
    obtain ⟨x, hx, hu⟩ := hc ⟨(y 1).val / 128, by omega⟩
    have hu : 2 * x.1.val + x.2.1.val = (y 1).val / 128 := hu
    have key : ∀ q : Fin 2, (y 0).val / 512 = q.val → y ∈ (rOut q x.1 x.2.1).set := fun q hq => by
      refine (Rect.mem_set_unit (inb := inb_out q x.1 x.2.1)).mpr fun a => ?_
      match a with
      | ⟨0, _⟩ => show 512 * q.val ≤ (y 0).val ∧ (y 0).val < 512 * q.val + 512; omega
      | ⟨1, _⟩ => show 128 * (2 * x.1.val + x.2.1.val) ≤ (y 1).val ∧ (y 1).val < 128 * (2 * x.1.val + x.2.1.val) + 128; omega
    by_cases hq : (y 0).val < 512
    · exact ⟨_, List.mem_append_right _ (List.mem_map.mpr ⟨x, hx, rfl⟩), key 0 (by show _ = 0; omega)⟩
    · exact ⟨_, List.mem_append_left _ (List.mem_map.mpr ⟨x, hx, rfl⟩), key 1 (by show _ = 1; omega)⟩

end Parts

theorem steps_A : ∀ x ∈ headsA, x.2.2 = secStep ((14 * 0 + (2 * x.1.val + x.2.1.val)) / 8) := by decide
theorem steps_B : ∀ x ∈ headsB, x.2.2 = secStep ((14 * 1 + (2 * x.1.val + x.2.1.val)) / 8) := by decide
theorem steps_C : ∀ x ∈ headsC, x.2.2 = secStep ((14 * 2 + (2 * x.1.val + x.2.1.val)) / 8) := by decide
theorem steps_D : ∀ x ∈ headsD, x.2.2 = secStep ((14 * 3 + (2 * x.1.val + x.2.1.val)) / 8) := by decide
theorem all_A : ∀ u : Fin 14, ∃ x ∈ headsA, 2 * x.1.val + x.2.1.val = u.val := by decide
theorem all_B : ∀ u : Fin 14, ∃ x ∈ headsB, 2 * x.1.val + x.2.1.val = u.val := by decide
theorem all_C : ∀ u : Fin 14, ∃ x ∈ headsC, 2 * x.1.val + x.2.1.val = u.val := by decide
theorem all_D : ∀ u : Fin 14, ∃ x ∈ headsD, 2 * x.1.val + x.2.1.val = u.val := by decide

end Cert.Proof.InStep

end
-- ==== Proof.InFrame.lean ====
/- The frame of the input projection's program: the four cases put together over the grid, with what each point leaves in
   the results' buffers and in the two buffers that the points of a row share. -/
module

public import proofs.«01_k».proof.Proof.InRun
public import Idealize.ShloMosaic.Lib.Claim

@[expose] public section

set_option maxRecDepth 16384

noncomputable section

namespace Cert.InProjIdeal.Run

open Idealize.ShloMosaic Idealize.ShloMosaic.TcCoe Idealize.ShloMosaic.Tactic
open Cert.InProjIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
section

variable (c : Dev nD) (i : grid0.Coords)
  (arg2 : Memref sig .tc .vmem S1024x2048 .f32) (harg2 : arg2.IsWhole)
  (arg3 : Memref sig .tc .vmem S1x2048 .f32) (harg3 : arg3.IsWhole)
  (arg4 : Memref sig .tc .vmem S2048x1792 .bf16) (harg4 : arg4.IsWhole)
  (arg5 : Memref sig .tc .vmem S1024x128 .f32) (harg5 : arg5.IsWhole)
  (arg6 : Memref sig .tc .vmem S1024x128 .f32) (harg6 : arg6.IsWhole)
  (arg7 : Memref sig .tc .vmem S1x128 .f32) (harg7 : arg7.IsWhole)
  (arg8 : Memref sig .tc .vmem S1x128 .f32) (harg8 : arg8.IsWhole)
  (arg9 : Memref sig .tc .vmem S64x8192 .f32) (harg9 : arg9.IsWhole)
  (arg10 : Memref sig .tc .vmem S256x2048 .f32) (harg10 : arg10.IsWhole)
  (arg11 : Memref sig .tc .vmem S1024x1792 .bf16) (harg11 : arg11.IsWhole)
  (arg12 : Memref sig .tc .vmem S64x8192 .bf16) (harg12 : arg12.IsWhole)
  (arg13 : Memref sig .tc .vmem S256x2048 .bf16) (harg13 : arg13.IsWhole)
  (arg14 : Memref sig .tc .vmem S1024x2048 .bf16) (harg14 : arg14.IsWhole)
  (arg15 : Memref sig .tc .vmem S1024x128 .f32) (harg15 : arg15.IsWhole)

theorem cover0_A_9 (hc0 : cond0_0 i) (hc1 : ¬cond0_1 i) (hc2 : ¬cond0_2 i) (hc3 : ¬cond0_3 i)
    (x0 : Vec F S1024x2048 .f32) (x1 : Vec F S1x2048 .f32) (x2 : Vec F S2048x1792 .bf16) (x3 : Vec F S1024x128 .f32) (x4 : Vec F S1024x128 .f32) (x5 : Vec F S1x128 .f32) (x6 : Vec F S1x128 .f32) (x7 : Vec F S64x8192 .f32) (x8 : Vec F S256x2048 .f32) (y : S1024x1792.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8).1 S512x128.size (by sl_kernel_rfl) y

def out0_A_9 (hc0 : cond0_0 i) (hc1 : ¬cond0_1 i) (hc2 : ¬cond0_2 i) (hc3 : ¬cond0_3 i)
    (x0 : Vec F S1024x2048 .f32) (x1 : Vec F S1x2048 .f32) (x2 : Vec F S2048x1792 .bf16) (x3 : Vec F S1024x128 .f32) (x4 : Vec F S1024x128 .f32) (x5 : Vec F S1x128 .f32) (x6 : Vec F S1x128 .f32) (x7 : Vec F S64x8192 .f32) (x8 : Vec F S256x2048 .f32) : Vec F S1024x1792 .bf16 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8).1)

theorem cover0_A_10 (hc0 : cond0_0 i) (hc1 : ¬cond0_1 i) (hc2 : ¬cond0_2 i) (hc3 : ¬cond0_3 i)
    (x0 : Vec F S1024x2048 .f32) (x1 : Vec F S1x2048 .f32) (x2 : Vec F S2048x1792 .bf16) (x3 : Vec F S1024x128 .f32) (x4 : Vec F S1024x128 .f32) (x5 : Vec F S1x128 .f32) (x6 : Vec F S1x128 .f32) (x7 : Vec F S64x8192 .f32) (x8 : Vec F S256x2048 .f32) (y : S64x8192.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8).2.1 S32x8192.size (by sl_kernel_rfl) y

def out0_A_10 (hc0 : cond0_0 i) (hc1 : ¬cond0_1 i) (hc2 : ¬cond0_2 i) (hc3 : ¬cond0_3 i)
    (x0 : Vec F S1024x2048 .f32) (x1 : Vec F S1x2048 .f32) (x2 : Vec F S2048x1792 .bf16) (x3 : Vec F S1024x128 .f32) (x4 : Vec F S1024x128 .f32) (x5 : Vec F S1x128 .f32) (x6 : Vec F S1x128 .f32) (x7 : Vec F S64x8192 .f32) (x8 : Vec F S256x2048 .f32) : Vec F S64x8192 .bf16 :=
  VO0_10.read (Elt F) (VO0_10.writes (Elt F) VO0_10.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8).2.1)

theorem cover0_A_11 (hc0 : cond0_0 i) (hc1 : ¬cond0_1 i) (hc2 : ¬cond0_2 i) (hc3 : ¬cond0_3 i)
    (x0 : Vec F S1024x2048 .f32) (x1 : Vec F S1x2048 .f32) (x2 : Vec F S2048x1792 .bf16) (x3 : Vec F S1024x128 .f32) (x4 : Vec F S1024x128 .f32) (x5 : Vec F S1x128 .f32) (x6 : Vec F S1x128 .f32) (x7 : Vec F S64x8192 .f32) (x8 : Vec F S256x2048 .f32) (y : S256x2048.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8).2.2.1 S128x2048.size (by sl_kernel_rfl) y

def out0_A_11 (hc0 : cond0_0 i) (hc1 : ¬cond0_1 i) (hc2 : ¬cond0_2 i) (hc3 : ¬cond0_3 i)
    (x0 : Vec F S1024x2048 .f32) (x1 : Vec F S1x2048 .f32) (x2 : Vec F S2048x1792 .bf16) (x3 : Vec F S1024x128 .f32) (x4 : Vec F S1024x128 .f32) (x5 : Vec F S1x128 .f32) (x6 : Vec F S1x128 .f32) (x7 : Vec F S64x8192 .f32) (x8 : Vec F S256x2048 .f32) : Vec F S256x2048 .bf16 :=
  VO0_11.read (Elt F) (VO0_11.writes (Elt F) VO0_11.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8).2.2.1)

theorem scover0_A_0 (hc0 : cond0_0 i) (hc1 : ¬cond0_1 i) (hc2 : ¬cond0_2 i) (hc3 : ¬cond0_3 i)
    (x0 : Vec F S1024x2048 .f32) (x1 : Vec F S1x2048 .f32) (x2 : Vec F S2048x1792 .bf16) (x3 : Vec F S1024x128 .f32) (x4 : Vec F S1024x128 .f32) (x5 : Vec F S1x128 .f32) (x6 : Vec F S1x128 .f32) (x7 : Vec F S64x8192 .f32) (x8 : Vec F S256x2048 .f32) (y : S1024x2048.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8).2.2.2.1 S512x2048.size (by sl_kernel_rfl) y

def sout0_A_0 (hc0 : cond0_0 i) (hc1 : ¬cond0_1 i) (hc2 : ¬cond0_2 i) (hc3 : ¬cond0_3 i)
    (x0 : Vec F S1024x2048 .f32) (x1 : Vec F S1x2048 .f32) (x2 : Vec F S2048x1792 .bf16) (x3 : Vec F S1024x128 .f32) (x4 : Vec F S1024x128 .f32) (x5 : Vec F S1x128 .f32) (x6 : Vec F S1x128 .f32) (x7 : Vec F S64x8192 .f32) (x8 : Vec F S256x2048 .f32) : Vec F S1024x2048 .bf16 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8).2.2.2.1)

theorem scover0_A_1 (hc0 : cond0_0 i) (hc1 : ¬cond0_1 i) (hc2 : ¬cond0_2 i) (hc3 : ¬cond0_3 i)
    (x0 : Vec F S1024x2048 .f32) (x1 : Vec F S1x2048 .f32) (x2 : Vec F S2048x1792 .bf16) (x3 : Vec F S1024x128 .f32) (x4 : Vec F S1024x128 .f32) (x5 : Vec F S1x128 .f32) (x6 : Vec F S1x128 .f32) (x7 : Vec F S64x8192 .f32) (x8 : Vec F S256x2048 .f32) (y : S1024x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8).2.2.2.2.1 S512x128.size (by sl_kernel_rfl) y

def sout0_A_1 (hc0 : cond0_0 i) (hc1 : ¬cond0_1 i) (hc2 : ¬cond0_2 i) (hc3 : ¬cond0_3 i)
    (x0 : Vec F S1024x2048 .f32) (x1 : Vec F S1x2048 .f32) (x2 : Vec F S2048x1792 .bf16) (x3 : Vec F S1024x128 .f32) (x4 : Vec F S1024x128 .f32) (x5 : Vec F S1x128 .f32) (x6 : Vec F S1x128 .f32) (x7 : Vec F S64x8192 .f32) (x8 : Vec F S256x2048 .f32) : Vec F S1024x128 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8).2.2.2.2.1)

theorem cover0_B_9 (hc0 : ¬cond0_0 i) (hc1 : cond0_1 i) (hc2 : ¬cond0_2 i) (hc3 : ¬cond0_3 i)
    (x0 : Vec F S1024x2048 .f32) (x1 : Vec F S1x2048 .f32) (x2 : Vec F S2048x1792 .bf16) (x3 : Vec F S1024x128 .f32) (x4 : Vec F S1024x128 .f32) (x5 : Vec F S1x128 .f32) (x6 : Vec F S1x128 .f32) (x7 : Vec F S64x8192 .f32) (x8 : Vec F S256x2048 .f32) (xs0 : Vec F S1024x2048 .bf16) (xs1 : Vec F S1024x128 .f32) (y : S1024x1792.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 xs0 xs1).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 xs0 xs1).1 S1024x128.size (by sl_kernel_rfl) y

def out0_B_9 (hc0 : ¬cond0_0 i) (hc1 : cond0_1 i) (hc2 : ¬cond0_2 i) (hc3 : ¬cond0_3 i)
    (x0 : Vec F S1024x2048 .f32) (x1 : Vec F S1x2048 .f32) (x2 : Vec F S2048x1792 .bf16) (x3 : Vec F S1024x128 .f32) (x4 : Vec F S1024x128 .f32) (x5 : Vec F S1x128 .f32) (x6 : Vec F S1x128 .f32) (x7 : Vec F S64x8192 .f32) (x8 : Vec F S256x2048 .f32) (xs0 : Vec F S1024x2048 .bf16) (xs1 : Vec F S1024x128 .f32) : Vec F S1024x1792 .bf16 :=
  VO0_9.read (Elt F) (VO0_9.writes (Elt F) VO0_9.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 xs0 xs1).1)

theorem cover0_B_10 (hc0 : ¬cond0_0 i) (hc1 : cond0_1 i) (hc2 : ¬cond0_2 i) (hc3 : ¬cond0_3 i)
    (x0 : Vec F S1024x2048 .f32) (x1 : Vec F S1x2048 .f32) (x2 : Vec F S2048x1792 .bf16) (x3 : Vec F S1024x128 .f32) (x4 : Vec F S1024x128 .f32) (x5 : Vec F S1x128 .f32) (x6 : Vec F S1x128 .f32) (x7 : Vec F S64x8192 .f32) (x8 : Vec F S256x2048 .f32) (xs0 : Vec F S1024x2048 .bf16) (xs1 : Vec F S1024x128 .f32) (y : S64x8192.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 xs0 xs1).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 xs0 xs1).2.1 S64x8192.size (by sl_kernel_rfl) y

def out0_B_10 (hc0 : ¬cond0_0 i) (hc1 : cond0_1 i) (hc2 : ¬cond0_2 i) (hc3 : ¬cond0_3 i)
    (x0 : Vec F S1024x2048 .f32) (x1 : Vec F S1x2048 .f32) (x2 : Vec F S2048x1792 .bf16) (x3 : Vec F S1024x128 .f32) (x4 : Vec F S1024x128 .f32) (x5 : Vec F S1x128 .f32) (x6 : Vec F S1x128 .f32) (x7 : Vec F S64x8192 .f32) (x8 : Vec F S256x2048 .f32) (xs0 : Vec F S1024x2048 .bf16) (xs1 : Vec F S1024x128 .f32) : Vec F S64x8192 .bf16 :=
  VO0_10.read (Elt F) (VO0_10.writes (Elt F) VO0_10.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 xs0 xs1).2.1)

theorem cover0_B_11 (hc0 : ¬cond0_0 i) (hc1 : cond0_1 i) (hc2 : ¬cond0_2 i) (hc3 : ¬cond0_3 i)
    (x0 : Vec F S1024x2048 .f32) (x1 : Vec F S1x2048 .f32) (x2 : Vec F S2048x1792 .bf16) (x3 : Vec F S1024x128 .f32) (x4 : Vec F S1024x128 .f32) (x5 : Vec F S1x128 .f32) (x6 : Vec F S1x128 .f32) (x7 : Vec F S64x8192 .f32) (x8 : Vec F S256x2048 .f32) (xs0 : Vec F S1024x2048 .bf16) (xs1 : Vec F S1024x128 .f32) (y : S256x2048.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 xs0 xs1).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 xs0 xs1).2.2.1 S256x2048.size (by sl_kernel_rfl) y

def out0_B_11 (hc0 : ¬cond0_0 i) (hc1 : cond0_1 i) (hc2 : ¬cond0_2 i) (hc3 : ¬cond0_3 i)
    (x0 : Vec F S1024x2048 .f32) (x1 : Vec F S1x2048 .f32) (x2 : Vec F S2048x1792 .bf16) (x3 : Vec F S1024x128 .f32) (x4 : Vec F S1024x128 .f32) (x5 : Vec F S1x128 .f32) (x6 : Vec F S1x128 .f32) (x7 : Vec F S64x8192 .f32) (x8 : Vec F S256x2048 .f32) (xs0 : Vec F S1024x2048 .bf16) (xs1 : Vec F S1024x128 .f32) : Vec F S256x2048 .bf16 :=
  VO0_11.read (Elt F) (VO0_11.writes (Elt F) VO0_11.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 xs0 xs1).2.2.1)

def sout0_B_0 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1792 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S64x8192 .f32) (harg9 : arg9.IsWhole) (arg10 : Memref sig .tc .vmem S256x2048 .f32) (harg10 : arg10.IsWhole) (arg11 : Memref sig .tc .vmem S1024x1792 .bf16) (harg11 : arg11.IsWhole) (arg12 : Memref sig .tc .vmem S64x8192 .bf16) (harg12 : arg12.IsWhole) (arg13 : Memref sig .tc .vmem S256x2048 .bf16) (harg13 : arg13.IsWhole) (arg14 : Memref sig .tc .vmem S1024x2048 .bf16) (harg14 : arg14.IsWhole) (arg15 : Memref sig .tc .vmem S1024x128 .f32) (harg15 : arg15.IsWhole) (hc0 : ¬cond0_0 i) (hc1 : cond0_1 i) (hc2 : ¬cond0_2 i) (hc3 : ¬cond0_3 i)
    (x0 : Vec F S1024x2048 .f32) (x1 : Vec F S1x2048 .f32) (x2 : Vec F S2048x1792 .bf16) (x3 : Vec F S1024x128 .f32) (x4 : Vec F S1024x128 .f32) (x5 : Vec F S1x128 .f32) (x6 : Vec F S1x128 .f32) (x7 : Vec F S64x8192 .f32) (x8 : Vec F S256x2048 .f32) (xs0 : Vec F S1024x2048 .bf16) (xs1 : Vec F S1024x128 .f32) : Vec F S1024x2048 .bf16 := xs0

def sout0_B_1 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1792 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S64x8192 .f32) (harg9 : arg9.IsWhole) (arg10 : Memref sig .tc .vmem S256x2048 .f32) (harg10 : arg10.IsWhole) (arg11 : Memref sig .tc .vmem S1024x1792 .bf16) (harg11 : arg11.IsWhole) (arg12 : Memref sig .tc .vmem S64x8192 .bf16) (harg12 : arg12.IsWhole) (arg13 : Memref sig .tc .vmem S256x2048 .bf16) (harg13 : arg13.IsWhole) (arg14 : Memref sig .tc .vmem S1024x2048 .bf16) (harg14 : arg14.IsWhole) (arg15 : Memref sig .tc .vmem S1024x128 .f32) (harg15 : arg15.IsWhole) (hc0 : ¬cond0_0 i) (hc1 : cond0_1 i) (hc2 : ¬cond0_2 i) (hc3 : ¬cond0_3 i)
    (x0 : Vec F S1024x2048 .f32) (x1 : Vec F S1x2048 .f32) (x2 : Vec F S2048x1792 .bf16) (x3 : Vec F S1024x128 .f32) (x4 : Vec F S1024x128 .f32) (x5 : Vec F S1x128 .f32) (x6 : Vec F S1x128 .f32) (x7 : Vec F S64x8192 .f32) (x8 : Vec F S256x2048 .f32) (xs0 : Vec F S1024x2048 .bf16) (xs1 : Vec F S1024x128 .f32) : Vec F S1024x128 .f32 := xs1

theorem cover0_C_9 (hc0 : ¬cond0_0 i) (hc1 : ¬cond0_1 i) (hc2 : cond0_2 i) (hc3 : ¬cond0_3 i)
    (x0 : Vec F S1024x2048 .f32) (x1 : Vec F S1x2048 .f32) (x2 : Vec F S2048x1792 .bf16) (x3 : Vec F S1024x128 .f32) (x4 : Vec F S1024x128 .f32) (x5 : Vec F S1x128 .f32) (x6 : Vec F S1x128 .f32) (x7 : Vec F S64x8192 .f32) (x8 : Vec F S256x2048 .f32) (xs0 : Vec F S1024x2048 .bf16) (xs1 : Vec F S1024x128 .f32) (y : S1024x1792.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 xs0 xs1).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 xs0 xs1).1 S512x128.size (by sl_kernel_rfl) y

def out0_C_9 (hc0 : ¬cond0_0 i) (hc1 : ¬cond0_1 i) (hc2 : cond0_2 i) (hc3 : ¬cond0_3 i)
    (x0 : Vec F S1024x2048 .f32) (x1 : Vec F S1x2048 .f32) (x2 : Vec F S2048x1792 .bf16) (x3 : Vec F S1024x128 .f32) (x4 : Vec F S1024x128 .f32) (x5 : Vec F S1x128 .f32) (x6 : Vec F S1x128 .f32) (x7 : Vec F S64x8192 .f32) (x8 : Vec F S256x2048 .f32) (xs0 : Vec F S1024x2048 .bf16) (xs1 : Vec F S1024x128 .f32) : Vec F S1024x1792 .bf16 :=
  VO0_9.read (Elt F) (VO0_9.writes (Elt F) VO0_9.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 xs0 xs1).1)

theorem cover0_C_10 (hc0 : ¬cond0_0 i) (hc1 : ¬cond0_1 i) (hc2 : cond0_2 i) (hc3 : ¬cond0_3 i)
    (x0 : Vec F S1024x2048 .f32) (x1 : Vec F S1x2048 .f32) (x2 : Vec F S2048x1792 .bf16) (x3 : Vec F S1024x128 .f32) (x4 : Vec F S1024x128 .f32) (x5 : Vec F S1x128 .f32) (x6 : Vec F S1x128 .f32) (x7 : Vec F S64x8192 .f32) (x8 : Vec F S256x2048 .f32) (xs0 : Vec F S1024x2048 .bf16) (xs1 : Vec F S1024x128 .f32) (y : S64x8192.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 xs0 xs1).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 xs0 xs1).2.1 S32x8192.size (by sl_kernel_rfl) y

def out0_C_10 (hc0 : ¬cond0_0 i) (hc1 : ¬cond0_1 i) (hc2 : cond0_2 i) (hc3 : ¬cond0_3 i)
    (x0 : Vec F S1024x2048 .f32) (x1 : Vec F S1x2048 .f32) (x2 : Vec F S2048x1792 .bf16) (x3 : Vec F S1024x128 .f32) (x4 : Vec F S1024x128 .f32) (x5 : Vec F S1x128 .f32) (x6 : Vec F S1x128 .f32) (x7 : Vec F S64x8192 .f32) (x8 : Vec F S256x2048 .f32) (xs0 : Vec F S1024x2048 .bf16) (xs1 : Vec F S1024x128 .f32) : Vec F S64x8192 .bf16 :=
  VO0_10.read (Elt F) (VO0_10.writes (Elt F) VO0_10.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 xs0 xs1).2.1)

theorem cover0_C_11 (hc0 : ¬cond0_0 i) (hc1 : ¬cond0_1 i) (hc2 : cond0_2 i) (hc3 : ¬cond0_3 i)
    (x0 : Vec F S1024x2048 .f32) (x1 : Vec F S1x2048 .f32) (x2 : Vec F S2048x1792 .bf16) (x3 : Vec F S1024x128 .f32) (x4 : Vec F S1024x128 .f32) (x5 : Vec F S1x128 .f32) (x6 : Vec F S1x128 .f32) (x7 : Vec F S64x8192 .f32) (x8 : Vec F S256x2048 .f32) (xs0 : Vec F S1024x2048 .bf16) (xs1 : Vec F S1024x128 .f32) (y : S256x2048.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 xs0 xs1).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 xs0 xs1).2.2.1 S128x2048.size (by sl_kernel_rfl) y

def out0_C_11 (hc0 : ¬cond0_0 i) (hc1 : ¬cond0_1 i) (hc2 : cond0_2 i) (hc3 : ¬cond0_3 i)
    (x0 : Vec F S1024x2048 .f32) (x1 : Vec F S1x2048 .f32) (x2 : Vec F S2048x1792 .bf16) (x3 : Vec F S1024x128 .f32) (x4 : Vec F S1024x128 .f32) (x5 : Vec F S1x128 .f32) (x6 : Vec F S1x128 .f32) (x7 : Vec F S64x8192 .f32) (x8 : Vec F S256x2048 .f32) (xs0 : Vec F S1024x2048 .bf16) (xs1 : Vec F S1024x128 .f32) : Vec F S256x2048 .bf16 :=
  VO0_11.read (Elt F) (VO0_11.writes (Elt F) VO0_11.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 xs0 xs1).2.2.1)

def sout0_C_0 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1792 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S64x8192 .f32) (harg9 : arg9.IsWhole) (arg10 : Memref sig .tc .vmem S256x2048 .f32) (harg10 : arg10.IsWhole) (arg11 : Memref sig .tc .vmem S1024x1792 .bf16) (harg11 : arg11.IsWhole) (arg12 : Memref sig .tc .vmem S64x8192 .bf16) (harg12 : arg12.IsWhole) (arg13 : Memref sig .tc .vmem S256x2048 .bf16) (harg13 : arg13.IsWhole) (arg14 : Memref sig .tc .vmem S1024x2048 .bf16) (harg14 : arg14.IsWhole) (arg15 : Memref sig .tc .vmem S1024x128 .f32) (harg15 : arg15.IsWhole) (hc0 : ¬cond0_0 i) (hc1 : ¬cond0_1 i) (hc2 : cond0_2 i) (hc3 : ¬cond0_3 i)
    (x0 : Vec F S1024x2048 .f32) (x1 : Vec F S1x2048 .f32) (x2 : Vec F S2048x1792 .bf16) (x3 : Vec F S1024x128 .f32) (x4 : Vec F S1024x128 .f32) (x5 : Vec F S1x128 .f32) (x6 : Vec F S1x128 .f32) (x7 : Vec F S64x8192 .f32) (x8 : Vec F S256x2048 .f32) (xs0 : Vec F S1024x2048 .bf16) (xs1 : Vec F S1024x128 .f32) : Vec F S1024x2048 .bf16 := xs0

def sout0_C_1 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1792 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S64x8192 .f32) (harg9 : arg9.IsWhole) (arg10 : Memref sig .tc .vmem S256x2048 .f32) (harg10 : arg10.IsWhole) (arg11 : Memref sig .tc .vmem S1024x1792 .bf16) (harg11 : arg11.IsWhole) (arg12 : Memref sig .tc .vmem S64x8192 .bf16) (harg12 : arg12.IsWhole) (arg13 : Memref sig .tc .vmem S256x2048 .bf16) (harg13 : arg13.IsWhole) (arg14 : Memref sig .tc .vmem S1024x2048 .bf16) (harg14 : arg14.IsWhole) (arg15 : Memref sig .tc .vmem S1024x128 .f32) (harg15 : arg15.IsWhole) (hc0 : ¬cond0_0 i) (hc1 : ¬cond0_1 i) (hc2 : cond0_2 i) (hc3 : ¬cond0_3 i)
    (x0 : Vec F S1024x2048 .f32) (x1 : Vec F S1x2048 .f32) (x2 : Vec F S2048x1792 .bf16) (x3 : Vec F S1024x128 .f32) (x4 : Vec F S1024x128 .f32) (x5 : Vec F S1x128 .f32) (x6 : Vec F S1x128 .f32) (x7 : Vec F S64x8192 .f32) (x8 : Vec F S256x2048 .f32) (xs0 : Vec F S1024x2048 .bf16) (xs1 : Vec F S1024x128 .f32) : Vec F S1024x128 .f32 := xs1

theorem cover0_D_9 (hc0 : ¬cond0_0 i) (hc1 : ¬cond0_1 i) (hc2 : ¬cond0_2 i) (hc3 : cond0_3 i)
    (x0 : Vec F S1024x2048 .f32) (x1 : Vec F S1x2048 .f32) (x2 : Vec F S2048x1792 .bf16) (x3 : Vec F S1024x128 .f32) (x4 : Vec F S1024x128 .f32) (x5 : Vec F S1x128 .f32) (x6 : Vec F S1x128 .f32) (x7 : Vec F S64x8192 .f32) (x8 : Vec F S256x2048 .f32) (xs0 : Vec F S1024x2048 .bf16) (xs1 : Vec F S1024x128 .f32) (y : S1024x1792.Idx) :
    ∃ pc ∈ (kernelRun0_D c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 xs0 xs1).1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 xs0 xs1).1 S1024x128.size (by sl_kernel_rfl) y

def out0_D_9 (hc0 : ¬cond0_0 i) (hc1 : ¬cond0_1 i) (hc2 : ¬cond0_2 i) (hc3 : cond0_3 i)
    (x0 : Vec F S1024x2048 .f32) (x1 : Vec F S1x2048 .f32) (x2 : Vec F S2048x1792 .bf16) (x3 : Vec F S1024x128 .f32) (x4 : Vec F S1024x128 .f32) (x5 : Vec F S1x128 .f32) (x6 : Vec F S1x128 .f32) (x7 : Vec F S64x8192 .f32) (x8 : Vec F S256x2048 .f32) (xs0 : Vec F S1024x2048 .bf16) (xs1 : Vec F S1024x128 .f32) : Vec F S1024x1792 .bf16 :=
  VO0_9.read (Elt F) (VO0_9.writes (Elt F) VO0_9.junk (kernelRun0_D c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 xs0 xs1).1)

theorem cover0_D_10 (hc0 : ¬cond0_0 i) (hc1 : ¬cond0_1 i) (hc2 : ¬cond0_2 i) (hc3 : cond0_3 i)
    (x0 : Vec F S1024x2048 .f32) (x1 : Vec F S1x2048 .f32) (x2 : Vec F S2048x1792 .bf16) (x3 : Vec F S1024x128 .f32) (x4 : Vec F S1024x128 .f32) (x5 : Vec F S1x128 .f32) (x6 : Vec F S1x128 .f32) (x7 : Vec F S64x8192 .f32) (x8 : Vec F S256x2048 .f32) (xs0 : Vec F S1024x2048 .bf16) (xs1 : Vec F S1024x128 .f32) (y : S64x8192.Idx) :
    ∃ pc ∈ (kernelRun0_D c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 xs0 xs1).2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 xs0 xs1).2.1 S64x8192.size (by sl_kernel_rfl) y

def out0_D_10 (hc0 : ¬cond0_0 i) (hc1 : ¬cond0_1 i) (hc2 : ¬cond0_2 i) (hc3 : cond0_3 i)
    (x0 : Vec F S1024x2048 .f32) (x1 : Vec F S1x2048 .f32) (x2 : Vec F S2048x1792 .bf16) (x3 : Vec F S1024x128 .f32) (x4 : Vec F S1024x128 .f32) (x5 : Vec F S1x128 .f32) (x6 : Vec F S1x128 .f32) (x7 : Vec F S64x8192 .f32) (x8 : Vec F S256x2048 .f32) (xs0 : Vec F S1024x2048 .bf16) (xs1 : Vec F S1024x128 .f32) : Vec F S64x8192 .bf16 :=
  VO0_10.read (Elt F) (VO0_10.writes (Elt F) VO0_10.junk (kernelRun0_D c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 xs0 xs1).2.1)

theorem cover0_D_11 (hc0 : ¬cond0_0 i) (hc1 : ¬cond0_1 i) (hc2 : ¬cond0_2 i) (hc3 : cond0_3 i)
    (x0 : Vec F S1024x2048 .f32) (x1 : Vec F S1x2048 .f32) (x2 : Vec F S2048x1792 .bf16) (x3 : Vec F S1024x128 .f32) (x4 : Vec F S1024x128 .f32) (x5 : Vec F S1x128 .f32) (x6 : Vec F S1x128 .f32) (x7 : Vec F S64x8192 .f32) (x8 : Vec F S256x2048 .f32) (xs0 : Vec F S1024x2048 .bf16) (xs1 : Vec F S1024x128 .f32) (y : S256x2048.Idx) :
    ∃ pc ∈ (kernelRun0_D c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 xs0 xs1).2.2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 xs0 xs1).2.2.1 S256x2048.size (by sl_kernel_rfl) y

def out0_D_11 (hc0 : ¬cond0_0 i) (hc1 : ¬cond0_1 i) (hc2 : ¬cond0_2 i) (hc3 : cond0_3 i)
    (x0 : Vec F S1024x2048 .f32) (x1 : Vec F S1x2048 .f32) (x2 : Vec F S2048x1792 .bf16) (x3 : Vec F S1024x128 .f32) (x4 : Vec F S1024x128 .f32) (x5 : Vec F S1x128 .f32) (x6 : Vec F S1x128 .f32) (x7 : Vec F S64x8192 .f32) (x8 : Vec F S256x2048 .f32) (xs0 : Vec F S1024x2048 .bf16) (xs1 : Vec F S1024x128 .f32) : Vec F S256x2048 .bf16 :=
  VO0_11.read (Elt F) (VO0_11.writes (Elt F) VO0_11.junk (kernelRun0_D c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 xs0 xs1).2.2.1)

def sout0_D_0 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1792 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S64x8192 .f32) (harg9 : arg9.IsWhole) (arg10 : Memref sig .tc .vmem S256x2048 .f32) (harg10 : arg10.IsWhole) (arg11 : Memref sig .tc .vmem S1024x1792 .bf16) (harg11 : arg11.IsWhole) (arg12 : Memref sig .tc .vmem S64x8192 .bf16) (harg12 : arg12.IsWhole) (arg13 : Memref sig .tc .vmem S256x2048 .bf16) (harg13 : arg13.IsWhole) (arg14 : Memref sig .tc .vmem S1024x2048 .bf16) (harg14 : arg14.IsWhole) (arg15 : Memref sig .tc .vmem S1024x128 .f32) (harg15 : arg15.IsWhole) (hc0 : ¬cond0_0 i) (hc1 : ¬cond0_1 i) (hc2 : ¬cond0_2 i) (hc3 : cond0_3 i)
    (x0 : Vec F S1024x2048 .f32) (x1 : Vec F S1x2048 .f32) (x2 : Vec F S2048x1792 .bf16) (x3 : Vec F S1024x128 .f32) (x4 : Vec F S1024x128 .f32) (x5 : Vec F S1x128 .f32) (x6 : Vec F S1x128 .f32) (x7 : Vec F S64x8192 .f32) (x8 : Vec F S256x2048 .f32) (xs0 : Vec F S1024x2048 .bf16) (xs1 : Vec F S1024x128 .f32) : Vec F S1024x2048 .bf16 := xs0

def sout0_D_1 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1792 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S64x8192 .f32) (harg9 : arg9.IsWhole) (arg10 : Memref sig .tc .vmem S256x2048 .f32) (harg10 : arg10.IsWhole) (arg11 : Memref sig .tc .vmem S1024x1792 .bf16) (harg11 : arg11.IsWhole) (arg12 : Memref sig .tc .vmem S64x8192 .bf16) (harg12 : arg12.IsWhole) (arg13 : Memref sig .tc .vmem S256x2048 .bf16) (harg13 : arg13.IsWhole) (arg14 : Memref sig .tc .vmem S1024x2048 .bf16) (harg14 : arg14.IsWhole) (arg15 : Memref sig .tc .vmem S1024x128 .f32) (harg15 : arg15.IsWhole) (hc0 : ¬cond0_0 i) (hc1 : ¬cond0_1 i) (hc2 : ¬cond0_2 i) (hc3 : cond0_3 i)
    (x0 : Vec F S1024x2048 .f32) (x1 : Vec F S1x2048 .f32) (x2 : Vec F S2048x1792 .bf16) (x3 : Vec F S1024x128 .f32) (x4 : Vec F S1024x128 .f32) (x5 : Vec F S1x128 .f32) (x6 : Vec F S1x128 .f32) (x7 : Vec F S64x8192 .f32) (x8 : Vec F S256x2048 .f32) (xs0 : Vec F S1024x2048 .bf16) (xs1 : Vec F S1024x128 .f32) : Vec F S1024x128 .f32 := xs1

end

def outsAt0 (c : Dev nD) : (n : ℕ) → n < cfg0.N → Vec F S1024x1792 .bf16 × Vec F S64x8192 .bf16 × Vec F S256x2048 .bf16 × Vec F S1024x2048 .bf16 × Vec F S1024x128 .f32
  | 0, hn => (out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩))
  | n + 1, hn =>
    if h0 : (n + 1) % 4 = 0 then
      if h1 : (n + 1) % 4 = 1 then
        False.elim (by have hN : n + 1 < 32 := lt_of_lt_of_eq hn (show cfg0.N = 32 from N_0); omega)
      else
        if h2 : (n + 1) % 4 = 2 then
          False.elim (by have hN : n + 1 < 32 := lt_of_lt_of_eq hn (show cfg0.N = 32 from N_0); omega)
        else
          if h3 : (n + 1) % 4 = 3 then
            False.elim (by have hN : n + 1 < 32 := lt_of_lt_of_eq hn (show cfg0.N = 32 from N_0); omega)
          else
            (out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) ((hcond0_0 ⟨n + 1, hn⟩).mpr h0) (fun h => h1 ((hcond0_1 ⟨n + 1, hn⟩).mp h)) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) ((hcond0_0 ⟨n + 1, hn⟩).mpr h0) (fun h => h1 ((hcond0_1 ⟨n + 1, hn⟩).mp h)) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) ((hcond0_0 ⟨n + 1, hn⟩).mpr h0) (fun h => h1 ((hcond0_1 ⟨n + 1, hn⟩).mp h)) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) ((hcond0_0 ⟨n + 1, hn⟩).mpr h0) (fun h => h1 ((hcond0_1 ⟨n + 1, hn⟩).mp h)) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) ((hcond0_0 ⟨n + 1, hn⟩).mpr h0) (fun h => h1 ((hcond0_1 ⟨n + 1, hn⟩).mp h)) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩))
    else
      if h1 : (n + 1) % 4 = 1 then
        if h2 : (n + 1) % 4 = 2 then
          False.elim (by have hN : n + 1 < 32 := lt_of_lt_of_eq hn (show cfg0.N = 32 from N_0); omega)
        else
          if h3 : (n + 1) % 4 = 3 then
            False.elim (by have hN : n + 1 < 32 := lt_of_lt_of_eq hn (show cfg0.N = 32 from N_0); omega)
          else
            (out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.2.1 (outsAt0 c n (Nat.lt_of_succ_lt hn)).2.2.2.2, out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.2.1 (outsAt0 c n (Nat.lt_of_succ_lt hn)).2.2.2.2, out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.2.1 (outsAt0 c n (Nat.lt_of_succ_lt hn)).2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.2.1 (outsAt0 c n (Nat.lt_of_succ_lt hn)).2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.2.1 (outsAt0 c n (Nat.lt_of_succ_lt hn)).2.2.2.2)
      else
        if h2 : (n + 1) % 4 = 2 then
          if h3 : (n + 1) % 4 = 3 then
            False.elim (by have hN : n + 1 < 32 := lt_of_lt_of_eq hn (show cfg0.N = 32 from N_0); omega)
          else
            (out0_C_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.2.1 (outsAt0 c n (Nat.lt_of_succ_lt hn)).2.2.2.2, out0_C_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.2.1 (outsAt0 c n (Nat.lt_of_succ_lt hn)).2.2.2.2, out0_C_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.2.1 (outsAt0 c n (Nat.lt_of_succ_lt hn)).2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.2.1 (outsAt0 c n (Nat.lt_of_succ_lt hn)).2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.2.1 (outsAt0 c n (Nat.lt_of_succ_lt hn)).2.2.2.2)
        else
          if h3 : (n + 1) % 4 = 3 then
            (out0_D_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.2.1 (outsAt0 c n (Nat.lt_of_succ_lt hn)).2.2.2.2, out0_D_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.2.1 (outsAt0 c n (Nat.lt_of_succ_lt hn)).2.2.2.2, out0_D_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.2.1 (outsAt0 c n (Nat.lt_of_succ_lt hn)).2.2.2.2, sout0_D_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.2.1 (outsAt0 c n (Nat.lt_of_succ_lt hn)).2.2.2.2, sout0_D_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.2.1 (outsAt0 c n (Nat.lt_of_succ_lt hn)).2.2.2.2)
          else
            False.elim (by have hN : n + 1 < 32 := lt_of_lt_of_eq hn (show cfg0.N = 32 from N_0); omega)

theorem outsAt0_A (c : Dev nD) (t : Fin cfg0.N) (h0 : t.val % 4 = 0) (h1 : ¬t.val % 4 = 1) (h2 : ¬t.val % 4 = 2) (h3 : ¬t.val % 4 = 3) :
    outsAt0 m c t.val t.isLt = (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t)) := by
  obtain ⟨n, hn⟩ := t
  cases n with
  | zero => exact rfl
  | succ n => exact (dif_pos h0).trans ((dif_neg h1).trans ((dif_neg h2).trans ((dif_neg h3).trans rfl)))

theorem outsAt0_B (c : Dev nD) (t : Fin cfg0.N) (h0 : ¬t.val % 4 = 0) (h1 : t.val % 4 = 1) (h2 : ¬t.val % 4 = 2) (h3 : ¬t.val % 4 = 3) :
    outsAt0 m c t.val t.isLt = (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans ((dif_neg h2).trans ((dif_neg h3).trans rfl)))

theorem outsAt0_C (c : Dev nD) (t : Fin cfg0.N) (h0 : ¬t.val % 4 = 0) (h1 : ¬t.val % 4 = 1) (h2 : t.val % 4 = 2) (h3 : ¬t.val % 4 = 3) :
    outsAt0 m c t.val t.isLt = (out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans ((dif_pos h2).trans ((dif_neg h3).trans rfl)))

theorem outsAt0_D (c : Dev nD) (t : Fin cfg0.N) (h0 : ¬t.val % 4 = 0) (h1 : ¬t.val % 4 = 1) (h2 : ¬t.val % 4 = 2) (h3 : t.val % 4 = 3) :
    outsAt0 m c t.val t.isLt = (out0_D_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_D_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_D_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_D_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans ((dif_neg h2).trans ((dif_pos h3).trans rfl)))

def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.1) ∗ owns (c : Thread nD τ) scM0_1 fullShare ((outsAt0 m c n hn).2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2.1) ∗ owns (c : Thread nD τ) scM0_1 fullShare ((outsAt0 m c n hn).2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.1) ∗ owns (c : Thread nD τ) scM0_1 fullShare ((outsAt0 m c (n - 1) (by omega)).2.2.2.2)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt0 m c t.val t.isLt).1
    | ⟨10, _⟩ => (outsAt0 m c t.val t.isLt).2.1
    | ⟨11, _⟩ => (outsAt0 m c t.val t.isLt).2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = (outsAt0 m c t.val t.isLt).1 := by dsimp only [dats]
theorem after0_10 (c : Dev nD) (t : Fin cfg0.N) : (dats m 0 c).after 10 t = (outsAt0 m c t.val t.isLt).2.1 := by dsimp only [dats]
theorem after0_11 (c : Dev nD) (t : Fin cfg0.N) : (dats m 0 c).after 11 t = (outsAt0 m c t.val t.isLt).2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 19200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  by_cases h0 : t.val % 4 = 0
  · by_cases h1 : t.val % 4 = 1
    · exfalso; omega
    · by_cases h2 : t.val % 4 = 2
      · exfalso; omega
      · by_cases h3 : t.val % 4 = 3
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          rw [show (dats m 0 c).leavesExact 8 t = owns (c : Thread nD τ) (ms0_8 t) fullShare ((dats m 0 c).after 8 t) from by
      unfold Dat.leavesExact; rw [liveAt0_8 t], after0_8]
          rw [show (dats m 0 c).leavesExact 9 t = owns (c : Thread nD τ) (ms0_9 t) fullShare ((dats m 0 c).after 9 t) from by
      unfold Dat.leavesExact; rw [liveAt0_9_A t ((hcond0_0 t).mpr h0) (fun h => h1 ((hcond0_1 t).mp h)) (fun h => h2 ((hcond0_2 t).mp h)) (fun h => h3 ((hcond0_3 t).mp h))], after0_9]
          rw [show (dats m 0 c).leavesExact 10 t = owns (c : Thread nD τ) (ms0_10 t) fullShare ((dats m 0 c).after 10 t) from by
      unfold Dat.leavesExact; rw [liveAt0_10_A t ((hcond0_0 t).mpr h0) (fun h => h1 ((hcond0_1 t).mp h)) (fun h => h2 ((hcond0_2 t).mp h)) (fun h => h3 ((hcond0_3 t).mp h))], after0_10]
          rw [show (dats m 0 c).leavesExact 11 t = owns (c : Thread nD τ) (ms0_11 t) fullShare ((dats m 0 c).after 11 t) from by
      unfold Dat.leavesExact; rw [liveAt0_11_A t ((hcond0_0 t).mpr h0) (fun h => h1 ((hcond0_1 t).mp h)) (fun h => h2 ((hcond0_2 t).mp h)) (fun h => h3 ((hcond0_3 t).mp h))], after0_11]
          by_cases hz : t.val = 0
          · rw [PhiS_castSucc m c t, PhiS_zero m c _ _ hz, PhiA0_eq]
            rw [outsAt0_A m c t h0 h1 h2 h3]
            unfold out0_A_9 out0_A_10 out0_A_11 sout0_A_0 sout0_A_1; (try dsimp only)
            iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
            iapply ((kernelRun0_A c (grid0.coords t) _ _ _ _ _ _ _ _ _ _ _ _ _ _ _ _ _ _ _ _ _ _ _ _ _ _ _ _ ((hcond0_0 t).mpr h0) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t)).2.2.2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexists _; iexact H9
            isplitl [H10]; · iexists _; iexact H10
            isplitl [H11]; · iexists _; iexact H11
            isplitl [HS0]; · iexact HS0
            isplitl [HS1]; · iexact HS1
            iintro ⟨H0, H1, H2, H3, H4, H5, H6, H7, H8, ⟨%e9, H9⟩, ⟨%e10, H10⟩, ⟨%e11, H11⟩, ⟨%es0, HS0⟩, ⟨%es1, HS1⟩⟩
            isplitl [HS0 HS1 Hg]
            · isplitl [HS0 HS1]
              · isplitl [HS0]
                · unfold owns; iexists _; isplitr
                  swap; · iexact HS0
                  ipureintro; exact View.read_writes_of_cover _ _ _ _ _ (scover0_A_0 c _ _ _ _ _ _ _ _ _ _ _ _ _ _ _ _ _ _ _ _ _ _ _ _ _ _ _ _ _ _ _ _ _ _ _ _ _ _ _ _ _ _)
                unfold owns; iexists _; isplitr
                swap; · iexact HS1
                ipureintro; exact View.read_writes_of_cover _ _ _ _ _ (scover0_A_1 c _ _ _ _ _ _ _ _ _ _ _ _ _ _ _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]
            · unfold owns; iexists _; isplitr
              swap; · iexact H9
              ipureintro; exact View.read_writes_of_cover _ _ _ _ _ (cover0_A_9 c _ _ _ _ _ _ _ _ _ _ _ _ _ _ _ _ _ _ _ _ _ _ _ _ _ _ _ _ _ _ _ _ _ _ _ _ _ _ _ _ _ _)
            isplitl [H10]
            · unfold owns; iexists _; isplitr
              swap; · iexact H10
              ipureintro; exact View.read_writes_of_cover _ _ _ _ _ (cover0_A_10 c _ _ _ _ _ _ _ _ _ _ _ _ _ _ _ _ _ _ _ _ _ _ _ _ _ _ _ _ _ _ _ _ _ _ _ _ _ _ _ _ _ _)
            unfold owns; iexists _; isplitr
            swap; · iexact H11
            ipureintro; exact View.read_writes_of_cover _ _ _ _ _ (cover0_A_11 c _ _ _ _ _ _ _ _ _ _ _ _ _ _ _ _ _ _ _ _ _ _ _ _ _ _ _ _ _ _ _ _ _ _ _ _ _ _ _ _ _ _)
          · rw [PhiS_castSucc m c t, PhiS_pos m c _ _ hz]
            rw [outsAt0_A m c t h0 h1 h2 h3]
            unfold out0_A_9 out0_A_10 out0_A_11 sout0_A_0 sout0_A_1; (try dsimp only)
            iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
            iapply ((kernelRun0_A c (grid0.coords t) _ _ _ _ _ _ _ _ _ _ _ _ _ _ _ _ _ _ _ _ _ _ _ _ _ _ _ _ ((hcond0_0 t).mpr h0) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t)).2.2.2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexists _; iexact H9
            isplitl [H10]; · iexists _; iexact H10
            isplitl [H11]; · iexists _; iexact H11
            isplitl [HS0]; · iexists _; iexact HS0
            isplitl [HS1]; · iexists _; iexact HS1
            iintro ⟨H0, H1, H2, H3, H4, H5, H6, H7, H8, ⟨%e9, H9⟩, ⟨%e10, H10⟩, ⟨%e11, H11⟩, ⟨%es0, HS0⟩, ⟨%es1, HS1⟩⟩
            isplitl [HS0 HS1 Hg]
            · isplitl [HS0 HS1]
              · isplitl [HS0]
                · unfold owns; iexists _; isplitr
                  swap; · iexact HS0
                  ipureintro; exact View.read_writes_of_cover _ _ _ _ _ (scover0_A_0 c _ _ _ _ _ _ _ _ _ _ _ _ _ _ _ _ _ _ _ _ _ _ _ _ _ _ _ _ _ _ _ _ _ _ _ _ _ _ _ _ _ _)
                unfold owns; iexists _; isplitr
                swap; · iexact HS1
                ipureintro; exact View.read_writes_of_cover _ _ _ _ _ (scover0_A_1 c _ _ _ _ _ _ _ _ _ _ _ _ _ _ _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]
            · unfold owns; iexists _; isplitr
              swap; · iexact H9
              ipureintro; exact View.read_writes_of_cover _ _ _ _ _ (cover0_A_9 c _ _ _ _ _ _ _ _ _ _ _ _ _ _ _ _ _ _ _ _ _ _ _ _ _ _ _ _ _ _ _ _ _ _ _ _ _ _ _ _ _ _)
            isplitl [H10]
            · unfold owns; iexists _; isplitr
              swap; · iexact H10
              ipureintro; exact View.read_writes_of_cover _ _ _ _ _ (cover0_A_10 c _ _ _ _ _ _ _ _ _ _ _ _ _ _ _ _ _ _ _ _ _ _ _ _ _ _ _ _ _ _ _ _ _ _ _ _ _ _ _ _ _ _)
            unfold owns; iexists _; isplitr
            swap; · iexact H11
            ipureintro; exact View.read_writes_of_cover _ _ _ _ _ (cover0_A_11 c _ _ _ _ _ _ _ _ _ _ _ _ _ _ _ _ _ _ _ _ _ _ _ _ _ _ _ _ _ _ _ _ _ _ _ _ _ _ _ _ _ _)
  · by_cases h1 : t.val % 4 = 1
    · by_cases h2 : t.val % 4 = 2
      · exfalso; omega
      · by_cases h3 : t.val % 4 = 3
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          rw [show (dats m 0 c).leavesExact 8 t = owns (c : Thread nD τ) (ms0_8 t) fullShare ((dats m 0 c).after 8 t) from by
      unfold Dat.leavesExact; rw [liveAt0_8 t], after0_8]
          rw [show (dats m 0 c).leavesExact 9 t = owns (c : Thread nD τ) (ms0_9 t) fullShare ((dats m 0 c).after 9 t) from by
      unfold Dat.leavesExact; rw [liveAt0_9_B t (fun h => h0 ((hcond0_0 t).mp h)) ((hcond0_1 t).mpr h1) (fun h => h2 ((hcond0_2 t).mp h)) (fun h => h3 ((hcond0_3 t).mp h))], after0_9]
          rw [show (dats m 0 c).leavesExact 10 t = owns (c : Thread nD τ) (ms0_10 t) fullShare ((dats m 0 c).after 10 t) from by
      unfold Dat.leavesExact; rw [liveAt0_10_B t (fun h => h0 ((hcond0_0 t).mp h)) ((hcond0_1 t).mpr h1) (fun h => h2 ((hcond0_2 t).mp h)) (fun h => h3 ((hcond0_3 t).mp h))], after0_10]
          rw [show (dats m 0 c).leavesExact 11 t = owns (c : Thread nD τ) (ms0_11 t) fullShare ((dats m 0 c).after 11 t) from by
      unfold Dat.leavesExact; rw [liveAt0_11_B t (fun h => h0 ((hcond0_0 t).mp h)) ((hcond0_1 t).mpr h1) (fun h => h2 ((hcond0_2 t).mp h)) (fun h => h3 ((hcond0_3 t).mp h))], after0_11]
          by_cases hz : t.val = 0
          · exfalso; have hN : t.val < 32 := lt_of_lt_of_eq t.isLt (show cfg0.N = 32 from N_0); omega
          · rw [PhiS_castSucc m c t, PhiS_pos m c _ _ hz]
            rw [outsAt0_B m c t h0 h1 h2 h3]
            unfold out0_B_9 out0_B_10 out0_B_11 sout0_B_0 sout0_B_1; (try dsimp only)
            iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
            iapply ((kernelRun0_B c (grid0.coords t) _ _ _ _ _ _ _ _ _ _ _ _ _ _ _ _ _ _ _ _ _ _ _ _ _ _ _ _ (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) _ _).2.2.2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexists _; iexact H9
            isplitl [H10]; · iexists _; iexact H10
            isplitl [H11]; · iexists _; iexact H11
            isplitl [HS0]; · iexact HS0
            isplitl [HS1]; · iexact HS1
            iintro ⟨H0, H1, H2, H3, H4, H5, H6, H7, H8, ⟨%e9, H9⟩, ⟨%e10, H10⟩, ⟨%e11, H11⟩, HS0, HS1⟩
            isplitl [HS0 HS1 Hg]
            · isplitl [HS0 HS1]
              · isplitl [HS0]
                · iexact HS0
                iexact HS1
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]
            · unfold owns; iexists _; isplitr
              swap; · iexact H9
              ipureintro; exact View.read_writes_of_cover _ _ _ _ _ (cover0_B_9 c _ _ _ _ _ _ _ _ _ _ _ _ _ _ _ _ _ _ _ _ _ _ _ _ _ _ _ _ _ _ _ _ _ _ _ _ _ _ _ _ _ _ _ _)
            isplitl [H10]
            · unfold owns; iexists _; isplitr
              swap; · iexact H10
              ipureintro; exact View.read_writes_of_cover _ _ _ _ _ (cover0_B_10 c _ _ _ _ _ _ _ _ _ _ _ _ _ _ _ _ _ _ _ _ _ _ _ _ _ _ _ _ _ _ _ _ _ _ _ _ _ _ _ _ _ _ _ _)
            unfold owns; iexists _; isplitr
            swap; · iexact H11
            ipureintro; exact View.read_writes_of_cover _ _ _ _ _ (cover0_B_11 c _ _ _ _ _ _ _ _ _ _ _ _ _ _ _ _ _ _ _ _ _ _ _ _ _ _ _ _ _ _ _ _ _ _ _ _ _ _ _ _ _ _ _ _)
    · by_cases h2 : t.val % 4 = 2
      · by_cases h3 : t.val % 4 = 3
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          rw [show (dats m 0 c).leavesExact 8 t = owns (c : Thread nD τ) (ms0_8 t) fullShare ((dats m 0 c).after 8 t) from by
      unfold Dat.leavesExact; rw [liveAt0_8 t], after0_8]
          rw [show (dats m 0 c).leavesExact 9 t = owns (c : Thread nD τ) (ms0_9 t) fullShare ((dats m 0 c).after 9 t) from by
      unfold Dat.leavesExact; rw [liveAt0_9_C t (fun h => h0 ((hcond0_0 t).mp h)) (fun h => h1 ((hcond0_1 t).mp h)) ((hcond0_2 t).mpr h2) (fun h => h3 ((hcond0_3 t).mp h))], after0_9]
          rw [show (dats m 0 c).leavesExact 10 t = owns (c : Thread nD τ) (ms0_10 t) fullShare ((dats m 0 c).after 10 t) from by
      unfold Dat.leavesExact; rw [liveAt0_10_C t (fun h => h0 ((hcond0_0 t).mp h)) (fun h => h1 ((hcond0_1 t).mp h)) ((hcond0_2 t).mpr h2) (fun h => h3 ((hcond0_3 t).mp h))], after0_10]
          rw [show (dats m 0 c).leavesExact 11 t = owns (c : Thread nD τ) (ms0_11 t) fullShare ((dats m 0 c).after 11 t) from by
      unfold Dat.leavesExact; rw [liveAt0_11_C t (fun h => h0 ((hcond0_0 t).mp h)) (fun h => h1 ((hcond0_1 t).mp h)) ((hcond0_2 t).mpr h2) (fun h => h3 ((hcond0_3 t).mp h))], after0_11]
          by_cases hz : t.val = 0
          · exfalso; have hN : t.val < 32 := lt_of_lt_of_eq t.isLt (show cfg0.N = 32 from N_0); omega
          · rw [PhiS_castSucc m c t, PhiS_pos m c _ _ hz]
            rw [outsAt0_C m c t h0 h1 h2 h3]
            unfold out0_C_9 out0_C_10 out0_C_11 sout0_C_0 sout0_C_1; (try dsimp only)
            iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
            iapply ((kernelRun0_C c (grid0.coords t) _ _ _ _ _ _ _ _ _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) _ _).2.2.2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexists _; iexact H9
            isplitl [H10]; · iexists _; iexact H10
            isplitl [H11]; · iexists _; iexact H11
            isplitl [HS0]; · iexact HS0
            isplitl [HS1]; · iexact HS1
            iintro ⟨H0, H1, H2, H3, H4, H5, H6, H7, H8, ⟨%e9, H9⟩, ⟨%e10, H10⟩, ⟨%e11, H11⟩, HS0, HS1⟩
            isplitl [HS0 HS1 Hg]
            · isplitl [HS0 HS1]
              · isplitl [HS0]
                · iexact HS0
                iexact HS1
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]
            · unfold owns; iexists _; isplitr
              swap; · iexact H9
              ipureintro; exact View.read_writes_of_cover _ _ _ _ _ (cover0_C_9 c _ _ _ _ _ _ _ _ _ _ _ _ _ _ _ _ _ _ _ _ _ _ _ _ _ _ _ _ _ _ _ _ _ _ _ _ _ _ _ _ _ _ _ _)
            isplitl [H10]
            · unfold owns; iexists _; isplitr
              swap; · iexact H10
              ipureintro; exact View.read_writes_of_cover _ _ _ _ _ (cover0_C_10 c _ _ _ _ _ _ _ _ _ _ _ _ _ _ _ _ _ _ _ _ _ _ _ _ _ _ _ _ _ _ _ _ _ _ _ _ _ _ _ _ _ _ _ _)
            unfold owns; iexists _; isplitr
            swap; · iexact H11
            ipureintro; exact View.read_writes_of_cover _ _ _ _ _ (cover0_C_11 c _ _ _ _ _ _ _ _ _ _ _ _ _ _ _ _ _ _ _ _ _ _ _ _ _ _ _ _ _ _ _ _ _ _ _ _ _ _ _ _ _ _ _ _)
      · by_cases h3 : t.val % 4 = 3
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          rw [show (dats m 0 c).leavesExact 8 t = owns (c : Thread nD τ) (ms0_8 t) fullShare ((dats m 0 c).after 8 t) from by
      unfold Dat.leavesExact; rw [liveAt0_8 t], after0_8]
          rw [show (dats m 0 c).leavesExact 9 t = owns (c : Thread nD τ) (ms0_9 t) fullShare ((dats m 0 c).after 9 t) from by
      unfold Dat.leavesExact; rw [liveAt0_9_D t (fun h => h0 ((hcond0_0 t).mp h)) (fun h => h1 ((hcond0_1 t).mp h)) (fun h => h2 ((hcond0_2 t).mp h)) ((hcond0_3 t).mpr h3)], after0_9]
          rw [show (dats m 0 c).leavesExact 10 t = owns (c : Thread nD τ) (ms0_10 t) fullShare ((dats m 0 c).after 10 t) from by
      unfold Dat.leavesExact; rw [liveAt0_10_D t (fun h => h0 ((hcond0_0 t).mp h)) (fun h => h1 ((hcond0_1 t).mp h)) (fun h => h2 ((hcond0_2 t).mp h)) ((hcond0_3 t).mpr h3)], after0_10]
          rw [show (dats m 0 c).leavesExact 11 t = owns (c : Thread nD τ) (ms0_11 t) fullShare ((dats m 0 c).after 11 t) from by
      unfold Dat.leavesExact; rw [liveAt0_11_D t (fun h => h0 ((hcond0_0 t).mp h)) (fun h => h1 ((hcond0_1 t).mp h)) (fun h => h2 ((hcond0_2 t).mp h)) ((hcond0_3 t).mpr h3)], after0_11]
          by_cases hz : t.val = 0
          · exfalso; have hN : t.val < 32 := lt_of_lt_of_eq t.isLt (show cfg0.N = 32 from N_0); omega
          · rw [PhiS_castSucc m c t, PhiS_pos m c _ _ hz]
            rw [outsAt0_D m c t h0 h1 h2 h3]
            unfold out0_D_9 out0_D_10 out0_D_11 sout0_D_0 sout0_D_1; (try dsimp only)
            iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
            iapply ((kernelRun0_D c (grid0.coords t) _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) _ _).2.2.2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexists _; iexact H9
            isplitl [H10]; · iexists _; iexact H10
            isplitl [H11]; · iexists _; iexact H11
            isplitl [HS0]; · iexact HS0
            isplitl [HS1]; · iexact HS1
            iintro ⟨H0, H1, H2, H3, H4, H5, H6, H7, H8, ⟨%e9, H9⟩, ⟨%e10, H10⟩, ⟨%e11, H11⟩, HS0, HS1⟩
            isplitl [HS0 HS1 Hg]
            · isplitl [HS0 HS1]
              · isplitl [HS0]
                · iexact HS0
                iexact HS1
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]
            · unfold owns; iexists _; isplitr
              swap; · iexact H9
              ipureintro; exact View.read_writes_of_cover _ _ _ _ _ (cover0_D_9 c _ _ _ _ _ _ _ _ _ _ _ _ _ _ _ _ _ _ _ _ _ _ _ _ _ _ _ _ _ _ _ _ _ _ _ _ _ _ _ _ _ _ _ _)
            isplitl [H10]
            · unfold owns; iexists _; isplitr
              swap; · iexact H10
              ipureintro; exact View.read_writes_of_cover _ _ _ _ _ (cover0_D_10 c _ _ _ _ _ _ _ _ _ _ _ _ _ _ _ _ _ _ _ _ _ _ _ _ _ _ _ _ _ _ _ _ _ _ _ _ _ _ _ _ _ _ _ _)
            unfold owns; iexists _; isplitr
            swap; · iexact H11
            ipureintro; exact View.read_writes_of_cover _ _ _ _ _ (cover0_D_11 c _ _ _ _ _ _ _ _ _ _ _ _ _ _ _ _ _ _ _ _ _ _ _ _ _ _ _ _ _ _ _ _ _ _ _ _ _ _ _ _ _ _ _ _)
        · exfalso; omega

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 32 := N_0; omega)
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.InProjIdeal.Run

end
-- ==== Proof.FfnVal.lean ====
/- The feed-forward network: the kernel's payloads at an index, at the ideal instance. -/
module

public import proofs.«01_k».proof.Proof.Gen.FfnIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Proof.FfnVal

open Idealize.ShloMosaic Idealize.ShloMosaic.TcCoe Idealize.SL.Sem

/-- The activation: the square of the positive part. -/
def act (a : EReal) : EReal := max a 0 * max a 0

/-- The reciprocal root mean square of one row. -/
def scale (x : Fin 2048 → EReal) : EReal :=
  Ideal.rsqrt (Ideal.div (∑ j : Fin 2048, x j * x j) (Ideal.ofBits .f32 0x45000000#32)
    + Ideal.ofBits .f32 0x358637BD#32)

section Pay
open Cert.FfnIdeal Cert.FfnIdeal.Gen

theorem pay5_apply (h : FVec Ideal S1024x2048 .bf16) (w : FVec Ideal S2048x1024 .bf16) (r p : Fin 1024) :
    k0_pay5 (F := Ideal) h w (ix2 r p) = ∑ k : Fin 2048, h (ix2 r k) * w (ix2 k p) := by
  pointwise [k0_pay5]

theorem pay4_apply (x : FVec Ideal S1024x2048 .f32) (g : FVec Ideal S1x2048 .f32) (r : Fin 1024) (j : Fin 2048) :
    k0_pay4 (F := Ideal) x g (ix2 r j) = x (ix2 r j) * g (ix2 0 j) := by
  pointwise [k0_pay4]

theorem pay3_apply (x : FVec Ideal S1024x2048 .f32) (r : Fin 1024) (l : Fin 128) :
    k0_pay3 (F := Ideal) x (ix2 r l) = scale (fun j => x (ix2 r j)) := by
  pointwise [k0_pay3, scale]

theorem pay1_apply (h : FVec Ideal S1024x2048 .bf16) (w : FVec Ideal S2048x1024 .bf16) (rr : FVec Ideal S1024x128 .f32)
    (x : FVec Ideal S1024x2048 .f32) (w2 : FVec Ideal S1024x2048 .bf16) (r : Fin 1024) (c : Fin 2048) (R : EReal)
    (hR : ∀ l : Fin 128, rr (ix2 r l) = R) :
    k0_pay1 (F := Ideal) (k0_pay6 (F := Ideal) h w rr) (k0_pay8 (F := Ideal) (k0_pay7 (F := Ideal) h w) rr) (k0_pay9 (F := Ideal) (k0_pay5 (F := Ideal) h w) rr) (k0_pay10 (F := Ideal) (k0_pay5 (F := Ideal) h w) rr)
      (k0_pay11 (F := Ideal) (k0_pay5 (F := Ideal) h w) rr) (k0_pay12 (F := Ideal) (k0_pay5 (F := Ideal) h w) rr) (k0_pay13 (F := Ideal) (k0_pay5 (F := Ideal) h w) rr) (k0_pay14 (F := Ideal) (k0_pay5 (F := Ideal) h w)) rr
      x w2 (ix2 r c)
      = x (ix2 r c) + ∑ p : Fin 1024, act ((∑ k : Fin 2048, h (ix2 r k) * w (ix2 k p)) * R) * w2 (ix2 p c) := by
  simp only [← pay5_apply]
  unfold k0_pay6 k0_pay7
  generalize k0_pay5 (F := Ideal) h w = a
  pointwise [k0_pay1, k0_pay8, k0_pay9, k0_pay10, k0_pay11, k0_pay12, k0_pay13, k0_pay14]
  congr 1
  refine Finset.sum_congr rfl fun p _ => ?_
  congr 1
  have e : ∀ (q : ℕ) (hq : q < 1024), q = p.val → a (ix2 r ⟨q, hq⟩) = a (ix2 r p) := by
    rintro q hq rfl; rfl
  simp only [hR]
  unfold act
  split_ifs <;> first | rfl | rw [e _ _ (by omega)]

theorem pay2_apply (h : FVec Ideal S1024x2048 .bf16) (w : FVec Ideal S2048x1024 .bf16) (rr : FVec Ideal S1024x128 .f32)
    (x : FVec Ideal S1024x2048 .f32) (w2 : FVec Ideal S1024x2048 .bf16) (r : Fin 1024) (c : Fin 2048) (R : EReal)
    (hR : ∀ l : Fin 128, rr (ix2 r l) = R) :
    k0_pay2 (F := Ideal) (k0_pay15 (F := Ideal) h w) (k0_pay16 (F := Ideal) h w rr) (k0_pay17 (F := Ideal) h w rr)
      (k0_pay18 (F := Ideal) h w rr) (k0_pay19 (F := Ideal) h w rr) (k0_pay20 (F := Ideal) h w rr)
      (k0_pay21 (F := Ideal) h w) rr rr rr x w2 (ix2 r c)
      = x (ix2 r c) + ∑ p : Fin 1024, act ((∑ k : Fin 2048, h (ix2 r k) * w (ix2 k p)) * R) * w2 (ix2 p c) := by
  simp only [← pay5_apply]
  have e15 : k0_pay15 (F := Ideal) h w = k0_pay5 (F := Ideal) h w := rfl
  unfold k0_pay16 k0_pay17 k0_pay18 k0_pay19 k0_pay20 k0_pay21
  rw [e15]
  generalize k0_pay5 (F := Ideal) h w = a
  pointwise [k0_pay2]
  congr 1
  refine Finset.sum_congr rfl fun p _ => ?_
  congr 1
  have e : ∀ (q : ℕ) (hq : q < 1024), q = p.val → a (ix2 r ⟨q, hq⟩) = a (ix2 r p) := by
    rintro q hq rfl; rfl
  simp only [hR]
  unfold act
  split_ifs <;> first | rfl | rw [e _ _ (by omega)]

end Pay

section Kernel
open Cert.FfnIdeal Cert.FfnIdeal.Gen
variable (m : (ℓ : Loc nD τ sig) → Buf (Elt Ideal) ℓ)

/-- A row of grid point `n`'s block, among all rows. -/
def row (n : ℕ) (r : Fin 1024) : Fin 8192 := Fin.ofNat 8192 (1024 * (n / 8) + r.val)
/-- A hidden column of the `k`-th chunk, among all hidden columns. -/
def col (k : ℕ) (p : Fin 1024) : Fin 8192 := Fin.ofNat 8192 (k * 1024 + p.val)

theorem row_val (t : Fin cfg0.N) (r : Fin 1024) : (row t.val r).val = 1024 * (t.val / 8) + r.val := by
  have : t.val < 64 := t.isLt
  have := r.isLt
  show (1024 * (t.val / 8) + r.val) % 8192 = _
  exact Nat.mod_eq_of_lt (by omega)

theorem col_val (t : Fin cfg0.N) (p : Fin 1024) : (col (t.val % 8) p).val = t.val % 8 * 1024 + p.val := by
  have := p.isLt
  show (t.val % 8 * 1024 + p.val) % 8192 = _
  exact Nat.mod_eq_of_lt (by omega)

theorem idx : ∀ t : Fin cfg0.N, (win0_0.index t (0 : Fin 2) = t.val / 8 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = t.val % 8)
    ∧ (win0_3.index t (0 : Fin 2) = t.val % 8 ∧ win0_3.index t (1 : Fin 2) = 0)
    ∧ (win0_4.index t (0 : Fin 2) = t.val / 8 ∧ win0_4.index t (1 : Fin 2) = 0) :=
  (by decide +kernel : ∀ t : Fin grid0.N, _)

/-- The four arguments of the call. -/
abbrev X (c : Dev nD) : S8192x2048.Idx → EReal := m ((c : Thread nD τ).loc main_arg0)
abbrev Gn (c : Dev nD) : S1x2048.Idx → EReal := m ((c : Thread nD τ).loc main_arg1)
abbrev W1 (c : Dev nD) : S2048x8192.Idx → EReal := m ((c : Thread nD τ).loc main_arg2)
abbrev W2 (c : Dev nD) : S8192x2048.Idx → EReal := m ((c : Thread nD τ).loc main_arg3)

theorem iblk0 (c : Dev nD) (t : Fin cfg0.N) (r : Fin 1024) (j : Fin 2048) :
    iblk m c 0 t (ix2 r j) = X m c (ix2 (row t.val r) j) := by
  obtain ⟨⟨e0, e1⟩, -⟩ := idx t
  show X m c (((cfg0.win 0).blk t).view.emb (ix2 r j)) = _
  congr 1; funext a; apply Fin.ext
  match a with
  | ⟨0, _⟩ => show win0_0.index t (0 : Fin 2) * 1024 + 1 * r.val = (row t.val r).val; rw [row_val]; omega
  | ⟨1, _⟩ => show win0_0.index t (1 : Fin 2) * 2048 + 1 * j.val = j.val; omega

/-- The gain as the call's region finds it: the argument, its row cast to a vector and back. -/
theorem V_gain (c : Dev nD) : V m c main_v1
    = shapeCast S1x2048 (shapeCast S2048 (Gn m c) shapeCasts_S1x2048_S2048) shapeCasts_S2048_S1x2048 := by
  show StableHlo.after hostOps0 _ (main_v1 : Ref sig .tc) = _
  after_results
  rfl

theorem gain_apply (g : FVec Ideal S1x2048 .f32) (r : Fin 1) (j : Fin 2048) :
    shapeCast S1x2048 (shapeCast S2048 g shapeCasts_S1x2048_S2048) shapeCasts_S2048_S1x2048 (ix2 r j) = g (ix2 0 j) := by
  rw [Subsingleton.elim r 0]
  pointwise

theorem iblk1 (c : Dev nD) (t : Fin cfg0.N) (r : Fin 1) (j : Fin 2048) :
    iblk m c 1 t (ix2 r j) = Gn m c (ix2 0 j) := by
  obtain ⟨-, ⟨e0, e1⟩, -⟩ := idx t
  refine Eq.trans ?_ (gain_apply (Gn m c) r j)
  rw [← V_gain]
  show V m c main_v1 (((cfg0.win 1).blk t).view.emb (ix2 r j)) = _
  congr 1; funext a; apply Fin.ext
  match a with
  | ⟨0, _⟩ => show win0_1.index t (0 : Fin 2) * 1 + 1 * r.val = r.val; omega
  | ⟨1, _⟩ => show win0_1.index t (1 : Fin 2) * 2048 + 1 * j.val = j.val; omega

theorem iblk2 (c : Dev nD) (t : Fin cfg0.N) (j : Fin 2048) (p : Fin 1024) :
    iblk m c 2 t (ix2 j p) = W1 m c (ix2 j (col (t.val % 8) p)) := by
  obtain ⟨-, -, ⟨e0, e1⟩, -⟩ := idx t
  show W1 m c (((cfg0.win 2).blk t).view.emb (ix2 j p)) = _
  congr 1; funext a; apply Fin.ext
  match a with
  | ⟨0, _⟩ => show win0_2.index t (0 : Fin 2) * 2048 + 1 * j.val = j.val; omega
  | ⟨1, _⟩ => show win0_2.index t (1 : Fin 2) * 1024 + 1 * p.val = (col (t.val % 8) p).val; rw [col_val]; omega

theorem iblk3 (c : Dev nD) (t : Fin cfg0.N) (p : Fin 1024) (j : Fin 2048) :
    iblk m c 3 t (ix2 p j) = W2 m c (ix2 (col (t.val % 8) p) j) := by
  obtain ⟨-, -, -, ⟨e0, e1⟩, -⟩ := idx t
  show W2 m c (((cfg0.win 3).blk t).view.emb (ix2 p j)) = _
  congr 1; funext a; apply Fin.ext
  match a with
  | ⟨0, _⟩ => show win0_3.index t (0 : Fin 2) * 1024 + 1 * p.val = (col (t.val % 8) p).val; rw [col_val]; omega
  | ⟨1, _⟩ => show win0_3.index t (1 : Fin 2) * 2048 + 1 * j.val = j.val; omega

theorem emb4 (t : Fin cfg0.N) (r : Fin 1024) (j : Fin 2048) :
    ((cfg0.win 4).blk t).view.emb (ix2 r j) = ix2 (row t.val r) j := by
  obtain ⟨-, -, -, -, ⟨e0, e1⟩⟩ := idx t
  funext a; apply Fin.ext
  match a with
  | ⟨0, _⟩ => show win0_4.index t (0 : Fin 2) * 1024 + 1 * r.val = (row t.val r).val; rw [row_val]; omega
  | ⟨1, _⟩ => show win0_4.index t (1 : Fin 2) * 2048 + 1 * j.val = j.val; omega

/-- One hidden column's part of the result, the row's scale taken out of the first product. -/
def unit (c : Dev nD) (i : Fin 8192) (q : Fin 8192) (j : Fin 2048) : EReal :=
  act ((∑ k : Fin 2048, (X m c (ix2 i k) * Gn m c (ix2 0 k)) * W1 m c (ix2 k q)) * scale (fun k => X m c (ix2 i k)))
    * W2 m c (ix2 q j)

/-- What the call's buffers hold after point `t`: the row scales, the scaled input, and the result so far. -/
structure After (c : Dev nD) (n : ℕ) (o : Vec Ideal S1024x2048 .f32) (h : Vec Ideal S1024x2048 .bf16)
    (s : Vec Ideal S1024x128 .f32) : Prop where
  s : ∀ r l, s (ix2 r l) = scale (fun k => X m c (ix2 (row n r) k))
  h : ∀ r j, h (ix2 r j) = X m c (ix2 (row n r) j) * Gn m c (ix2 0 j)
  o : ∀ r j, o (ix2 r j) = X m c (ix2 (row n r) j)
    + ∑ k ∈ Finset.range (n % 8 + 1), ∑ p : Fin 1024, unit m c (row n r) (col k p) j

theorem pay3_blk (c : Dev nD) (t : Fin cfg0.N) (r : Fin 1024) (l : Fin 128) :
    k0_pay3 (F := Ideal) (iblk m c 0 t) (ix2 r l) = scale (fun k => X m c (ix2 (row t.val r) k)) :=
  (pay3_apply _ r l).trans (congrArg scale (funext fun k => iblk0 m c t r k))

theorem pay4_blk (c : Dev nD) (t : Fin cfg0.N) (r : Fin 1024) (j : Fin 2048) :
    k0_pay4 (F := Ideal) (iblk m c 0 t) (iblk m c 1 t) (ix2 r j) = X m c (ix2 (row t.val r) j) * Gn m c (ix2 0 j) :=
  (pay4_apply _ _ r j).trans (congrArg₂ (· * ·) (iblk0 m c t r j) (iblk1 m c t 0 j))

/-- One chunk's contribution, from the scaled input and the row scale. -/
theorem chunk (c : Dev nD) (t : Fin cfg0.N) (h : Vec Ideal S1024x2048 .bf16) (r : Fin 1024) (j : Fin 2048) (R : EReal)
    (hR : R = scale (fun k => X m c (ix2 (row t.val r) k)))
    (hh : ∀ j, h (ix2 r j) = X m c (ix2 (row t.val r) j) * Gn m c (ix2 0 j)) :
    (∑ p : Fin 1024, act ((∑ k : Fin 2048, h (ix2 r k) * iblk m c 2 t (ix2 k p)) * R) * iblk m c 3 t (ix2 p j))
      = ∑ p : Fin 1024, unit m c (row t.val r) (col (t.val % 8) p) j := by
  subst hR
  refine Finset.sum_congr rfl fun p _ => ?_
  unfold unit
  refine congrArg₂ (fun a b => act (a * _) * b) (Finset.sum_congr rfl fun k _ => ?_) (iblk3 m c t p j)
  exact congrArg₂ (· * ·) (hh k) (iblk2 m c t k p)

theorem after_A (c : Dev nD) (t : Fin cfg0.N) (h0 : t.val % 8 = 0) :
    After m c t.val (outsAt0 m c t.val t.isLt).1 (outsAt0 m c t.val t.isLt).2.1 (outsAt0 m c t.val t.isLt).2.2 where
  s r l := by
    rw [outsAt0_A m c t h0 (by omega)]
    frame_out
    exact pay3_blk m c t r l
  h r j := by
    rw [outsAt0_A m c t h0 (by omega)]
    frame_out
    exact pay4_blk m c t r j
  o r j := by
    rw [outsAt0_A m c t h0 (by omega)]
    frame_out
    refine (pay1_apply _ _ _ _ _ r j _ (fun l => pay3_blk m c t r l)).trans ?_
    refine congrArg₂ (· + ·) (iblk0 m c t r j) ?_
    rw [h0, Finset.sum_range_one]
    refine (chunk m c t _ r j _ rfl (fun j => pay4_blk m c t r j)).trans ?_
    rw [h0]

theorem after_B (c : Dev nD) (t : Fin cfg0.N) (h0 : ¬ t.val % 8 = 0) (n : ℕ) (hn : n < cfg0.N) (ht : t.val = n + 1)
    (ih : After m c n (outsAt0 m c n hn).1 (outsAt0 m c n hn).2.1 (outsAt0 m c n hn).2.2) :
    After m c t.val (outsAt0 m c t.val t.isLt).1 (outsAt0 m c t.val t.isLt).2.1 (outsAt0 m c t.val t.isLt).2.2 := by
  have hrow : ∀ r, row n r = row t.val r := fun r => by
    unfold row; rw [show n / 8 = t.val / 8 by omega]
  have hprev : ∀ hp, outsAt0 m c (t.val - 1) hp = outsAt0 m c n hn := by
    have e : t.val - 1 = n := by omega
    revert hn; rw [← e]; intros; rfl
  have hs : ∀ r l, (outsAt0 m c n hn).2.2 (ix2 r l) = scale (fun k => X m c (ix2 (row t.val r) k)) := fun r l => by
    rw [← hrow]; exact ih.s r l
  have hh : ∀ r j, (outsAt0 m c n hn).2.1 (ix2 r j) = X m c (ix2 (row t.val r) j) * Gn m c (ix2 0 j) := fun r j => by
    rw [← hrow]; exact ih.h r j
  refine ⟨fun r l => ?_, fun r j => ?_, fun r j => ?_⟩
  · rw [outsAt0_B m c t h0 (by omega)]
    unfold sout0_B_1
    simp only [hprev]
    exact hs r l
  · rw [outsAt0_B m c t h0 (by omega)]
    unfold sout0_B_0
    simp only [hprev]
    exact hh r j
  · rw [outsAt0_B m c t h0 (by omega)]
    frame_out
    simp only [read_unread_whole, hprev]
    refine (pay2_apply _ _ _ _ _ r j _ (fun l => hs r l)).trans ?_
    rw [ih.o r j, hrow, show n % 8 + 1 = t.val % 8 by omega, Finset.sum_range_succ _ (t.val % 8), ← add_assoc]
    exact congrArg (_ + ·) (chunk m c t _ r j _ rfl (fun j => hh r j))

theorem after (c : Dev nD) : ∀ (n : ℕ) (hn : n < cfg0.N),
    After m c n (outsAt0 m c n hn).1 (outsAt0 m c n hn).2.1 (outsAt0 m c n hn).2.2
  | 0, hn => after_A m c ⟨0, hn⟩ rfl
  | n + 1, hn => by
    by_cases h0 : (n + 1) % 8 = 0
    · exact after_A m c ⟨n + 1, hn⟩ h0
    · exact after_B m c ⟨n + 1, hn⟩ h0 n (Nat.lt_of_succ_lt hn) rfl (after c n (Nat.lt_of_succ_lt hn))

/-- The call's result: the input plus the hidden columns' parts. -/
def G (c : Dev nD) (i : S8192x2048.Idx) : EReal := X m c i + ∑ q : Fin 8192, unit m c (i 0) q (i 1)

/-- The chunks' hidden columns are all of them, each once. -/
theorem hidden (c : Dev nD) (i : Fin 8192) (j : Fin 2048) :
    (∑ k ∈ Finset.range (7 + 1), ∑ p : Fin 1024, unit m c i (col k p) j) = ∑ q : Fin 8192, unit m c i q j := by
  rw [Finset.sum_range (fun k => ∑ p : Fin 1024, unit m c i (col k p) j)]
  refine (Fin.sum_univ_univ_mul_add 8 1024 (fun l => unit m c i (Fin.ofNat 8192 l) j)).trans ?_
  refine Finset.sum_congr rfl fun q _ => ?_
  congr 1
  exact Fin.ext (Nat.mod_eq_of_lt q.isLt)

theorem final (c : Dev nD) : (dats m 0 c).arrAt 4 cfg0.N = G m c := by
  refine (dats m 0 c).arrAt_eq_of_covers 4 _ (by decide +kernel) fun t hf y => ?_
  blk_simp
  have hy : y = ix2 (n0 := 1024) (n1 := 2048) (y 0) (y 1) := eq_ix2 y
  have he : ((View.whole main_v2).slice (win0_4.rect t)).emb y = ix2 (row t.val (y 0)) (y 1) := by
    conv_lhs => rw [hy]
    exact emb4 t (y 0) (y 1)
  rw [he]
  have h7 : t.val % 8 = 7 := (flush0_4 t).mp hf
  rw [after0_4]
  refine (congrArg _ hy).trans (((after m c t.val t.isLt).o (y 0) (y 1)).trans ?_)
  rw [h7]
  exact congrArg (_ + ·) (hidden m c (row t.val (y 0)) (y 1))

end Kernel
end Cert.Proof.FfnVal
end
-- ==== Proof.InCase.lean ====
/- What each case of a grid step leaves in the results' buffers and in the two shared ones, at exact values. -/
module

public import proofs.«01_k».proof.Proof.InStep
public import proofs.«01_k».proof.Proof.InFrame
public import proofs.«01_k».proof.Proof.FfnVal

@[expose] public section

set_option maxRecDepth 16384

noncomputable section

namespace Cert.Proof.InCase

open Idealize.ShloMosaic Idealize.ShloMosaic.TcCoe Idealize.ShloMosaic.Tactic Cert.InProjIdeal Cert.InProjIdeal.Gen Cert.InProjIdeal.Run Cert.Proof.InBlocks Cert.Proof.InStep

theorem rd_ix2 {a b a' b' : ℕ} {e : EltTy} (M : Memref sig .tc .vmem ⟨2, ![a, b]⟩ e) (hM : M.IsWhole)
    (x : Vec Ideal ⟨2, ![a, b]⟩ e) (off : Fin 2 → ℕ)
    (inb : ∀ k, off k + (⟨2, ![a', b']⟩ : Shape).size k ≤ (⟨2, ![a, b]⟩ : Shape).size k) (i : Fin a') (k : Fin b') (i' : Fin a) (k' : Fin b)
    (hi : i'.val = off 0 + i.val) (hk : k'.val = off 1 + k.val) :
    View.readAt (Elt Ideal) M.view (Rect.unit (s := ⟨2, ![a, b]⟩) off (⟨2, ![a', b']⟩ : Shape).size inb).toLoadRect (hM.unread x) (ix2 i k)
      = x (ix2 i' k') := by
  rw [View.readAt_eq_ld, hM.read_unread]
  exact ld_ix2 x off inb i k i' k' hi hk

theorem rd_full {s : Shape} {e : EltTy} (M : Memref sig .tc .vmem s e) (hM : M.IsWhole) (x : Vec Ideal s e)
    (off : Fin s.rank → ℕ) (inb : ∀ k, off k + s.size k ≤ s.size k) (h0 : ∀ a, off a = 0) :
    View.readAt (Elt Ideal) M.view (Rect.unit off s.size inb).toLoadRect (hM.unread x) = x := by
  rw [View.readAt_eq_ld, hM.read_unread]
  exact View.ld_unit_lit inb x h0

/-- The rows' scales. -/
theorem pay12_apply (x : Vec Ideal S512x2048 .f32) (i : Fin 512) (l : Fin 128) :
    (k0_pay12 (F := Ideal) x : FVec Ideal S512x128 .f32) (ix2 i l) = FfnVal.scale (fun k => x (ix2 i k)) := by
  pointwise [k0_pay12, k0_pay11, FfnVal.scale]

theorem pay13_apply (x : Vec Ideal S512x2048 .f32) (g : Vec Ideal S1x2048 .f32) (i : Fin 512) (k : Fin 2048) :
    (k0_pay13 (F := Ideal) x g : FVec Ideal S512x2048 .bf16) (ix2 i k) = x (ix2 i k) * g (ix2 0 k) := by
  pointwise [k0_pay13, k0_pay11]

/-- Two pieces that cover the rows: what they leave. -/
theorem canon_rows {s : Shape} {e : EltTy} (G : Vec Ideal s e) (P : Fin 2 → View.Piece (Elt Ideal) s e)
    (hp : ∀ q x, (P q).2 x = G ((P q).1.emb x)) (hm : ∀ y, ∃ q, y ∈ (P q).1.set) : View.canon [P 1, P 0] = G := by
  funext y
  refine View.canon_apply_of_pieces (Val := Elt Ideal) G _ ?_ y ?_
  · intro pc hpc
    simp only [List.mem_cons, List.not_mem_nil, or_false] at hpc
    rcases hpc with rfl | rfl
    · exact hp 1
    · exact hp 0
  · obtain ⟨q, hq⟩ := hm y
    match q with
    | ⟨0, _⟩ => exact ⟨_, List.mem_cons_of_mem _ List.mem_cons_self, hq⟩
    | ⟨1, _⟩ => exact ⟨_, List.mem_cons_self, hq⟩

theorem s1_canon (G : Vec Ideal S64x8192 .bf16) (x : Fin 2 → Vec Ideal S32x8192 .f32)
    (hx : ∀ (q : Fin 2) (i : Fin 32) (k : Fin 8192), x q (ix2 i k) = G (ix2 (⟨32 * q.val + i.val, by omega⟩ : Fin 64) k)) :
    View.canon [s1Piece (F := Ideal) x 1, s1Piece (F := Ideal) x 0] = G := by
  refine canon_rows G (fun q => s1Piece (F := Ideal) x q) (fun q y => ?_) fun y => ?_
  · obtain ⟨i, k, rfl⟩ : ∃ (i : Fin 32) (k : Fin 8192), y = ix2 i k := ⟨y 0, y 1, eq_ix2 y⟩
    have he : (rS1 q).emb (ix2 i k) = ix2 (⟨32 * q.val + i.val, by omega⟩ : Fin 64) k := by
      funext d; apply Fin.ext
      match d with
      | ⟨0, _⟩ => show 32 * q.val + 1 * i.val = 32 * q.val + i.val; omega
      | ⟨1, _⟩ => show 0 + 1 * k.val = k.val; omega
    refine Eq.trans ?_ ((hx q i k).trans (congrArg G he).symm)
    show shapeCast S32x8192 (x q) _ (ix2 i k) = _
    pointwise
  · have h0 : (y 0).val < 64 := (y 0).isLt
    have h1 : (y 1).val < 8192 := (y 1).isLt
    refine ⟨⟨(y 0).val / 32, by omega⟩, (Rect.mem_set_unit (inb := inb_s1 _)).mpr fun a => ?_⟩
    match a with
    | ⟨0, _⟩ => show 32 * ((y 0).val / 32) ≤ (y 0).val ∧ (y 0).val < 32 * ((y 0).val / 32) + 32; omega
    | ⟨1, _⟩ => show 0 ≤ (y 1).val ∧ (y 1).val < 0 + 8192; omega

theorem s2_canon (G : Vec Ideal S256x2048 .bf16) (x : Fin 2 → Vec Ideal S128x2048 .f32)
    (hx : ∀ (q : Fin 2) (i : Fin 128) (k : Fin 2048), x q (ix2 i k) = G (ix2 (⟨128 * q.val + i.val, by omega⟩ : Fin 256) k)) :
    View.canon [s2Piece (F := Ideal) x 1, s2Piece (F := Ideal) x 0] = G := by
  refine canon_rows G (fun q => s2Piece (F := Ideal) x q) (fun q y => ?_) fun y => ?_
  · obtain ⟨i, k, rfl⟩ : ∃ (i : Fin 128) (k : Fin 2048), y = ix2 i k := ⟨y 0, y 1, eq_ix2 y⟩
    have he : (rS2 q).emb (ix2 i k) = ix2 (⟨128 * q.val + i.val, by omega⟩ : Fin 256) k := by
      funext d; apply Fin.ext
      match d with
      | ⟨0, _⟩ => show 128 * q.val + 1 * i.val = 128 * q.val + i.val; omega
      | ⟨1, _⟩ => show 0 + 1 * k.val = k.val; omega
    refine Eq.trans ?_ ((hx q i k).trans (congrArg G he).symm)
    show shapeCast S128x2048 (x q) _ (ix2 i k) = _
    pointwise
  · have h0 : (y 0).val < 256 := (y 0).isLt
    have h1 : (y 1).val < 2048 := (y 1).isLt
    refine ⟨⟨(y 0).val / 128, by omega⟩, (Rect.mem_set_unit (inb := inb_s2 _)).mpr fun a => ?_⟩
    match a with
    | ⟨0, _⟩ => show 128 * ((y 0).val / 128) ≤ (y 0).val ∧ (y 0).val < 128 * ((y 0).val / 128) + 128; omega
    | ⟨1, _⟩ => show 0 ≤ (y 1).val ∧ (y 1).val < 0 + 2048; omega

theorem h_canon (G : Vec Ideal S1024x2048 .bf16) (x : Fin 2 → Vec Ideal S512x2048 .f32) (g : Vec Ideal S1x2048 .f32)
    (hx : ∀ (q : Fin 2) (i : Fin 512) (k : Fin 2048), x q (ix2 i k) * g (ix2 0 k) = G (ix2 (⟨512 * q.val + i.val, by omega⟩ : Fin 1024) k)) :
    View.canon [hPiece (F := Ideal) x g 1, hPiece (F := Ideal) x g 0] = G := by
  refine canon_rows G (fun q => hPiece (F := Ideal) x g q) (fun q y => ?_) fun y => ?_
  · obtain ⟨i, k, rfl⟩ : ∃ (i : Fin 512) (k : Fin 2048), y = ix2 i k := ⟨y 0, y 1, eq_ix2 y⟩
    have he : (rH q).emb (ix2 i k) = ix2 (⟨512 * q.val + i.val, by omega⟩ : Fin 1024) k := by
      funext d; apply Fin.ext
      match d with
      | ⟨0, _⟩ => show 512 * q.val + 1 * i.val = 512 * q.val + i.val; omega
      | ⟨1, _⟩ => show 0 + 1 * k.val = k.val; omega
    refine Eq.trans ?_ ((hx q i k).trans (congrArg G he).symm)
    exact pay13_apply _ _ i k
  · have h0 : (y 0).val < 1024 := (y 0).isLt
    have h1 : (y 1).val < 2048 := (y 1).isLt
    refine ⟨⟨(y 0).val / 512, by omega⟩, (Rect.mem_set_unit (inb := inb_h _)).mpr fun a => ?_⟩
    match a with
    | ⟨0, _⟩ => show 512 * ((y 0).val / 512) ≤ (y 0).val ∧ (y 0).val < 512 * ((y 0).val / 512) + 512; omega
    | ⟨1, _⟩ => show 0 ≤ (y 1).val ∧ (y 1).val < 0 + 2048; omega

theorem r_canon (G : Vec Ideal S1024x128 .f32) (x : Fin 2 → Vec Ideal S512x2048 .f32)
    (hx : ∀ (q : Fin 2) (i : Fin 512) (k : Fin 128), FfnVal.scale (fun l => x q (ix2 i l)) = G (ix2 (⟨512 * q.val + i.val, by omega⟩ : Fin 1024) k)) :
    View.canon [rPiece (F := Ideal) x 1, rPiece (F := Ideal) x 0] = G := by
  refine canon_rows G (fun q => rPiece (F := Ideal) x q) (fun q y => ?_) fun y => ?_
  · obtain ⟨i, k, rfl⟩ : ∃ (i : Fin 512) (k : Fin 128), y = ix2 i k := ⟨y 0, y 1, eq_ix2 y⟩
    have he : (rR q).emb (ix2 i k) = ix2 (⟨512 * q.val + i.val, by omega⟩ : Fin 1024) k := by
      funext d; apply Fin.ext
      match d with
      | ⟨0, _⟩ => show 512 * q.val + 1 * i.val = 512 * q.val + i.val; omega
      | ⟨1, _⟩ => show 0 + 1 * k.val = k.val; omega
    refine Eq.trans ?_ ((hx q i k).trans (congrArg G he).symm)
    exact pay12_apply _ i k
  · have h0 : (y 0).val < 1024 := (y 0).isLt
    have h1 : (y 1).val < 128 := (y 1).isLt
    refine ⟨⟨(y 0).val / 512, by omega⟩, (Rect.mem_set_unit (inb := inb_r _)).mpr fun a => ?_⟩
    match a with
    | ⟨0, _⟩ => show 512 * ((y 0).val / 512) ≤ (y 0).val ∧ (y 0).val < 512 * ((y 0).val / 512) + 512; omega
    | ⟨1, _⟩ => show 0 ≤ (y 1).val ∧ (y 1).val < 0 + 128; omega

section Runs

variable (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1792 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S64x8192 .f32) (harg9 : arg9.IsWhole) (arg10 : Memref sig .tc .vmem S256x2048 .f32) (harg10 : arg10.IsWhole) (arg11 : Memref sig .tc .vmem S1024x1792 .bf16) (harg11 : arg11.IsWhole) (arg12 : Memref sig .tc .vmem S64x8192 .bf16) (harg12 : arg12.IsWhole) (arg13 : Memref sig .tc .vmem S256x2048 .bf16) (harg13 : arg13.IsWhole) (arg14 : Memref sig .tc .vmem S1024x2048 .bf16) (harg14 : arg14.IsWhole) (arg15 : Memref sig .tc .vmem S1024x128 .f32) (harg15 : arg15.IsWhole)
  (x0 : Vec Ideal S1024x2048 .f32) (x1 : Vec Ideal S1x2048 .f32) (x2 : Vec Ideal S2048x1792 .bf16) (x3 : Vec Ideal S1024x128 .f32) (x4 : Vec Ideal S1024x128 .f32) (x5 : Vec Ideal S1x128 .f32) (x6 : Vec Ideal S1x128 .f32) (x7 : Vec Ideal S64x8192 .f32) (x8 : Vec Ideal S256x2048 .f32)

theorem outA_eq (hc0 : cond0_0 i) (hc1 : ¬cond0_1 i) (hc2 : ¬cond0_2 i) (hc3 : ¬cond0_3 i) :
    out0_A_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8
      = blockv 0 (fun i k => x0 (ix2 i k) * x1 (ix2 0 k)) x2 (fun i => FfnVal.scale (fun k => x0 (ix2 i k))) x3 x4 x5 x6 := by
  unfold out0_A_9
  rw [View.read_writes_junk_eq_canon, InBlocks.outA c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 hc0 hc1 hc2 hc3, rd_full arg7 harg7 x5 ![0, 0] inb_S1x128_S1x128_0_0 (by decide), rd_full arg8 harg8 x6 ![0, 0] inb_S1x128_S1x128_0_0 (by decide)]
  refine canon_two headsA 0 steps_A all_A _ x2 _ x3 x4 x5 x6 _ (fun p k l => rd_ix2 arg4 harg4 x2 _ _ k l _ _ (by show k.val = 0 + k.val; omega) rfl) _ _ _ _ (fun q i k => ?_) (fun q i l => ?_) (fun q i l => rd_ix2 arg5 harg5 x3 _ _ i l _ _ rfl (by show l.val = 0 + l.val; omega)) (fun q i l => rd_ix2 arg6 harg6 x4 _ _ i l _ _ rfl (by show l.val = 0 + l.val; omega))
  · show View.readCov (Val := Elt Ideal) arg14.view [⟨rH q, _⟩] (rH q).toLoadRect (ix2 i k) = _
    rw [View.readCov_cons_toLoadRect, rd_full arg3 harg3 x1 ![0, 0] inb_S1x2048_S1x2048_0_0 (by decide)]
    refine (pay13_apply _ _ i k).trans (congrArg (· * _) ?_)
    exact rd_ix2 arg2 harg2 x0 _ _ i k _ _ rfl (by show k.val = 0 + k.val; omega)
  · show View.readCov (Val := Elt Ideal) arg15.view [⟨rR q, _⟩] (rR q).toLoadRect (ix2 i l) = _
    rw [View.readCov_cons_toLoadRect]
    refine (pay12_apply _ i l).trans (congrArg FfnVal.scale (funext fun k => ?_))
    exact rd_ix2 arg2 harg2 x0 _ _ i k _ _ rfl (by show k.val = 0 + k.val; omega)

theorem slab1A_eq (hc0 : cond0_0 i) (hc1 : ¬cond0_1 i) (hc2 : ¬cond0_2 i) (hc3 : ¬cond0_3 i) : out0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 = x7 := by
  unfold out0_A_10
  rw [View.read_writes_junk_eq_canon, InBlocks.slab1A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 hc0 hc1 hc2 hc3]
  exact s1_canon x7 _ fun q i l => rd_ix2 arg9 harg9 x7 _ _ i l _ _ rfl (by show l.val = 0 + l.val; omega)

theorem slab2A_eq (hc0 : cond0_0 i) (hc1 : ¬cond0_1 i) (hc2 : ¬cond0_2 i) (hc3 : ¬cond0_3 i) : out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 = x8 := by
  unfold out0_A_11
  rw [View.read_writes_junk_eq_canon, InBlocks.slab2A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 hc0 hc1 hc2 hc3]
  exact s2_canon x8 _ fun q i l => rd_ix2 arg10 harg10 x8 _ _ i l _ _ rfl (by show l.val = 0 + l.val; omega)

theorem hA_eq (hc0 : cond0_0 i) (hc1 : ¬cond0_1 i) (hc2 : ¬cond0_2 i) (hc3 : ¬cond0_3 i) (i' : Fin 1024) (k : Fin 2048) :
    sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 (ix2 i' k) = x0 (ix2 i' k) * x1 (ix2 0 k) := by
  unfold sout0_A_0
  rw [View.read_writes_junk_eq_canon, InBlocks.hA c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 hc0 hc1 hc2 hc3, rd_full arg3 harg3 x1 ![0, 0] inb_S1x2048_S1x2048_0_0 (by decide)]
  refine congrFun (h_canon (fun y => x0 y * x1 (ix2 0 (y 1))) _ _ fun q i l => congrArg (· * _) ?_) (ix2 i' k)
  exact rd_ix2 arg2 harg2 x0 _ _ i l _ _ rfl (by show l.val = 0 + l.val; omega)

theorem rA_eq (hc0 : cond0_0 i) (hc1 : ¬cond0_1 i) (hc2 : ¬cond0_2 i) (hc3 : ¬cond0_3 i) (i' : Fin 1024) (l' : Fin 128) :
    sout0_A_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 (ix2 i' l') = FfnVal.scale (fun k => x0 (ix2 i' k)) := by
  unfold sout0_A_1
  rw [View.read_writes_junk_eq_canon, InBlocks.rA c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 hc0 hc1 hc2 hc3]
  refine congrFun (r_canon (fun y => FfnVal.scale (fun k => x0 (ix2 (y 0) k))) _ fun q i l => congrArg FfnVal.scale (funext fun k => ?_)) (ix2 i' l')
  exact rd_ix2 arg2 harg2 x0 _ _ i k _ _ rfl (by show k.val = 0 + k.val; omega)

theorem outB_eq (hc0 : ¬cond0_0 i) (hc1 : cond0_1 i) (hc2 : ¬cond0_2 i) (hc3 : ¬cond0_3 i) (xs0 : Vec Ideal S1024x2048 .bf16) (xs1 : Vec Ideal S1024x128 .f32)
    (H : Fin 1024 → Fin 2048 → EReal) (R : Fin 1024 → EReal) (hH : ∀ i k, xs0 (ix2 i k) = H i k) (hR : ∀ i l, xs1 (ix2 i l) = R i) :
    out0_B_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 xs0 xs1
      = blockv 1 H x2 R x3 x4 x5 x6 := by
  unfold out0_B_9
  rw [View.read_writes_junk_eq_canon, InBlocks.outB c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 hc0 hc1 hc2 hc3 xs0 xs1, rd_full arg7 harg7 x5 ![0, 0] inb_S1x128_S1x128_0_0 (by decide), rd_full arg8 harg8 x6 ![0, 0] inb_S1x128_S1x128_0_0 (by decide)]
  exact canon_one headsB 1 steps_B all_B H x2 R x3 x4 x5 x6 _ (fun p k l => rd_ix2 arg4 harg4 x2 _ _ k l _ _ (by show k.val = 0 + k.val; omega) rfl) _ _ _ _ (fun i k => (congrFun (rd_full arg14 harg14 xs0 ![0, 0] inb_S1024x2048_S1024x2048_0_0 (by decide)) _).trans (hH i k)) (fun i l => (congrFun (rd_full arg15 harg15 xs1 ![0, 0] inb_S1024x128_S1024x128_0_0 (by decide)) _).trans (hR i l)) (rd_full arg5 harg5 x3 ![0, 0] inb_S1024x128_S1024x128_0_0 (by decide)) (rd_full arg6 harg6 x4 ![0, 0] inb_S1024x128_S1024x128_0_0 (by decide))

theorem slab1B_eq (hc0 : ¬cond0_0 i) (hc1 : cond0_1 i) (hc2 : ¬cond0_2 i) (hc3 : ¬cond0_3 i) (xs0 : Vec Ideal S1024x2048 .bf16) (xs1 : Vec Ideal S1024x128 .f32) : out0_B_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 xs0 xs1 = x7 := by
  unfold out0_B_10
  rw [View.read_writes_junk_eq_canon, InBlocks.slab1B c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 hc0 hc1 hc2 hc3 xs0 xs1]
  refine (View.canon_cons_unit_lit _ _ _ (by decide)).trans ?_
  rw [rd_full arg9 harg9 x7 ![0, 0] inb_S64x8192_S64x8192_0_0 (by decide)]
  funext y
  obtain ⟨i, l, rfl⟩ : ∃ i l, y = ix2 i l := ⟨y 0, y 1, eq_ix2 y⟩
  show shapeCast S64x8192 x7 _ (ix2 i l) = _
  pointwise

theorem slab2B_eq (hc0 : ¬cond0_0 i) (hc1 : cond0_1 i) (hc2 : ¬cond0_2 i) (hc3 : ¬cond0_3 i) (xs0 : Vec Ideal S1024x2048 .bf16) (xs1 : Vec Ideal S1024x128 .f32) : out0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 xs0 xs1 = x8 := by
  unfold out0_B_11
  rw [View.read_writes_junk_eq_canon, InBlocks.slab2B c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 hc0 hc1 hc2 hc3 xs0 xs1]
  refine (View.canon_cons_unit_lit _ _ _ (by decide)).trans ?_
  rw [rd_full arg10 harg10 x8 ![0, 0] inb_S256x2048_S256x2048_0_0 (by decide)]
  funext y
  obtain ⟨i, l, rfl⟩ : ∃ i l, y = ix2 i l := ⟨y 0, y 1, eq_ix2 y⟩
  show shapeCast S256x2048 x8 _ (ix2 i l) = _
  pointwise

theorem outC_eq (hc0 : ¬cond0_0 i) (hc1 : ¬cond0_1 i) (hc2 : cond0_2 i) (hc3 : ¬cond0_3 i) (xs0 : Vec Ideal S1024x2048 .bf16) (xs1 : Vec Ideal S1024x128 .f32)
    (H : Fin 1024 → Fin 2048 → EReal) (R : Fin 1024 → EReal) (hH : ∀ i k, xs0 (ix2 i k) = H i k) (hR : ∀ i l, xs1 (ix2 i l) = R i) :
    out0_C_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 xs0 xs1
      = blockv 2 H x2 R x3 x4 x5 x6 := by
  unfold out0_C_9
  rw [View.read_writes_junk_eq_canon, InBlocks.outC c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 hc0 hc1 hc2 hc3 xs0 xs1, rd_full arg7 harg7 x5 ![0, 0] inb_S1x128_S1x128_0_0 (by decide), rd_full arg8 harg8 x6 ![0, 0] inb_S1x128_S1x128_0_0 (by decide)]
  exact canon_two headsC 2 steps_C all_C H x2 R x3 x4 x5 x6 _ (fun p k l => rd_ix2 arg4 harg4 x2 _ _ k l _ _ (by show k.val = 0 + k.val; omega) rfl) _ _ _ _ (fun q i k => (rd_ix2 arg14 harg14 xs0 _ _ i k _ _ rfl (by show k.val = 0 + k.val; omega)).trans (hH _ k)) (fun q i l => (rd_ix2 arg15 harg15 xs1 _ _ i l (row2 q i) l rfl (by show l.val = 0 + l.val; omega)).trans (hR _ l)) (fun q i l => rd_ix2 arg5 harg5 x3 _ _ i l _ _ rfl (by show l.val = 0 + l.val; omega)) (fun q i l => rd_ix2 arg6 harg6 x4 _ _ i l _ _ rfl (by show l.val = 0 + l.val; omega))

theorem slab1C_eq (hc0 : ¬cond0_0 i) (hc1 : ¬cond0_1 i) (hc2 : cond0_2 i) (hc3 : ¬cond0_3 i) (xs0 : Vec Ideal S1024x2048 .bf16) (xs1 : Vec Ideal S1024x128 .f32) : out0_C_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 xs0 xs1 = x7 := by
  unfold out0_C_10
  rw [View.read_writes_junk_eq_canon, InBlocks.slab1C c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 hc0 hc1 hc2 hc3 xs0 xs1]
  exact s1_canon x7 _ fun q i l => rd_ix2 arg9 harg9 x7 _ _ i l _ _ rfl (by show l.val = 0 + l.val; omega)

theorem slab2C_eq (hc0 : ¬cond0_0 i) (hc1 : ¬cond0_1 i) (hc2 : cond0_2 i) (hc3 : ¬cond0_3 i) (xs0 : Vec Ideal S1024x2048 .bf16) (xs1 : Vec Ideal S1024x128 .f32) : out0_C_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 xs0 xs1 = x8 := by
  unfold out0_C_11
  rw [View.read_writes_junk_eq_canon, InBlocks.slab2C c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 hc0 hc1 hc2 hc3 xs0 xs1]
  exact s2_canon x8 _ fun q i l => rd_ix2 arg10 harg10 x8 _ _ i l _ _ rfl (by show l.val = 0 + l.val; omega)

theorem outD_eq (hc0 : ¬cond0_0 i) (hc1 : ¬cond0_1 i) (hc2 : ¬cond0_2 i) (hc3 : cond0_3 i) (xs0 : Vec Ideal S1024x2048 .bf16) (xs1 : Vec Ideal S1024x128 .f32)
    (H : Fin 1024 → Fin 2048 → EReal) (R : Fin 1024 → EReal) (hH : ∀ i k, xs0 (ix2 i k) = H i k) (hR : ∀ i l, xs1 (ix2 i l) = R i) :
    out0_D_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 xs0 xs1
      = blockv 3 H x2 R x3 x4 x5 x6 := by
  unfold out0_D_9
  rw [View.read_writes_junk_eq_canon, InBlocks.outD c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 hc0 hc1 hc2 hc3 xs0 xs1, rd_full arg7 harg7 x5 ![0, 0] inb_S1x128_S1x128_0_0 (by decide), rd_full arg8 harg8 x6 ![0, 0] inb_S1x128_S1x128_0_0 (by decide)]
  exact canon_one headsD 3 steps_D all_D H x2 R x3 x4 x5 x6 _ (fun p k l => rd_ix2 arg4 harg4 x2 _ _ k l _ _ (by show k.val = 0 + k.val; omega) rfl) _ _ _ _ (fun i k => (congrFun (rd_full arg14 harg14 xs0 ![0, 0] inb_S1024x2048_S1024x2048_0_0 (by decide)) _).trans (hH i k)) (fun i l => (congrFun (rd_full arg15 harg15 xs1 ![0, 0] inb_S1024x128_S1024x128_0_0 (by decide)) _).trans (hR i l)) (rd_full arg5 harg5 x3 ![0, 0] inb_S1024x128_S1024x128_0_0 (by decide)) (rd_full arg6 harg6 x4 ![0, 0] inb_S1024x128_S1024x128_0_0 (by decide))

theorem slab1D_eq (hc0 : ¬cond0_0 i) (hc1 : ¬cond0_1 i) (hc2 : ¬cond0_2 i) (hc3 : cond0_3 i) (xs0 : Vec Ideal S1024x2048 .bf16) (xs1 : Vec Ideal S1024x128 .f32) : out0_D_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 xs0 xs1 = x7 := by
  unfold out0_D_10
  rw [View.read_writes_junk_eq_canon, InBlocks.slab1D c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 hc0 hc1 hc2 hc3 xs0 xs1]
  refine (View.canon_cons_unit_lit _ _ _ (by decide)).trans ?_
  rw [rd_full arg9 harg9 x7 ![0, 0] inb_S64x8192_S64x8192_0_0 (by decide)]
  funext y
  obtain ⟨i, l, rfl⟩ : ∃ i l, y = ix2 i l := ⟨y 0, y 1, eq_ix2 y⟩
  show shapeCast S64x8192 x7 _ (ix2 i l) = _
  pointwise

theorem slab2D_eq (hc0 : ¬cond0_0 i) (hc1 : ¬cond0_1 i) (hc2 : ¬cond0_2 i) (hc3 : cond0_3 i) (xs0 : Vec Ideal S1024x2048 .bf16) (xs1 : Vec Ideal S1024x128 .f32) : out0_D_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 xs0 xs1 = x8 := by
  unfold out0_D_11
  rw [View.read_writes_junk_eq_canon, InBlocks.slab2D c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 hc0 hc1 hc2 hc3 xs0 xs1]
  refine (View.canon_cons_unit_lit _ _ _ (by decide)).trans ?_
  rw [rd_full arg10 harg10 x8 ![0, 0] inb_S256x2048_S256x2048_0_0 (by decide)]
  funext y
  obtain ⟨i, l, rfl⟩ : ∃ i l, y = ix2 i l := ⟨y 0, y 1, eq_ix2 y⟩
  show shapeCast S256x2048 x8 _ (ix2 i l) = _
  pointwise

end Runs

end Cert.Proof.InCase

end
-- ==== Proof.InVal.lean ====
/- The input projection's grid run read: its three results at an index, from the call's arguments. -/
module

public import proofs.«01_k».proof.Proof.InCase
public import Idealize.ShloMosaic.Lib.Pipeline.Value

@[expose] public section

set_option maxRecDepth 16384

noncomputable section

namespace Cert.Proof.InVal

open Idealize.ShloMosaic Idealize.ShloMosaic.TcCoe Idealize.SL.Sem Cert.InProjIdeal Cert.InProjIdeal.Gen Cert.InProjIdeal.Run Cert.Proof.InStep

variable (m : (ℓ : Loc nD τ sig) → Buf (Elt Ideal) ℓ)

/-- A row of grid point `n`'s block, among all rows. -/
def row (n : ℕ) (r : Fin 1024) : Fin 8192 := Fin.ofNat 8192 (1024 * (n / 4) + r.val)
/-- A row's place in its sequence. -/
def pos (i : Fin 8192) : Fin 4096 := ⟨i.val % 4096, by omega⟩
/-- A row's sequence. -/
def seq (i : Fin 8192) : Fin 2 := ⟨i.val / 4096, by omega⟩
/-- A column of grid point `n`'s block, among all columns. -/
def col (n : ℕ) (l : Fin 1792) : Fin 7168 := Fin.ofNat 7168 (1792 * (n % 4) + l.val)
/-- A column of the head that column `n` lies in. -/
def headCol (n : Fin 7168) (l : Fin 128) : Fin 7168 := ⟨128 * (n.val / 128) + l.val, by omega⟩
/-- A column's lane in its head. -/
def headLane (n : Fin 7168) : Fin 128 := ⟨n.val % 128, by omega⟩

theorem row_val (t : Fin cfg0.N) (r : Fin 1024) : (row t.val r).val = 1024 * (t.val / 4) + r.val := by
  have : t.val < 32 := t.isLt
  have := r.isLt
  show (1024 * (t.val / 4) + r.val) % 8192 = _
  exact Nat.mod_eq_of_lt (by omega)

theorem col_val (t : Fin cfg0.N) (l : Fin 1792) : (col t.val l).val = 1792 * (t.val % 4) + l.val := by
  have := l.isLt
  show (1792 * (t.val % 4) + l.val) % 7168 = _
  exact Nat.mod_eq_of_lt (by omega)

theorem idxA : ∀ t : Fin cfg0.N, (win0_0.index t (0 : Fin 2) = t.val / 4 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = t.val % 4)
    ∧ (win0_3.index t (0 : Fin 2) = t.val / 4 % 4 ∧ win0_3.index t (1 : Fin 2) = 0)
    ∧ (win0_4.index t (0 : Fin 2) = t.val / 4 % 4 ∧ win0_4.index t (1 : Fin 2) = 0) :=
  (by decide +kernel : ∀ t : Fin grid0.N, _)

theorem idxB : ∀ t : Fin cfg0.N, (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

theorem idxC : ∀ t : Fin cfg0.N, (win0_9.index t (0 : Fin 2) = t.val / 4 ∧ win0_9.index t (1 : Fin 2) = t.val % 4)
    ∧ (win0_10.index t (0 : Fin 2) = t.val ∧ win0_10.index t (1 : Fin 2) = 0)
    ∧ (win0_11.index t (0 : Fin 2) = t.val ∧ win0_11.index t (1 : Fin 2) = 0) :=
  (by decide +kernel : ∀ t : Fin grid0.N, _)

/-- The call's arguments. -/
abbrev X (c : Dev nD) : S2x4096x2048.Idx → EReal := m ((c : Thread nD τ).loc main_arg0)
abbrev Gn (c : Dev nD) : S1x2048.Idx → EReal := m ((c : Thread nD τ).loc main_arg1)
abbrev Wi (c : Dev nD) : S1x2048x7168.Idx → EReal := m ((c : Thread nD τ).loc main_arg2)
abbrev Qg (c : Dev nD) : S1x128.Idx → EReal := m ((c : Thread nD τ).loc main_arg3)
abbrev Kg (c : Dev nD) : S1x128.Idx → EReal := m ((c : Thread nD τ).loc main_arg4)
abbrev W1 (c : Dev nD) : S1x2048x8192.Idx → EReal := m ((c : Thread nD τ).loc main_arg5)
abbrev W2 (c : Dev nD) : S1x8192x2048.Idx → EReal := m ((c : Thread nD τ).loc main_arg6)

theorem V_x (c : Dev nD) (i : Fin 8192) (k : Fin 2048) :
    (V m c main_v17 : S8192x2048.Idx → EReal) (ix2 i k) = X m c (ix3 (seq i) (pos i) k) := by
  have e : (V m c main_v17 : S8192x2048.Idx → EReal) = shapeCast S8192x2048 (X m c) shapeCasts_S2x4096x2048_S8192x2048 := by
    show StableHlo.after hostOps0 _ (main_v17 : Ref sig .tc) = _
    after_results
    rfl
  rw [e]
  pointwise
  rfl

theorem V_g (c : Dev nD) (r : Fin 1) (k : Fin 2048) :
    (V m c main_v19 : S1x2048.Idx → EReal) (ix2 r k) = Gn m c (ix2 0 k) := by
  have e : (V m c main_v19 : S1x2048.Idx → EReal) = shapeCast S1x2048 (shapeCast S2048 (Gn m c) shapeCasts_S1x2048_S2048) shapeCasts_S2048_S1x2048 := by
    show StableHlo.after hostOps0 _ (main_v19 : Ref sig .tc) = _
    after_results
    rfl
  rw [e, Subsingleton.elim r 0]
  pointwise

theorem V_w (c : Dev nD) (k : Fin 2048) (l : Fin 7168) :
    (V m c main_v21 : S2048x7168.Idx → EReal) (ix2 k l) = Wi m c (ix3 0 k l) := by
  have e : (V m c main_v21 : S2048x7168.Idx → EReal) = truncf (F := Ideal) .bf16 (shapeCast S2048x7168 (Wi m c) shapeCasts_S1x2048x7168_S2048x7168) bitsLt_bf16_f32 := by
    show StableHlo.after hostOps0 _ (main_v21 : Ref sig .tc) = _
    after_results
    rfl
  rw [e]
  pointwise

theorem V_qg (c : Dev nD) (r : Fin 1) (k : Fin 128) :
    (V m c main_v23 : S1x128.Idx → EReal) (ix2 r k) = Qg m c (ix2 0 k) := by
  have e : (V m c main_v23 : S1x128.Idx → EReal) = shapeCast S1x128 (shapeCast S128 (Qg m c) shapeCasts_S1x128_S128) shapeCasts_S128_S1x128 := by
    show StableHlo.after hostOps0 _ (main_v23 : Ref sig .tc) = _
    after_results
    rfl
  rw [e, Subsingleton.elim r 0]
  pointwise

theorem V_kg (c : Dev nD) (r : Fin 1) (k : Fin 128) :
    (V m c main_v25 : S1x128.Idx → EReal) (ix2 r k) = Kg m c (ix2 0 k) := by
  have e : (V m c main_v25 : S1x128.Idx → EReal) = shapeCast S1x128 (shapeCast S128 (Kg m c) shapeCasts_S1x128_S128) shapeCasts_S128_S1x128 := by
    show StableHlo.after hostOps0 _ (main_v25 : Ref sig .tc) = _
    after_results
    rfl
  rw [e, Subsingleton.elim r 0]
  pointwise

theorem V_w1 (c : Dev nD) (k : Fin 2048) (l : Fin 8192) :
    (V m c main_v26 : S2048x8192.Idx → EReal) (ix2 k l) = W1 m c (ix3 0 k l) := by
  have e : (V m c main_v26 : S2048x8192.Idx → EReal) = shapeCast S2048x8192 (W1 m c) shapeCasts_S1x2048x8192_S2048x8192 := by
    show StableHlo.after hostOps0 _ (main_v26 : Ref sig .tc) = _
    after_results
    rfl
  rw [e]
  pointwise

theorem V_w2 (c : Dev nD) (k : Fin 8192) (l : Fin 2048) :
    (V m c main_v27 : S8192x2048.Idx → EReal) (ix2 k l) = W2 m c (ix3 0 k l) := by
  have e : (V m c main_v27 : S8192x2048.Idx → EReal) = shapeCast S8192x2048 (W2 m c) shapeCasts_S1x8192x2048_S8192x2048 := by
    show StableHlo.after hostOps0 _ (main_v27 : Ref sig .tc) = _
    after_results
    rfl
  rw [e]
  pointwise

/-- The angle of a place and a half lane. -/
def ang (p e : ℕ) : EReal :=
  FloatOps.sitofp (F := Ideal) .f32 (BitVec.ofNat 32 p) * Ideal.pow (Ideal.ofBits .f32 0x461C4000#32)
    (Ideal.div (-FloatOps.sitofp (F := Ideal) .f32 (BitVec.ofNat 32 e)) (Ideal.ofBits .f32 0x42800000#32))

/-- The rotary tables. -/
def cosT (p : Fin 4096) (l : Fin 128) : EReal :=
  if l.val < 64 then Ideal.cos (ang p.val l.val) else Ideal.cos (ang p.val (l.val - 64))
def sinT (p : Fin 4096) (l : Fin 128) : EReal :=
  if l.val < 64 then -Ideal.sin (ang p.val l.val) else Ideal.sin (ang p.val (l.val - 64))

theorem V_cos (c : Dev nD) (p : Fin 4096) (l : Fin 128) :
    (V m c main_v14 : S4096x128.Idx → EReal) (ix2 p l) = cosT p l := by
  show StableHlo.after hostOps0 _ (main_v14 : Ref sig .tc) (ix2 p l) = _
  after_results
  pointwise [cosT, ang]
  rfl

theorem V_sin (c : Dev nD) (p : Fin 4096) (l : Fin 128) :
    (V m c main_v16 : S4096x128.Idx → EReal) (ix2 p l) = sinT p l := by
  show StableHlo.after hostOps0 _ (main_v16 : Ref sig .tc) (ix2 p l) = _
  after_results
  pointwise [sinT, ang]
  rfl

theorem iblk0 (c : Dev nD) (t : Fin cfg0.N) (a : Fin 1024) (b : Fin 2048) :
    iblk m c 0 t (ix2 a b) = X m c (ix3 (seq (row t.val a)) (pos (row t.val a)) b) := by
  obtain ⟨⟨e0, e1⟩, -⟩ := idxA t
  refine Eq.trans ?_ (V_x m c (row t.val a) b)
  show V m c main_v17 (((cfg0.win 0).blk t).view.emb (ix2 a b)) = _
  congr 1; funext d; apply Fin.ext
  match d with
  | ⟨0, _⟩ => show win0_0.index t (0 : Fin 2) * 1024 + 1 * a.val = (row t.val a).val; rw [row_val]; omega
  | ⟨1, _⟩ => show win0_0.index t (1 : Fin 2) * 2048 + 1 * b.val = b.val; omega

theorem iblk1 (c : Dev nD) (t : Fin cfg0.N) (a : Fin 1) (b : Fin 2048) :
    iblk m c 1 t (ix2 a b) = Gn m c (ix2 0 b) := by
  obtain ⟨-, ⟨e0, e1⟩, -⟩ := idxA t
  refine Eq.trans ?_ (V_g m c a b)
  show V m c main_v19 (((cfg0.win 1).blk t).view.emb (ix2 a b)) = _
  congr 1; funext d; apply Fin.ext
  match d with
  | ⟨0, _⟩ => show win0_1.index t (0 : Fin 2) * 1 + 1 * a.val = a.val; omega
  | ⟨1, _⟩ => show win0_1.index t (1 : Fin 2) * 2048 + 1 * b.val = b.val; omega

theorem iblk2 (c : Dev nD) (t : Fin cfg0.N) (a : Fin 2048) (b : Fin 1792) :
    iblk m c 2 t (ix2 a b) = Wi m c (ix3 0 a (col t.val b)) := by
  obtain ⟨-, -, ⟨e0, e1⟩, -⟩ := idxA t
  refine Eq.trans ?_ (V_w m c a (col t.val b))
  show V m c main_v21 (((cfg0.win 2).blk t).view.emb (ix2 a b)) = _
  congr 1; funext d; apply Fin.ext
  match d with
  | ⟨0, _⟩ => show win0_2.index t (0 : Fin 2) * 2048 + 1 * a.val = a.val; omega
  | ⟨1, _⟩ => show win0_2.index t (1 : Fin 2) * 1792 + 1 * b.val = (col t.val b).val; rw [col_val]; omega

theorem iblk3 (c : Dev nD) (t : Fin cfg0.N) (a : Fin 1024) (b : Fin 128) :
    iblk m c 3 t (ix2 a b) = cosT (pos (row t.val a)) b := by
  obtain ⟨-, -, -, ⟨e0, e1⟩, -⟩ := idxA t
  refine Eq.trans ?_ (V_cos m c (pos (row t.val a)) b)
  show V m c main_v14 (((cfg0.win 3).blk t).view.emb (ix2 a b)) = _
  congr 1; funext d; apply Fin.ext
  match d with
  | ⟨0, _⟩ => show win0_3.index t (0 : Fin 2) * 1024 + 1 * a.val = (pos (row t.val a)).val; show _ = (row t.val a).val % 4096; rw [row_val]; have := a.isLt; omega
  | ⟨1, _⟩ => show win0_3.index t (1 : Fin 2) * 128 + 1 * b.val = b.val; omega

theorem iblk4 (c : Dev nD) (t : Fin cfg0.N) (a : Fin 1024) (b : Fin 128) :
    iblk m c 4 t (ix2 a b) = sinT (pos (row t.val a)) b := by
  obtain ⟨-, -, -, -, ⟨e0, e1⟩⟩ := idxA t
  refine Eq.trans ?_ (V_sin m c (pos (row t.val a)) b)
  show V m c main_v16 (((cfg0.win 4).blk t).view.emb (ix2 a b)) = _
  congr 1; funext d; apply Fin.ext
  match d with
  | ⟨0, _⟩ => show win0_4.index t (0 : Fin 2) * 1024 + 1 * a.val = (pos (row t.val a)).val; show _ = (row t.val a).val % 4096; rw [row_val]; have := a.isLt; omega
  | ⟨1, _⟩ => show win0_4.index t (1 : Fin 2) * 128 + 1 * b.val = b.val; omega

theorem iblk5 (c : Dev nD) (t : Fin cfg0.N) (a : Fin 1) (b : Fin 128) :
    iblk m c 5 t (ix2 a b) = Qg m c (ix2 0 b) := by
  obtain ⟨⟨e0, e1⟩, -⟩ := idxB t
  refine Eq.trans ?_ (V_qg m c a b)
  show V m c main_v23 (((cfg0.win 5).blk t).view.emb (ix2 a b)) = _
  congr 1; funext d; apply Fin.ext
  match d with
  | ⟨0, _⟩ => show win0_5.index t (0 : Fin 2) * 1 + 1 * a.val = a.val; omega
  | ⟨1, _⟩ => show win0_5.index t (1 : Fin 2) * 128 + 1 * b.val = b.val; omega

theorem iblk6 (c : Dev nD) (t : Fin cfg0.N) (a : Fin 1) (b : Fin 128) :
    iblk m c 6 t (ix2 a b) = Kg m c (ix2 0 b) := by
  obtain ⟨-, ⟨e0, e1⟩, -⟩ := idxB t
  refine Eq.trans ?_ (V_kg m c a b)
  show V m c main_v25 (((cfg0.win 6).blk t).view.emb (ix2 a b)) = _
  congr 1; funext d; apply Fin.ext
  match d with
  | ⟨0, _⟩ => show win0_6.index t (0 : Fin 2) * 1 + 1 * a.val = a.val; omega
  | ⟨1, _⟩ => show win0_6.index t (1 : Fin 2) * 128 + 1 * b.val = b.val; omega

/-- A row of grid point `t`'s slab of the first matrix carried through, and of the second. -/
def slab1 (t : Fin cfg0.N) (a : Fin 64) : Fin 2048 := ⟨64 * t.val + a.val, by have : t.val < 32 := t.isLt; omega⟩
def slab2 (t : Fin cfg0.N) (a : Fin 256) : Fin 8192 := ⟨256 * t.val + a.val, by have : t.val < 32 := t.isLt; omega⟩

theorem iblk7 (c : Dev nD) (t : Fin cfg0.N) (a : Fin 64) (b : Fin 8192) :
    iblk m c 7 t (ix2 a b) = W1 m c (ix3 0 (slab1 t a) b) := by
  obtain ⟨-, -, ⟨e0, e1⟩, -⟩ := idxB t
  refine Eq.trans ?_ (V_w1 m c (slab1 t a) b)
  show V m c main_v26 (((cfg0.win 7).blk t).view.emb (ix2 a b)) = _
  congr 1; funext d; apply Fin.ext
  match d with
  | ⟨0, _⟩ => show win0_7.index t (0 : Fin 2) * 64 + 1 * a.val = 64 * t.val + a.val; omega
  | ⟨1, _⟩ => show win0_7.index t (1 : Fin 2) * 8192 + 1 * b.val = b.val; omega

theorem iblk8 (c : Dev nD) (t : Fin cfg0.N) (a : Fin 256) (b : Fin 2048) :
    iblk m c 8 t (ix2 a b) = W2 m c (ix3 0 (slab2 t a) b) := by
  obtain ⟨-, -, -, ⟨e0, e1⟩⟩ := idxB t
  refine Eq.trans ?_ (V_w2 m c (slab2 t a) b)
  show V m c main_v27 (((cfg0.win 8).blk t).view.emb (ix2 a b)) = _
  congr 1; funext d; apply Fin.ext
  match d with
  | ⟨0, _⟩ => show win0_8.index t (0 : Fin 2) * 256 + 1 * a.val = 256 * t.val + a.val; omega
  | ⟨1, _⟩ => show win0_8.index t (1 : Fin 2) * 2048 + 1 * b.val = b.val; omega

/-- One row's entry of the first result: a head's products, its step of the norms or the rotation. -/
def entry (c : Dev nD) (i : Fin 8192) (n : Fin 7168) : EReal :=
  stepv (fun l => (∑ k : Fin 2048, (X m c (ix3 (seq i) (pos i) k) * Gn m c (ix2 0 k)) * Wi m c (ix3 0 k (headCol n l)))
      * FfnVal.scale (fun k => X m c (ix3 (seq i) (pos i) k)))
    (cosT (pos i)) (sinT (pos i)) (fun l => Qg m c (ix2 0 l)) (fun l => Kg m c (ix2 0 l))
    (secStep (n.val / 128 / 8)) (headLane n)

theorem block_eq (c : Dev nD) (t : Fin cfg0.N) (j : ℕ) (hj : t.val % 4 = j) (H : Fin 1024 → Fin 2048 → EReal) (R : Fin 1024 → EReal)
    (hH : ∀ r k, H r k = X m c (ix3 (seq (row t.val r)) (pos (row t.val r)) k) * Gn m c (ix2 0 k))
    (hR : ∀ r, R r = FfnVal.scale (fun k => X m c (ix3 (seq (row t.val r)) (pos (row t.val r)) k))) (r : Fin 1024) (l : Fin 1792) :
    blockv j H (iblk m c 2 t) R (iblk m c 3 t) (iblk m c 4 t) (iblk m c 5 t) (iblk m c 6 t) (ix2 r l)
      = entry m c (row t.val r) (col t.val l) := by
  subst hj
  unfold blockv entry
  have a0 : (ix2 r l : S1024x1792.Idx) 0 = r := rfl
  have a1 : (ix2 r l : S1024x1792.Idx) 1 = l := rfl
  have hl := l.isLt
  have h4 : t.val % 4 < 4 := Nat.mod_lt _ (by decide)
  have es : (14 * (t.val % 4) + l.val / 128) / 8 = (col t.val l).val / 128 / 8 := by rw [col_val]; omega
  have el : laneOf l = headLane (col t.val l) := Fin.ext (by show l.val % 128 = (col t.val l).val % 128; rw [col_val]; omega)
  have ec : ∀ u : Fin 128, col t.val (laneCol l u) = headCol (col t.val l) u := fun u => Fin.ext (by
    rw [col_val]; show _ + (128 * (l.val / 128) + u.val) = 128 * ((col t.val l).val / 128) + u.val; rw [col_val]; omega)
  simp only [a0, a1, es, el, hH, hR, iblk2, iblk3, iblk4, iblk5, iblk6, ec]

/-- What the call's buffers hold after point `t`: the block, the scaled rows and the rows' scales. -/
structure After (c : Dev nD) (n : ℕ) (o : Vec Ideal S1024x1792 .bf16) (h : Vec Ideal S1024x2048 .bf16)
    (s : Vec Ideal S1024x128 .f32) : Prop where
  s : ∀ r l, s (ix2 r l) = FfnVal.scale (fun k => X m c (ix3 (seq (row n r)) (pos (row n r)) k))
  h : ∀ r k, h (ix2 r k) = X m c (ix3 (seq (row n r)) (pos (row n r)) k) * Gn m c (ix2 0 k)
  o : ∀ r l, o (ix2 r l) = entry m c (row n r) (col n l)

theorem after_A (c : Dev nD) (t : Fin cfg0.N) (h0 : t.val % 4 = 0) :
    After m c t.val (outsAt0 m c t.val t.isLt).1 (outsAt0 m c t.val t.isLt).2.2.2.1 (outsAt0 m c t.val t.isLt).2.2.2.2 where
  s r l := by
    rw [outsAt0_A m c t h0 (by omega) (by omega) (by omega)]
    dsimp only
    rw [InCase.rA_eq]
    exact congrArg FfnVal.scale (funext fun k => iblk0 m c t r k)
  h r k := by
    rw [outsAt0_A m c t h0 (by omega) (by omega) (by omega)]
    dsimp only
    rw [InCase.hA_eq]
    exact congrArg₂ (· * ·) (iblk0 m c t r k) (iblk1 m c t 0 k)
  o r l := by
    rw [outsAt0_A m c t h0 (by omega) (by omega) (by omega)]
    dsimp only
    rw [InCase.outA_eq]
    exact block_eq m c t 0 h0 _ _ (fun r k => congrArg₂ (· * ·) (iblk0 m c t r k) (iblk1 m c t 0 k))
      (fun r => congrArg FfnVal.scale (funext fun k => iblk0 m c t r k)) r l

theorem after_B (c : Dev nD) (t : Fin cfg0.N) (h0 : t.val % 4 = 1) (n : ℕ) (hn : n < cfg0.N) (ht : t.val = n + 1)
    (ih : After m c n (outsAt0 m c n hn).1 (outsAt0 m c n hn).2.2.2.1 (outsAt0 m c n hn).2.2.2.2) :
    After m c t.val (outsAt0 m c t.val t.isLt).1 (outsAt0 m c t.val t.isLt).2.2.2.1 (outsAt0 m c t.val t.isLt).2.2.2.2 := by
  have hrow : ∀ r, row n r = row t.val r := fun r => by
    unfold row; rw [show n / 4 = t.val / 4 by omega]
  have hprev : ∀ hp, outsAt0 m c (t.val - 1) hp = outsAt0 m c n hn := by
    have e : t.val - 1 = n := by omega
    revert hn; rw [← e]; intros; rfl
  have hs : ∀ r l, (outsAt0 m c n hn).2.2.2.2 (ix2 r l) = FfnVal.scale (fun k => X m c (ix3 (seq (row t.val r)) (pos (row t.val r)) k)) := fun r l => by
    rw [← hrow]; exact ih.s r l
  have hh : ∀ r k, (outsAt0 m c n hn).2.2.2.1 (ix2 r k) = X m c (ix3 (seq (row t.val r)) (pos (row t.val r)) k) * Gn m c (ix2 0 k) := fun r k => by
    rw [← hrow]; exact ih.h r k
  refine ⟨fun r l => ?_, fun r k => ?_, fun r l => ?_⟩
  · rw [outsAt0_B m c t (by omega) h0 (by omega) (by omega)]
    unfold sout0_B_1
    simp only [hprev]
    exact hs r l
  · rw [outsAt0_B m c t (by omega) h0 (by omega) (by omega)]
    unfold sout0_B_0
    simp only [hprev]
    exact hh r k
  · rw [outsAt0_B m c t (by omega) h0 (by omega) (by omega)]
    dsimp only
    simp only [hprev]
    rw [InCase.outB_eq (hH := hh) (hR := hs)]
    exact block_eq m c t 1 h0 _ _ (fun _ _ => rfl) (fun _ => rfl) r l

theorem after_C (c : Dev nD) (t : Fin cfg0.N) (h0 : t.val % 4 = 2) (n : ℕ) (hn : n < cfg0.N) (ht : t.val = n + 1)
    (ih : After m c n (outsAt0 m c n hn).1 (outsAt0 m c n hn).2.2.2.1 (outsAt0 m c n hn).2.2.2.2) :
    After m c t.val (outsAt0 m c t.val t.isLt).1 (outsAt0 m c t.val t.isLt).2.2.2.1 (outsAt0 m c t.val t.isLt).2.2.2.2 := by
  have hrow : ∀ r, row n r = row t.val r := fun r => by
    unfold row; rw [show n / 4 = t.val / 4 by omega]
  have hprev : ∀ hp, outsAt0 m c (t.val - 1) hp = outsAt0 m c n hn := by
    have e : t.val - 1 = n := by omega
    revert hn; rw [← e]; intros; rfl
  have hs : ∀ r l, (outsAt0 m c n hn).2.2.2.2 (ix2 r l) = FfnVal.scale (fun k => X m c (ix3 (seq (row t.val r)) (pos (row t.val r)) k)) := fun r l => by
    rw [← hrow]; exact ih.s r l
  have hh : ∀ r k, (outsAt0 m c n hn).2.2.2.1 (ix2 r k) = X m c (ix3 (seq (row t.val r)) (pos (row t.val r)) k) * Gn m c (ix2 0 k) := fun r k => by
    rw [← hrow]; exact ih.h r k
  refine ⟨fun r l => ?_, fun r k => ?_, fun r l => ?_⟩
  · rw [outsAt0_C m c t (by omega) (by omega) h0 (by omega)]
    unfold sout0_C_1
    simp only [hprev]
    exact hs r l
  · rw [outsAt0_C m c t (by omega) (by omega) h0 (by omega)]
    unfold sout0_C_0
    simp only [hprev]
    exact hh r k
  · rw [outsAt0_C m c t (by omega) (by omega) h0 (by omega)]
    dsimp only
    simp only [hprev]
    rw [InCase.outC_eq (hH := hh) (hR := hs)]
    exact block_eq m c t 2 h0 _ _ (fun _ _ => rfl) (fun _ => rfl) r l

theorem after_D (c : Dev nD) (t : Fin cfg0.N) (h0 : t.val % 4 = 3) (n : ℕ) (hn : n < cfg0.N) (ht : t.val = n + 1)
    (ih : After m c n (outsAt0 m c n hn).1 (outsAt0 m c n hn).2.2.2.1 (outsAt0 m c n hn).2.2.2.2) :
    After m c t.val (outsAt0 m c t.val t.isLt).1 (outsAt0 m c t.val t.isLt).2.2.2.1 (outsAt0 m c t.val t.isLt).2.2.2.2 := by
  have hrow : ∀ r, row n r = row t.val r := fun r => by
    unfold row; rw [show n / 4 = t.val / 4 by omega]
  have hprev : ∀ hp, outsAt0 m c (t.val - 1) hp = outsAt0 m c n hn := by
    have e : t.val - 1 = n := by omega
    revert hn; rw [← e]; intros; rfl
  have hs : ∀ r l, (outsAt0 m c n hn).2.2.2.2 (ix2 r l) = FfnVal.scale (fun k => X m c (ix3 (seq (row t.val r)) (pos (row t.val r)) k)) := fun r l => by
    rw [← hrow]; exact ih.s r l
  have hh : ∀ r k, (outsAt0 m c n hn).2.2.2.1 (ix2 r k) = X m c (ix3 (seq (row t.val r)) (pos (row t.val r)) k) * Gn m c (ix2 0 k) := fun r k => by
    rw [← hrow]; exact ih.h r k
  refine ⟨fun r l => ?_, fun r k => ?_, fun r l => ?_⟩
  · rw [outsAt0_D m c t (by omega) (by omega) (by omega) h0]
    unfold sout0_D_1
    simp only [hprev]
    exact hs r l
  · rw [outsAt0_D m c t (by omega) (by omega) (by omega) h0]
    unfold sout0_D_0
    simp only [hprev]
    exact hh r k
  · rw [outsAt0_D m c t (by omega) (by omega) (by omega) h0]
    dsimp only
    simp only [hprev]
    rw [InCase.outD_eq (hH := hh) (hR := hs)]
    exact block_eq m c t 3 h0 _ _ (fun _ _ => rfl) (fun _ => rfl) r l

theorem after (c : Dev nD) : ∀ (n : ℕ) (hn : n < cfg0.N),
    After m c n (outsAt0 m c n hn).1 (outsAt0 m c n hn).2.2.2.1 (outsAt0 m c n hn).2.2.2.2
  | 0, hn => after_A m c ⟨0, hn⟩ rfl
  | n + 1, hn => by
    by_cases h0 : (n + 1) % 4 = 0
    · exact after_A m c ⟨n + 1, hn⟩ h0
    · have ih := after c n (Nat.lt_of_succ_lt hn)
      by_cases h1 : (n + 1) % 4 = 1
      · exact after_B m c ⟨n + 1, hn⟩ h1 n (Nat.lt_of_succ_lt hn) rfl ih
      · by_cases h2 : (n + 1) % 4 = 2
        · exact after_C m c ⟨n + 1, hn⟩ h2 n (Nat.lt_of_succ_lt hn) rfl ih
        · exact after_D m c ⟨n + 1, hn⟩ (by show (n + 1) % 4 = 3; omega) n (Nat.lt_of_succ_lt hn) rfl ih

theorem slab1_eq (c : Dev nD) (t : Fin cfg0.N) : (outsAt0 m c t.val t.isLt).2.1 = iblk m c 7 t := by
  by_cases h0 : t.val % 4 = 0
  · rw [outsAt0_A m c t h0 (by omega) (by omega) (by omega)]
    dsimp only
    rw [InCase.slab1A_eq]
  by_cases h1 : t.val % 4 = 1
  · rw [outsAt0_B m c t (by omega) h1 (by omega) (by omega)]
    dsimp only
    rw [InCase.slab1B_eq]
  by_cases h2 : t.val % 4 = 2
  · rw [outsAt0_C m c t (by omega) (by omega) h2 (by omega)]
    dsimp only
    rw [InCase.slab1C_eq]
  have h3 : t.val % 4 = 3 := by omega
  rw [outsAt0_D m c t (by omega) (by omega) (by omega) h3]
  dsimp only
  rw [InCase.slab1D_eq]

theorem slab2_eq (c : Dev nD) (t : Fin cfg0.N) : (outsAt0 m c t.val t.isLt).2.2.1 = iblk m c 8 t := by
  by_cases h0 : t.val % 4 = 0
  · rw [outsAt0_A m c t h0 (by omega) (by omega) (by omega)]
    dsimp only
    rw [InCase.slab2A_eq]
  by_cases h1 : t.val % 4 = 1
  · rw [outsAt0_B m c t (by omega) h1 (by omega) (by omega)]
    dsimp only
    rw [InCase.slab2B_eq]
  by_cases h2 : t.val % 4 = 2
  · rw [outsAt0_C m c t (by omega) (by omega) h2 (by omega)]
    dsimp only
    rw [InCase.slab2C_eq]
  have h3 : t.val % 4 = 3 := by omega
  rw [outsAt0_D m c t (by omega) (by omega) (by omega) h3]
  dsimp only
  rw [InCase.slab2D_eq]

/-- The three results. -/
def G9 (c : Dev nD) (y : S8192x7168.Idx) : EReal := entry m c (y 0) (y 1)
def G10 (c : Dev nD) (y : S2048x8192.Idx) : EReal := W1 m c (ix3 0 (y 0) (y 1))
def G11 (c : Dev nD) (y : S8192x2048.Idx) : EReal := W2 m c (ix3 0 (y 0) (y 1))

theorem emb9 (t : Fin cfg0.N) (r : Fin 1024) (j : Fin 1792) :
    ((cfg0.win 9).blk t).view.emb (ix2 r j) = ix2 (row t.val r) (col t.val j) := by
  obtain ⟨⟨e0, e1⟩, -⟩ := idxC t
  funext a; apply Fin.ext
  match a with
  | ⟨0, _⟩ => show win0_9.index t (0 : Fin 2) * 1024 + 1 * r.val = (row t.val r).val; rw [row_val]; omega
  | ⟨1, _⟩ => show win0_9.index t (1 : Fin 2) * 1792 + 1 * j.val = (col t.val j).val; rw [col_val]; omega

theorem final9 (c : Dev nD) : (dats m 0 c).arrAt 9 cfg0.N = G9 m c := by
  refine (dats m 0 c).arrAt_eq_of_covers 9 _ (by decide +kernel) fun t hf y => ?_
  blk_simp
  have hy : y = ix2 (n0 := 1024) (n1 := 1792) (y 0) (y 1) := eq_ix2 y
  have he : ((View.whole main_v28_0).slice (win0_9.rect t)).emb y = ix2 (row t.val (y 0)) (col t.val (y 1)) := by
    conv_lhs => rw [hy]
    exact emb9 t (y 0) (y 1)
  rw [he, after0_9]
  exact (congrArg _ hy).trans ((after m c t.val t.isLt).o (y 0) (y 1))

theorem emb10 (t : Fin cfg0.N) (r : Fin 64) (j : Fin 8192) :
    ((cfg0.win 10).blk t).view.emb (ix2 r j) = ix2 (slab1 t r) j := by
  obtain ⟨-, ⟨e0, e1⟩, -⟩ := idxC t
  funext d; apply Fin.ext
  match d with
  | ⟨0, _⟩ => show win0_10.index t (0 : Fin 2) * 64 + 1 * r.val = 64 * t.val + r.val; omega
  | ⟨1, _⟩ => show win0_10.index t (1 : Fin 2) * 8192 + 1 * j.val = j.val; omega

theorem final10 (c : Dev nD) : (dats m 0 c).arrAt 10 cfg0.N = G10 m c := by
  refine (dats m 0 c).arrAt_eq_of_covers 10 _ (by decide +kernel) fun t hf y => ?_
  blk_simp
  have hy : y = ix2 (n0 := 64) (n1 := 8192) (y 0) (y 1) := eq_ix2 y
  have he : ((View.whole main_v28_1).slice (win0_10.rect t)).emb y = ix2 (slab1 t (y 0)) (y 1) := by
    conv_lhs => rw [hy]
    exact emb10 t (y 0) (y 1)
  rw [he, after0_10, slab1_eq]
  exact (congrArg _ hy).trans (iblk7 m c t (y 0) (y 1))

theorem emb11 (t : Fin cfg0.N) (r : Fin 256) (j : Fin 2048) :
    ((cfg0.win 11).blk t).view.emb (ix2 r j) = ix2 (slab2 t r) j := by
  obtain ⟨-, -, ⟨e0, e1⟩⟩ := idxC t
  funext d; apply Fin.ext
  match d with
  | ⟨0, _⟩ => show win0_11.index t (0 : Fin 2) * 256 + 1 * r.val = 256 * t.val + r.val; omega
  | ⟨1, _⟩ => show win0_11.index t (1 : Fin 2) * 2048 + 1 * j.val = j.val; omega

theorem final11 (c : Dev nD) : (dats m 0 c).arrAt 11 cfg0.N = G11 m c := by
  refine (dats m 0 c).arrAt_eq_of_covers 11 _ (by decide +kernel) fun t hf y => ?_
  blk_simp
  have hy : y = ix2 (n0 := 256) (n1 := 2048) (y 0) (y 1) := eq_ix2 y
  have he : ((View.whole main_v28_2).slice (win0_11.rect t)).emb y = ix2 (slab2 t (y 0)) (y 1) := by
    conv_lhs => rw [hy]
    exact emb11 t (y 0) (y 1)
  rw [he, after0_11, slab2_eq]
  exact (congrArg _ hy).trans (iblk8 m c t (y 0) (y 1))

/-- The call's run, with its three results named. -/
theorem run (ρ : Dev nD → PrngReg) : θ_run defs (onTc (τ := τ) (main (F := Ideal))) ⟨m, fun _ => 0, ρ⟩ fun r => ∀ c : Dev nD,
      r.2.mem ((c : Thread nD τ).loc main_v28_0) = G9 m c
      ∧ r.2.mem ((c : Thread nD τ).loc main_v28_1) = G10 m c
      ∧ r.2.mem ((c : Thread nD τ).loc main_v28_2) = G11 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨((h c).1 9).trans (final9 m c), ((h c).1 10).trans (final10 m c), ((h c).1 11).trans (final11 m c),
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c)⟩)
    (run_main m ρ)

end Cert.Proof.InVal
end
-- ==== Proof.FfnRef.lean ====
/- The feed-forward network: what the reference computes, at an index, and that the kernel's call computes the same. -/
module

public import proofs.«01_k».proof.Proof.FfnVal
public import proofs.«01_k».proof.Proof.Gen.FfnRefIdeal.Read

@[expose] public section

set_option maxRecDepth 16384

noncomputable section

namespace Cert.Proof.FfnRef

open Idealize.ShloMosaic Idealize.ShloMosaic.TcCoe Idealize.SL.Sem
open Cert.Proof.FfnVal (act scale)

theorem mean_word : Ideal.ofBits .f32 0x45000000#32 = ((2048 : ℝ) : EReal) := by
  simp [Ideal.ofBits, Ideal.ieee, -EReal.coe_mul]; norm_num

theorem eps_word : ∃ e : ℝ, 0 < e ∧ Ideal.ofBits .f32 0x358637BD#32 = (e : EReal) := by
  refine ⟨_, ?_, by simp [Ideal.ofBits, Ideal.ieee, -EReal.coe_mul]; rfl⟩
  norm_num

/-- A row's scale is a real number that is not negative. -/
theorem scale_real (x : Fin 2048 → EReal) : ∃ s : ℝ, 0 ≤ s ∧ scale x = (s : EReal) := by
  have hs : 0 ≤ ∑ j : Fin 2048, x j * x j := Finset.sum_nonneg fun j _ => by
    rcases le_total 0 (x j) with h | h
    · exact mul_nonneg h h
    · exact EReal.mul_nonneg_iff.mpr (.inr ⟨h, h⟩)
  obtain ⟨e, he, hw⟩ := eps_word
  unfold scale
  rw [mean_word, hw]
  have hne : ((2048 : ℝ) : EReal) ≠ 0 := by
    rw [Ne, EReal.coe_eq_zero]; norm_num
  unfold Ideal.div
  rw [if_neg hne, ← EReal.coe_inv]
  generalize (∑ j : Fin 2048, x j * x j) = s at hs ⊢
  induction s with
  | bot => simp at hs
  | top =>
    refine ⟨0, le_refl _, ?_⟩
    rw [EReal.top_mul_coe_of_pos (by norm_num), EReal.top_add_coe]
    rfl
  | coe s =>
    have h0 : 0 ≤ s := EReal.coe_nonneg.mp hs
    have hp : 0 < s * (2048 : ℝ)⁻¹ + e := by positivity
    rw [← EReal.coe_mul, ← EReal.coe_add, Ideal.rsqrt_coe, if_neg (not_lt.mpr hp.le), if_neg hp.ne']
    exact ⟨_, inv_nonneg.mpr (Real.sqrt_nonneg _), rfl⟩

/-- A real number that is not negative multiplies a sum term by term. -/
theorem sum_mul_real {ι : Type} (S : Finset ι) (f : ι → EReal) (s : ℝ) (h : 0 ≤ s) :
    (∑ k ∈ S, f k) * (s : EReal) = ∑ k ∈ S, f k * (s : EReal) := by
  classical
  induction S using Finset.induction_on with
  | empty => simp
  | insert a S ha ih =>
    rw [Finset.sum_insert ha, Finset.sum_insert ha,
      EReal.right_distrib_of_nonneg_of_ne_top (EReal.coe_nonneg.mpr h) (EReal.coe_ne_top _), ih]

section Reference
open Cert.FfnRefIdeal Cert.FfnRefIdeal.Gen

/-- The normalised input, at an index. -/
theorem norm_apply (x0 : FVec Ideal S8192x2048 .f32) (x1 : FVec Ideal S1x2048 .f32) (i : Fin 8192) (k : Fin 2048) :
    (mulf (mulf x0 (broadcastInDim S8192x2048 ![0, 1] bcast_S8192x1_S8192x2048_0_1 (Host.rsqrt (addf (Host.divf (broadcastInDim S8192x1 ![0] bcast_S8192_S8192x1_0 (Host.reduceAdd (mulf x0 x0) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (shapeCast S2048 x1 shapeCasts_S1x2048_S2048)))) (ix2 i k)
      = (x0 (ix2 i k) * scale (fun j => x0 (ix2 i j))) * x1 (ix2 0 k) := by
  pointwise [scale]

/-- The rest of the reference, from the normalised input. -/
theorem tail_apply (x0 : FVec Ideal S8192x2048 .f32) (x2 : FVec Ideal S2048x8192 .bf16) (x3 : FVec Ideal S8192x2048 .bf16)
    (h : FVec Ideal S8192x2048 .f32) (i : Fin 8192) (j : Fin 2048) :
    addf x0 (Host.dotGeneral dot_S8192x8192_S8192x2048_S8192x2048_1_0_0_1_n_n none (mulf (maximumf (Host.dotGeneral dot_S8192x2048_S2048x8192_S8192x8192_1_0_0_1_n_n none h (extf .f32 x2 bitsLt_bf16_f32)) (broadcastInDim S8192x8192 ![] bcast_S_S8192x8192 (constant S_ .f32 0x00000000#32))) (maximumf (Host.dotGeneral dot_S8192x2048_S2048x8192_S8192x8192_1_0_0_1_n_n none h (extf .f32 x2 bitsLt_bf16_f32)) (broadcastInDim S8192x8192 ![] bcast_S_S8192x8192 (constant S_ .f32 0x00000000#32)))) (extf .f32 x3 bitsLt_bf16_f32)) (ix2 i j)
      = x0 (ix2 i j) + ∑ q : Fin 8192, act (∑ k : Fin 2048, h (ix2 i k) * x2 (ix2 k q)) * x3 (ix2 q j) := by
  pointwise [act]

/-- The row's scale comes out of the first product. -/
theorem scale_out (x g : Fin 2048 → EReal) (w : Fin 2048 → EReal) :
    (∑ k : Fin 2048, ((x k * scale x) * g k) * w k) = (∑ k : Fin 2048, (x k * g k) * w k) * scale x := by
  obtain ⟨s, h, e⟩ := scale_real x
  rw [e, sum_mul_real _ _ s h]
  refine Finset.sum_congr rfl fun k _ => ?_
  rw [mul_right_comm (x k), mul_right_comm]

end Reference

/-- The reference's result is the kernel's. -/
theorem ref_eq (m : (ℓ : Loc Cert.FfnIdeal.nD Cert.FfnIdeal.τ Cert.FfnIdeal.sig) → Buf (Elt Ideal) ℓ) (c : Dev Cert.FfnIdeal.nD)
    (m' : (ℓ : Loc Cert.FfnRefIdeal.nD Cert.FfnRefIdeal.τ Cert.FfnRefIdeal.sig) → Buf (Elt Ideal) ℓ)
    (e0 : m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0))
    (e1 : m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1))
    (e2 : m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2))
    (e3 : m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3))
    (B : FVec Ideal Cert.FfnRefIdeal.S8192x2048 .f32)
    (hB : B = Cert.FfnRefIdeal.Read.val_main_v20 (F := Ideal) (m' ((c.tc : Thread Cert.FfnRefIdeal.nD Cert.FfnRefIdeal.τ).loc Cert.FfnRefIdeal.main_arg0)) (m' ((c.tc : Thread Cert.FfnRefIdeal.nD Cert.FfnRefIdeal.τ).loc Cert.FfnRefIdeal.main_arg1))
      (m' ((c.tc : Thread Cert.FfnRefIdeal.nD Cert.FfnRefIdeal.τ).loc Cert.FfnRefIdeal.main_arg2)) (m' ((c.tc : Thread Cert.FfnRefIdeal.nD Cert.FfnRefIdeal.τ).loc Cert.FfnRefIdeal.main_arg3))) :
    B = Cert.Proof.FfnVal.G m c := by
  rw [hB, e0, e1, e2, e3]
  funext y
  rw [eq_ix2 y]
  refine (tail_apply _ _ _ _ (y 0) (y 1)).trans ?_
  refine congrArg (HAdd.hAdd (α := EReal) (β := EReal) (γ := EReal) _) (Finset.sum_congr rfl fun q _ => ?_)
  refine congrArg (fun a => act a * _) (Eq.trans (Finset.sum_congr rfl fun k _ => ?_) (scale_out _ _ _))
  exact congrArg (· * _) (norm_apply _ _ (y 0) k)

end Cert.Proof.FfnRef
end
-- ==== Proof.InRef.lean ====
/- The input projection's reference read at an index, and that the kernel's call computes the same. -/
module

public import proofs.«01_k».proof.Proof.InVal
public import proofs.«01_k».proof.Proof.FfnRef
public import proofs.«01_k».proof.Proof.Gen.InProjRefIdeal.Read

@[expose] public section

set_option maxRecDepth 16384

noncomputable section

namespace Cert.Proof.InRef

open Idealize.ShloMosaic Idealize.ShloMosaic.TcCoe Idealize.SL.Sem Cert.InProjRefIdeal Cert.InProjRefIdeal.Gen Cert.InProjRefIdeal.Read
open Cert.Proof.FfnVal (scale)
open Cert.Proof.InVal (ang cosT sinT seq pos headCol headLane)
open Cert.Proof.InStep (rotv normv stepv secStep turn)

variable (x0 : (⟨S2x4096x2048, .f32⟩ : BufTy).Contents (Elt Ideal)) (x1 : (⟨S1x2048, .f32⟩ : BufTy).Contents (Elt Ideal))
  (x2 : (⟨S1x2048x7168, .f32⟩ : BufTy).Contents (Elt Ideal)) (x3 x4 : (⟨S1x128, .f32⟩ : BufTy).Contents (Elt Ideal))

/-- The normed rows. -/
theorem v14_apply (b : Fin 2) (p : Fin 4096) (k : Fin 2048) :
    (val_main_v14 (F := Ideal) x0 x1 : FVec Ideal S2x4096x2048 .f32) (ix3 b p k)
      = (x0 (ix3 b p k) * scale (fun j => x0 (ix3 b p j))) * x1 (ix2 0 k) := by
  pointwise [val_main_v14, val_main_v13, val_main_v12, val_main_v1, val_main_v11, val_main_v10, val_main_v9, val_main_v8, val_main_v7, val_main_v6, val_main_v5,
    val_main_v4, val_main_v3, val_main_v2, val_main_cst, val_main_cst_0, val_main_cst_1, scale]

/-- The projection. -/
def proj (i : Fin 8192) (n : Fin 7168) : EReal :=
  (∑ k : Fin 2048, (x0 (ix3 (seq i) (pos i) k) * x1 (ix2 0 k)) * x2 (ix3 0 k n)) * scale (fun k => x0 (ix3 (seq i) (pos i) k))

theorem v16_apply (i : Fin 8192) (n : Fin 7168) :
    (val_main_v16 (F := Ideal) x0 x1 x2 : FVec Ideal S2x4096x7168 .f32) (ix3 (seq i) (pos i) n) = proj x0 x1 x2 i n := by
  refine Eq.trans ?_ (FfnRef.scale_out (fun j => x0 (ix3 (seq i) (pos i) j)) (fun k => x1 (ix2 0 k)) (fun k => x2 (ix3 0 k n)))
  refine Eq.trans ?_ (Finset.sum_congr rfl fun k _ => congrArg (· * x2 (ix3 0 k n)) (v14_apply x0 x1 (seq i) (pos i) k))
  unfold val_main_v16
  generalize val_main_v14 (F := Ideal) x0 x1 = a
  pointwise [val_main_v15]

/-- A head's lane in a section, among the columns. -/
def at7 (s : Fin 7) (h : Fin 8) (e : Fin 128) : Fin 7168 := ⟨1024 * s.val + 128 * h.val + e.val, by omega⟩

theorem v24_apply (i : Fin 8192) (h : Fin 8) (e : Fin 128) :
    (val_main_v24 (F := Ideal) x0 x1 x2 : FVec Ideal S2x4096x8x128 .f32) (ix4 (seq i) (pos i) h e) = proj x0 x1 x2 i (at7 0 h e) := by
  rw [← v16_apply]
  unfold val_main_v24 val_main_v17
  generalize val_main_v16 (F := Ideal) x0 x1 x2 = a
  pointwise
  congr 2; apply Fin.ext
  show _ = 1024 * 0 + 128 * h.val + e.val
  dsimp only; omega

theorem v25_apply (i : Fin 8192) (h : Fin 8) (e : Fin 128) :
    (val_main_v25 (F := Ideal) x0 x1 x2 : FVec Ideal S2x4096x8x128 .f32) (ix4 (seq i) (pos i) h e) = proj x0 x1 x2 i (at7 1 h e) := by
  rw [← v16_apply]
  unfold val_main_v25 val_main_v18
  generalize val_main_v16 (F := Ideal) x0 x1 x2 = a
  pointwise
  congr 2; apply Fin.ext
  show _ = 1024 * 1 + 128 * h.val + e.val
  dsimp only; omega

theorem v26_apply (i : Fin 8192) (h : Fin 8) (e : Fin 128) :
    (val_main_v26 (F := Ideal) x0 x1 x2 : FVec Ideal S2x4096x8x128 .f32) (ix4 (seq i) (pos i) h e) = proj x0 x1 x2 i (at7 2 h e) := by
  rw [← v16_apply]
  unfold val_main_v26 val_main_v19
  generalize val_main_v16 (F := Ideal) x0 x1 x2 = a
  pointwise
  congr 2; apply Fin.ext
  show _ = 1024 * 2 + 128 * h.val + e.val
  dsimp only; omega

theorem v27_apply (i : Fin 8192) (h : Fin 8) (e : Fin 128) :
    (val_main_v27 (F := Ideal) x0 x1 x2 : FVec Ideal S2x4096x8x128 .f32) (ix4 (seq i) (pos i) h e) = proj x0 x1 x2 i (at7 3 h e) := by
  rw [← v16_apply]
  unfold val_main_v27 val_main_v20
  generalize val_main_v16 (F := Ideal) x0 x1 x2 = a
  pointwise
  congr 2; apply Fin.ext
  show _ = 1024 * 3 + 128 * h.val + e.val
  dsimp only; omega

theorem v28_apply (i : Fin 8192) (h : Fin 8) (e : Fin 128) :
    (val_main_v28 (F := Ideal) x0 x1 x2 : FVec Ideal S2x4096x8x128 .f32) (ix4 (seq i) (pos i) h e) = proj x0 x1 x2 i (at7 4 h e) := by
  rw [← v16_apply]
  unfold val_main_v28 val_main_v21
  generalize val_main_v16 (F := Ideal) x0 x1 x2 = a
  pointwise
  congr 2; apply Fin.ext
  show _ = 1024 * 4 + 128 * h.val + e.val
  dsimp only; omega

theorem v29_apply (i : Fin 8192) (h : Fin 8) (e : Fin 128) :
    (val_main_v29 (F := Ideal) x0 x1 x2 : FVec Ideal S2x4096x8x128 .f32) (ix4 (seq i) (pos i) h e) = proj x0 x1 x2 i (at7 5 h e) := by
  rw [← v16_apply]
  unfold val_main_v29 val_main_v22
  generalize val_main_v16 (F := Ideal) x0 x1 x2 = a
  pointwise
  congr 2; apply Fin.ext
  show _ = 1024 * 5 + 128 * h.val + e.val
  dsimp only; omega

theorem v30_apply (i : Fin 8192) (h : Fin 8) (e : Fin 128) :
    (val_main_v30 (F := Ideal) x0 x1 x2 : FVec Ideal S2x4096x8x128 .f32) (ix4 (seq i) (pos i) h e) = proj x0 x1 x2 i (at7 6 h e) := by
  rw [← v16_apply]
  unfold val_main_v30 val_main_v23
  generalize val_main_v16 (F := Ideal) x0 x1 x2 = a
  pointwise
  congr 2; apply Fin.ext
  show _ = 1024 * 6 + 128 * h.val + e.val
  dsimp only; omega

/-- The rotation by halves is the rotation by the turned head and the signed table. -/
theorem rot_eq (a : Fin 128 → EReal) (p : Fin 4096) (e : Fin 128) :
    (if h : e.val < 64 then a e * Ideal.cos (ang p.val e.val) - a (⟨64 + e.val, by omega⟩ : Fin 128) * Ideal.sin (ang p.val e.val)
      else a (⟨e.val - 64, by omega⟩ : Fin 128) * Ideal.sin (ang p.val (e.val - 64))
        + a (⟨64 + (e.val - 64), by omega⟩ : Fin 128) * Ideal.cos (ang p.val (e.val - 64)))
      = rotv a (cosT p) (sinT p) e := by
  unfold rotv cosT sinT
  by_cases h : e.val < 64
  · have et : turn e = (⟨64 + e.val, by omega⟩ : Fin 128) := Fin.ext (by show (e.val + 128 - 64) % 128 = 64 + e.val; omega)
    rw [dif_pos h, if_pos h, if_pos h, et, mul_neg, sub_eq_add_neg]
  · have et : turn e = (⟨e.val - 64, by omega⟩ : Fin 128) := Fin.ext (by show (e.val + 128 - 64) % 128 = e.val - 64; omega)
    have ee : (⟨64 + (e.val - 64), by omega⟩ : Fin 128) = e := Fin.ext (by show 64 + (e.val - 64) = e.val; omega)
    rw [dif_neg h, if_neg h, if_neg h, et, ee, add_comm]

theorem v59_apply (b : Fin 2) (p : Fin 4096) (h : Fin 8) (e : Fin 128) :
    (val_main_v59 (F := Ideal) x0 x1 x2 : FVec Ideal S2x4096x8x128 .f32) (ix4 b p h e)
      = rotv (fun l => (val_main_v24 (F := Ideal) x0 x1 x2 : FVec Ideal S2x4096x8x128 .f32) (ix4 b p h l)) (cosT p) (sinT p) e := by
  unfold val_main_v59 val_main_v58 val_main_v57 val_main_v56 val_main_v55 val_main_v54 val_main_v53 val_main_v52 val_main_v51 val_main_v50 val_main_v49 val_main_v48 val_main_v47
  generalize val_main_v24 (F := Ideal) x0 x1 x2 = a
  rw [← rot_eq (fun l => (a : FVec Ideal S2x4096x8x128 .f32) (ix4 b p h l)) p e]
  pointwise [val_main_v46, val_main_v45, val_main_v44, val_main_v43, val_main_v42, val_main_v41, val_main_v40, val_main_v39, val_main_v38, val_main_v37, val_main_v36, val_main_v35, val_main_v34, val_main_v33, val_main_v32, val_main_cst_3, val_main_cst_4, val_main_v0, ang]

theorem v87_apply (b : Fin 2) (p : Fin 4096) (h : Fin 8) (e : Fin 128) :
    (val_main_v87 (F := Ideal) x0 x1 x2 : FVec Ideal S2x4096x8x128 .f32) (ix4 b p h e)
      = rotv (fun l => (val_main_v25 (F := Ideal) x0 x1 x2 : FVec Ideal S2x4096x8x128 .f32) (ix4 b p h l)) (cosT p) (sinT p) e := by
  unfold val_main_v87 val_main_v86 val_main_v85 val_main_v84 val_main_v83 val_main_v82 val_main_v81 val_main_v80 val_main_v79 val_main_v78 val_main_v77 val_main_v76 val_main_v75
  generalize val_main_v25 (F := Ideal) x0 x1 x2 = a
  rw [← rot_eq (fun l => (a : FVec Ideal S2x4096x8x128 .f32) (ix4 b p h l)) p e]
  pointwise [val_main_v74, val_main_v73, val_main_v72, val_main_v71, val_main_v70, val_main_v69, val_main_v68, val_main_v67, val_main_v66, val_main_v65, val_main_v64, val_main_v63, val_main_v62, val_main_v61, val_main_v60, val_main_cst_5, val_main_cst_6, val_main_v0, ang]

/-- The root of the head's width, and the scales named by their values. -/
theorem root_eq : Ideal.sqrt (Ideal.ofBits .f32 0x43000000#32) = ((Real.sqrt 128 : ℝ) : EReal) := by
  have e : Ideal.ofBits .f32 0x43000000#32 = ((128 : ℝ) : EReal) := by
    simp [Ideal.ofBits, Ideal.ieee, -EReal.coe_mul]; norm_num
  rw [e, Ideal.sqrt_coe, if_neg (by norm_num)]

theorem log_eq : Ideal.log (Ideal.ofBits .f32 0x40000000#32) = ((Real.log 2 : ℝ) : EReal) := by
  have e : Ideal.ofBits .f32 0x40000000#32 = ((2 : ℝ) : EReal) := by
    simp [Ideal.ofBits, Ideal.ieee, -EReal.coe_mul]; norm_num
  rw [e, Ideal.log_coe, if_neg (by norm_num)]

theorem scale_eq : Named.named (F := Ideal) (φ := .f32) Cert.InProjIdeal.κ "scale" 0x3DB504F3#32 = (((Real.sqrt 128)⁻¹ : ℝ) : EReal) :=
  IdealRules.named_const.ideal_named_scalar _ _ _ _ rfl

theorem scale2_eq : Named.named (F := Ideal) (φ := .f32) Cert.InProjIdeal.κ "scale2" 0x3E0293EE#32
    = (((Real.sqrt 128)⁻¹ * (Real.log 2)⁻¹ : ℝ) : EReal) :=
  IdealRules.named_const.ideal_named_scalar _ _ _ _ rfl

theorem sqrt_ne : Real.sqrt 128 ≠ 0 := (Real.sqrt_pos.mpr (by norm_num)).ne'
theorem log_ne : Real.log 2 ≠ 0 := (Real.log_pos (by norm_num)).ne'

theorem div_root (a : EReal) : Ideal.div a (Ideal.sqrt (Ideal.ofBits .f32 0x43000000#32))
    = a * Named.named (F := Ideal) (φ := .f32) Cert.InProjIdeal.κ "scale" 0x3DB504F3#32 := by
  rw [root_eq, scale_eq, Ideal.div_coe sqrt_ne, one_div]

theorem div_log (a : EReal) : Ideal.div (Ideal.div a (Ideal.sqrt (Ideal.ofBits .f32 0x43000000#32))) (Ideal.log (Ideal.ofBits .f32 0x40000000#32))
    = a * Named.named (F := Ideal) (φ := .f32) Cert.InProjIdeal.κ "scale2" 0x3E0293EE#32 := by
  rw [root_eq, log_eq, scale2_eq, Ideal.div_coe sqrt_ne, Ideal.div_coe log_ne, one_div, one_div, EReal.coe_mul, mul_assoc]

theorem v89_apply (b : Fin 2) (p : Fin 4096) (h : Fin 8) (e : Fin 128) :
    (val_main_v89 (F := Ideal) x0 x1 x2 : FVec Ideal S2x4096x8x128 .f32) (ix4 b p h e)
      = rotv (fun l => (val_main_v25 (F := Ideal) x0 x1 x2 : FVec Ideal S2x4096x8x128 .f32) (ix4 b p h l)) (cosT p) (sinT p) e
        * Named.named (F := Ideal) (φ := .f32) Cert.InProjIdeal.κ "scale" 0x3DB504F3#32 := by
  rw [← v87_apply, ← div_root]
  unfold val_main_v89
  generalize val_main_v87 (F := Ideal) x0 x1 x2 = a
  pointwise [val_main_v88, val_main_v31, val_main_cst_2]

theorem v108_apply (b : Fin 2) (p : Fin 4096) (h : Fin 8) (e : Fin 128) :
    (val_main_v108 (F := Ideal) x0 x1 x2 x3 : FVec Ideal S2x4096x8x128 .f32) (ix4 b p h e)
      = normv (fun l => (val_main_v28 (F := Ideal) x0 x1 x2 : FVec Ideal S2x4096x8x128 .f32) (ix4 b p h l)) (fun l => x3 (ix2 0 l)) e
        * Named.named (F := Ideal) (φ := .f32) Cert.InProjIdeal.κ "scale2" 0x3E0293EE#32 := by
  rw [← div_log]
  unfold val_main_v108 val_main_v105 val_main_v103 val_main_v100 val_main_v99 val_main_v98 val_main_v97 val_main_v95 val_main_v93 val_main_v92 val_main_v91
  generalize val_main_v28 (F := Ideal) x0 x1 x2 = a
  pointwise [val_main_v107, val_main_v106, val_main_cst_10, val_main_v104, val_main_v31, val_main_cst_2, val_main_v102, val_main_v101, val_main_v90, val_main_v96, val_main_cst_9, val_main_v94, val_main_cst_8, val_main_cst_7, normv]

theorem v122_apply (b : Fin 2) (p : Fin 4096) (h : Fin 8) (e : Fin 128) :
    (val_main_v122 (F := Ideal) x0 x1 x2 x4 : FVec Ideal S2x4096x8x128 .f32) (ix4 b p h e)
      = normv (fun l => (val_main_v29 (F := Ideal) x0 x1 x2 : FVec Ideal S2x4096x8x128 .f32) (ix4 b p h l)) (fun l => x4 (ix2 0 l)) e := by
  unfold val_main_v122 val_main_v119 val_main_v118 val_main_v117 val_main_v116 val_main_v114 val_main_v112 val_main_v111 val_main_v110
  generalize val_main_v29 (F := Ideal) x0 x1 x2 = a
  pointwise [val_main_v121, val_main_v120, val_main_v109, val_main_v115, val_main_cst_13, val_main_v113, val_main_cst_12, val_main_cst_11, normv]

/-- A column of the first result, by its section: what is done to its head. -/
theorem section_eq (s : Fin 7) (i : Fin 8192) (n : Fin 7168) (hn : n.val / 1024 = s.val) (f : Fin 8 → Fin 128 → EReal)
    (hf : ∀ h e, f h e = stepv (fun l => proj x0 x1 x2 i (at7 s h l)) (cosT (pos i)) (sinT (pos i)) (fun l => x3 (ix2 0 l)) (fun l => x4 (ix2 0 l))
      (secStep s.val) e) (h : Fin 8) (e : Fin 128) (hh : h.val = (n.val - 1024 * s.val) / 128) (he : e.val = (n.val - 1024 * s.val) % 128) :
    f h e = stepv (fun l => proj x0 x1 x2 i (headCol n l)) (cosT (pos i)) (sinT (pos i)) (fun l => x3 (ix2 0 l)) (fun l => x4 (ix2 0 l))
      (secStep (n.val / 128 / 8)) (headLane n) := by
  have e1 : n.val / 128 / 8 = s.val := by omega
  have e2 : headLane n = e := Fin.ext (by show n.val % 128 = e.val; omega)
  have e3 : ∀ l, headCol n l = at7 s h l := fun l => Fin.ext (by show 128 * (n.val / 128) + l.val = 1024 * s.val + 128 * h.val + l.val; omega)
  rw [hf, e1, e2]
  simp only [e3]

theorem v131_apply (i : Fin 8192) (n : Fin 7168) :
    (val_main_v131 (F := Ideal) x0 x1 x2 x3 x4 : FVec Ideal S8192x7168 .bf16) (ix2 i n)
      = stepv (fun l => proj x0 x1 x2 i (headCol n l)) (cosT (pos i)) (sinT (pos i)) (fun l => x3 (ix2 0 l)) (fun l => x4 (ix2 0 l))
      (secStep (n.val / 128 / 8)) (headLane n) := by
  have key := fun s hn f hf h e hh he => section_eq x0 x1 x2 x3 x4 s i n hn f hf h e hh he
  have k0 := fun h e => (v59_apply x0 x1 x2 (seq i) (pos i) h e).trans (congrArg (fun a => rotv a (cosT (pos i)) (sinT (pos i)) e) (funext fun l => v24_apply x0 x1 x2 i h l))
  have k1 := fun h e => (v89_apply x0 x1 x2 (seq i) (pos i) h e).trans (congrArg (fun a => rotv a (cosT (pos i)) (sinT (pos i)) e * _) (funext fun l => v25_apply x0 x1 x2 i h l))
  have k2 := fun h e => v26_apply x0 x1 x2 i h e
  have k3 := fun h e => v27_apply x0 x1 x2 i h e
  have k4 := fun h e => (v108_apply x0 x1 x2 x3 (seq i) (pos i) h e).trans (congrArg (fun a => normv a (fun l => x3 (ix2 0 l)) e * _) (funext fun l => v28_apply x0 x1 x2 i h l))
  have k5 := fun h e => (v122_apply x0 x1 x2 x4 (seq i) (pos i) h e).trans (congrArg (fun a => normv a (fun l => x4 (ix2 0 l)) e) (funext fun l => v29_apply x0 x1 x2 i h l))
  have k6 := fun h e => v30_apply x0 x1 x2 i h e
  have hn7 := n.isLt
  unfold val_main_v131 val_main_v130 val_main_v129 val_main_v128 val_main_v127 val_main_v126 val_main_v125 val_main_v124 val_main_v123
  generalize val_main_v59 (F := Ideal) x0 x1 x2 = a0 at k0 ⊢
  generalize val_main_v89 (F := Ideal) x0 x1 x2 = a1 at k1 ⊢
  generalize val_main_v26 (F := Ideal) x0 x1 x2 = a2 at k2 ⊢
  generalize val_main_v27 (F := Ideal) x0 x1 x2 = a3 at k3 ⊢
  generalize val_main_v108 (F := Ideal) x0 x1 x2 x3 = a4 at k4 ⊢
  generalize val_main_v122 (F := Ideal) x0 x1 x2 x4 = a5 at k5 ⊢
  generalize val_main_v30 (F := Ideal) x0 x1 x2 = a6 at k6 ⊢
  pointwise
  by_cases h0 : n.val < 1024
  · rw [dif_pos h0]
    exact key 0 (by show n.val / 1024 = 0; omega) _ k0 _ _ (by show _ = (n.val - 1024 * 0) / 128; dsimp only <;> omega) (by show _ = (n.val - 1024 * 0) % 128; dsimp only <;> omega)
  rw [dif_neg h0]
  by_cases h1 : n.val - 1024 < 1024
  · rw [dif_pos h1]
    exact key 1 (by show n.val / 1024 = 1; omega) _ k1 _ _ (by show _ = (n.val - 1024 * 1) / 128; dsimp only <;> omega) (by show _ = (n.val - 1024 * 1) % 128; dsimp only <;> omega)
  rw [dif_neg h1]
  by_cases h2 : n.val - 1024 - 1024 < 1024
  · rw [dif_pos h2]
    exact key 2 (by show n.val / 1024 = 2; omega) _ k2 _ _ (by show _ = (n.val - 1024 * 2) / 128; dsimp only <;> omega) (by show _ = (n.val - 1024 * 2) % 128; dsimp only <;> omega)
  rw [dif_neg h2]
  by_cases h3 : n.val - 1024 - 1024 - 1024 < 1024
  · rw [dif_pos h3]
    exact key 3 (by show n.val / 1024 = 3; omega) _ k3 _ _ (by show _ = (n.val - 1024 * 3) / 128; dsimp only <;> omega) (by show _ = (n.val - 1024 * 3) % 128; dsimp only <;> omega)
  rw [dif_neg h3]
  by_cases h4 : n.val - 1024 - 1024 - 1024 - 1024 < 1024
  · rw [dif_pos h4]
    exact key 4 (by show n.val / 1024 = 4; omega) _ k4 _ _ (by show _ = (n.val - 1024 * 4) / 128; dsimp only <;> omega) (by show _ = (n.val - 1024 * 4) % 128; dsimp only <;> omega)
  rw [dif_neg h4]
  by_cases h5 : n.val - 1024 - 1024 - 1024 - 1024 - 1024 < 1024
  · rw [dif_pos h5]
    exact key 5 (by show n.val / 1024 = 5; omega) _ k5 _ _ (by show _ = (n.val - 1024 * 5) / 128; dsimp only <;> omega) (by show _ = (n.val - 1024 * 5) % 128; dsimp only <;> omega)
  rw [dif_neg h5]
  exact key 6 (by show n.val / 1024 = 6; omega) _ k6 _ _ (by show _ = (n.val - 1024 * 6) / 128; dsimp only <;> omega) (by show _ = (n.val - 1024 * 6) % 128; dsimp only <;> omega)

section Results
variable (m : (ℓ : Loc Cert.InProjIdeal.nD Cert.InProjIdeal.τ Cert.InProjIdeal.sig) → Buf (Elt Ideal) ℓ) (c : Dev Cert.InProjIdeal.nD)

/-- The reference's three results are the call's. -/
theorem first_eq : val_main_v131 (F := Ideal) (InVal.X m c) (InVal.Gn m c) (InVal.Wi m c) (InVal.Qg m c) (InVal.Kg m c) = InVal.G9 m c := by
  funext y
  obtain ⟨i, n, rfl⟩ : ∃ (i : Fin 8192) (n : Fin 7168), y = ix2 i n := ⟨y 0, y 1, eq_ix2 y⟩
  exact v131_apply (InVal.X m c) (InVal.Gn m c) (InVal.Wi m c) (InVal.Qg m c) (InVal.Kg m c) i n

theorem second_eq : truncf (F := Ideal) .bf16 (shapeCast S2048x8192 (InVal.W1 m c : FVec Ideal S1x2048x8192 .f32) shapeCasts_S1x2048x8192_S2048x8192) bitsLt_bf16_f32
    = InVal.G10 m c := by
  funext y
  obtain ⟨i, n, rfl⟩ : ∃ (i : Fin 2048) (n : Fin 8192), y = ix2 i n := ⟨y 0, y 1, eq_ix2 y⟩
  show _ = InVal.W1 m c (ix3 0 i n)
  pointwise

theorem third_eq : truncf (F := Ideal) .bf16 (shapeCast S8192x2048 (InVal.W2 m c : FVec Ideal S1x8192x2048 .f32) shapeCasts_S1x8192x2048_S8192x2048) bitsLt_bf16_f32
    = InVal.G11 m c := by
  funext y
  obtain ⟨i, n, rfl⟩ : ∃ (i : Fin 8192) (n : Fin 2048), y = ix2 i n := ⟨y 0, y 1, eq_ix2 y⟩
  show _ = InVal.W2 m c (ix3 0 i n)
  pointwise

end Results

end Cert.Proof.InRef
end
-- ==== Proof.Blocks.lean ====
/- One head's work in one grid step of the retention kernel, in the kernel's own operations: the state a block of 256
   rows leaves, and the rows of output it makes. Every stored piece of the kernel is one of these. -/
module

public import proofs.«01_k».proof.Proof.Gen.KernelIdeal.Frame

@[expose] public section

set_option maxRecDepth 16384

noncomputable section

namespace Cert.Proof.Blocks

open Idealize.ShloMosaic Idealize.ShloMosaic.TcCoe Idealize.ShloMosaic.Tactic Cert.KernelIdeal Cert.KernelIdeal.Gen

variable {F : FTy → Type} [FloatOps F] [Named F]

/-- A head's decay over a block of 256 rows: one of the eight named constants. -/
def gam : Fin 8 → F .f32 :=
  ![Named.named κ "g0" 0x399ACCA1#32, Named.named κ "g1" 0x3C9160A5#32, Named.named κ "g2" 0x3E097FCE#32,
    Named.named κ "g3" 0x3EBBFC5D#32, Named.named κ "g4" 0x3F1B322A#32, Named.named κ "g5" 0x3F475941#32,
    Named.named κ "g6" 0x3F61E98D#32, Named.named κ "g7" 0x3F707CE8#32]

/-- The state after a block: the decayed state before it, plus the block's decayed keys times its values. -/
def stNext (g : F .f32) (S : FVec F S128x128 .f32) (k v : Vec F S256x128 .bf16) (kd : Vec F S256x128 .f32) :
    FVec F S128x128 .f32 :=
  addf (mulf (broadcast S128x128 g) S)
    (matmul dot_S256x128_S256x128_S128x128_0_0_1_1_n_n none
      (truncf .bf16 (mulf (extf .f32 k bitsLt_bf16_f32) (shapeCast S256x128 kd shapeCasts_S256x128_S256x128))
        bitsLt_bf16_f32) v (constant S128x128 .f32 0x00000000#32))

/-- The block's retention: its own scores times its values, plus its queries times the state, decayed. -/
def yOf (S : FVec F S128x128 .f32) (q k v : Vec F S256x128 .bf16) (dec : Vec F S1x256x256 .f32)
    (qd : Vec F S256x128 .f32) : FVec F S256x128 .f32 :=
  addf
    (matmul dot_S256x256_S256x128_S256x128_1_0_0_1_n_n none
      (truncf .bf16
        (mulf (matmul dot_S256x128_S256x128_S256x256_1_1_0_0_n_n none q k (constant S256x256 .f32 0x00000000#32))
          (shapeCast S256x256 dec shapeCasts_S1x256x256_S256x256)) bitsLt_bf16_f32) v
      (constant S256x128 .f32 0x00000000#32))
    (mulf
      (matmul dot_S256x128_S128x128_S256x128_1_0_0_1_n_n none q (truncf .bf16 S bitsLt_bf16_f32)
        (constant S256x128 .f32 0x00000000#32))
      (shapeCast S256x128 qd shapeCasts_S256x128_S256x128))

/-- A row's mean over the head's 128 columns, on every column. -/
def rowMean (y : FVec F S256x128 .f32) : FVec F S256x1 .f32 :=
  divf (shapeCast S256x1 (multiReduction .add [1] S256 y 0x00000000#32 reduces_S256x128_S256 (.inl rfl) rfl)
    shapeCasts_S256_S256x1) (broadcast S256x1 (Scalar.ofBits .f32 0x43000000#32))

/-- The block with its rows' means taken off. -/
def centred (y : FVec F S256x128 .f32) : FVec F S256x128 .f32 :=
  subf y (broadcastTo S256x128 (rowMean y) broadcasts_S256x1_S256x128)

/-- The output rows: the normed retention with its gain, times the gate's swish. -/
def outOf (y : FVec F S256x128 .f32) (gn : Vec F S1x128 .f32) (gate : Vec F S256x128 .bf16) : FVec F S256x128 .bf16 :=
  truncf .bf16
    (mulf
      (mulf (extf .f32 gate bitsLt_bf16_f32)
        (addf (broadcast S256x128 (Scalar.ofBits .f32 0x3F000000#32))
          (mulf (broadcast S256x128 (Scalar.ofBits .f32 0x3F000000#32))
            (tanh (mulf (broadcast S256x128 (Scalar.ofBits .f32 0x3F000000#32)) (extf .f32 gate bitsLt_bf16_f32))))))
      (mulf
        (mulf (centred y)
          (broadcastTo S256x128
            (rsqrt (addf (rowMean (mulf (centred y) (centred y)))
              (broadcast S256x1 (Scalar.ofBits .f32 0x3727C5AC#32)))) broadcasts_S256x1_S256x128))
        (broadcastTo S256x128 (shapeCast S1x128 gn shapeCasts_S1x128_S1x128) broadcasts_S1x128_S256x128)))
    bitsLt_bf16_f32

/-! The rectangles a head and a block read and write. -/

theorem inb_rows (h : Fin 8) (b : Fin 4) :
    ∀ a, (![256 * b.val, 128 * h.val] : Fin 2 → ℕ) a + S256x128.size a ≤ S1024x1024.size a := by
  intro a; have := h.isLt; have := b.isLt
  fin_cases a
  · show 256 * b.val + 256 ≤ 1024; omega
  · show 128 * h.val + 128 ≤ 1024; omega

theorem inb_head (h : Fin 8) :
    ∀ a, (![0, 128 * h.val] : Fin 2 → ℕ) a + S256x128.size a ≤ S256x1024.size a := by
  intro a; have := h.isLt
  fin_cases a
  · show 0 + 256 ≤ 256; omega
  · show 128 * h.val + 128 ≤ 1024; omega

theorem inb_gain (h : Fin 8) :
    ∀ a, (![0, 128 * h.val] : Fin 2 → ℕ) a + S1x128.size a ≤ S1x1024.size a := by
  intro a; have := h.isLt
  fin_cases a
  · show 0 + 1 ≤ 1; omega
  · show 128 * h.val + 128 ≤ 1024; omega

theorem inb_table (h : Fin 8) :
    ∀ a, (![h.val, 0, 0] : Fin 3 → ℕ) a + S1x256x256.size a ≤ S8x256x256.size a := by
  intro a; have := h.isLt
  fin_cases a
  · show h.val + 1 ≤ 8; omega
  · show 0 + 256 ≤ 256; omega
  · show 0 + 256 ≤ 256; omega

theorem inb_state (h : Fin 8) :
    ∀ a, (![h.val, 0, 0] : Fin 3 → ℕ) a + S1x128x128.size a ≤ S8x128x128.size a := by
  intro a; have := h.isLt
  fin_cases a
  · show h.val + 1 ≤ 8; omega
  · show 0 + 128 ≤ 128; omega
  · show 0 + 128 ≤ 128; omega

/-- Block `b`'s rows of head `h`'s columns. -/
abbrev rRows (h : Fin 8) (b : Fin 4) : Rect S1024x1024 := Rect.unit ![256 * b.val, 128 * h.val] S256x128.size (inb_rows h b)
abbrev rHead (h : Fin 8) : Rect S256x1024 := Rect.unit ![0, 128 * h.val] S256x128.size (inb_head h)
abbrev rGain (h : Fin 8) : Rect S1x1024 := Rect.unit ![0, 128 * h.val] S1x128.size (inb_gain h)
abbrev rTable (h : Fin 8) : Rect S8x256x256 := Rect.unit ![h.val, 0, 0] S1x256x256.size (inb_table h)
abbrev rState (h : Fin 8) : Rect S8x128x128 := Rect.unit ![h.val, 0, 0] S1x128x128.size (inb_state h)

/-- What a grid step loads, by head and block. -/
structure Loads (F : FTy → Type) [FloatOps F] where
  q : Fin 8 → Fin 4 → Vec F S256x128 .bf16
  k : Fin 8 → Fin 4 → Vec F S256x128 .bf16
  v : Fin 8 → Fin 4 → Vec F S256x128 .bf16
  gate : Fin 8 → Fin 4 → Vec F S256x128 .bf16
  dec : Fin 8 → Vec F S1x256x256 .f32
  qd : Fin 8 → Vec F S256x128 .f32
  kd : Fin 8 → Vec F S256x128 .f32
  gn : Fin 8 → Vec F S1x128 .f32

variable (L : Loads F)

/-- Head `h`'s state after `n` blocks of the step, from the state `s` it starts from. -/
def st (h : Fin 8) (s : Vec F S1x128x128 .f32) : ℕ → FVec F S128x128 .f32
  | 0 => shapeCast S128x128 s shapeCasts_S1x128x128_S128x128
  | n + 1 => stNext (gam h) (st h s n) (L.k h (Fin.ofNat 4 n)) (L.v h (Fin.ofNat 4 n)) (L.kd h)

/-- The rows head `h` writes for block `b`. -/
def ob (h : Fin 8) (s : Vec F S1x128x128 .f32) (b : Fin 4) : Vec F S256x128 .bf16 :=
  outOf (yOf (st L h s b.val) (L.q h b) (L.k h b) (L.v h b) (L.dec h) (L.qd h)) (L.gn h) (L.gate h b)

/-- The piece of output. -/
def oPiece (h : Fin 8) (s : Vec F S1x128x128 .f32) (b : Fin 4) : View.Piece (Elt F) S1024x1024 .bf16 :=
  ⟨rRows h b, ob L h s b⟩

/-- The piece of carried state. -/
def sPiece (h : Fin 8) (s : Vec F S1x128x128 .f32) : View.Piece (Elt F) S8x128x128 .f32 :=
  ⟨rState h, shapeCast S1x128x128 (st L h s 4) shapeCasts_S128x128_S1x128x128⟩

/-- Every piece of output of a step whose heads start from the states `s`, the last stored first. -/
def oPieces (s : Fin 8 → Vec F S1x128x128 .f32) : List (View.Piece (Elt F) S1024x1024 .bf16) :=
  [oPiece L 7 (s 7) 3, oPiece L 7 (s 7) 2, oPiece L 7 (s 7) 1, oPiece L 7 (s 7) 0,
   oPiece L 6 (s 6) 3, oPiece L 6 (s 6) 2, oPiece L 6 (s 6) 1, oPiece L 6 (s 6) 0,
   oPiece L 5 (s 5) 3, oPiece L 5 (s 5) 2, oPiece L 5 (s 5) 1, oPiece L 5 (s 5) 0,
   oPiece L 4 (s 4) 3, oPiece L 4 (s 4) 2, oPiece L 4 (s 4) 1, oPiece L 4 (s 4) 0,
   oPiece L 3 (s 3) 3, oPiece L 3 (s 3) 2, oPiece L 3 (s 3) 1, oPiece L 3 (s 3) 0,
   oPiece L 2 (s 2) 3, oPiece L 2 (s 2) 2, oPiece L 2 (s 2) 1, oPiece L 2 (s 2) 0,
   oPiece L 1 (s 1) 3, oPiece L 1 (s 1) 2, oPiece L 1 (s 1) 1, oPiece L 1 (s 1) 0,
   oPiece L 0 (s 0) 3, oPiece L 0 (s 0) 2, oPiece L 0 (s 0) 1, oPiece L 0 (s 0) 0]

/-- The piece that sets every head's state to zero. -/
def zPiece : View.Piece (Elt F) S8x128x128 .f32 :=
  ⟨Rect.unit ![0, 0, 0] S8x128x128.size inb_S8x128x128_S8x128x128_0_0_0, k0_pay3⟩

/-- The pieces of state stored by the first `n` heads of a step that resets it, the last stored first; head `n` starts
    from what it reads of them. -/
def resetPieces (w : View sig .tc .vmem S8x128x128 .f32) : ℕ → List (View.Piece (Elt F) S8x128x128 .f32)
  | 0 => [zPiece]
  | n + 1 => sPiece L (Fin.ofNat 8 n) (View.readCov w (resetPieces w n) (rState (Fin.ofNat 8 n)).toLoadRect) :: resetPieces w n

/-- The state head `h` starts from in a step that resets it. -/
def resetState (w : View sig .tc .vmem S8x128x128 .f32) (h : Fin 8) : Vec F S1x128x128 .f32 :=
  View.readCov w (resetPieces L w h.val) (rState h).toLoadRect

section Runs

variable (c : Dev nD) (i : grid0.Coords) (arg1 : Memref sig .tc .vmem S1024x1024 .bf16) (harg1 : arg1.IsWhole) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S8x256x256 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S8x128x128 .f32) (harg10 : arg10.IsWhole)
  (x0 x1 x2 x3 : Vec F S1024x1024 .bf16) (x4 : Vec F S8x256x256 .f32) (x5 x6 : Vec F S256x1024 .f32) (x7 : Vec F S1x1024 .f32)

/-- The loads of a step, read from the buffers. -/
def bufLoads : Loads F where
  q h b := View.readAt (Elt F) arg1.view (rRows h b).toLoadRect (harg1.unread x0)
  k h b := View.readAt (Elt F) arg2.view (rRows h b).toLoadRect (harg2.unread x1)
  v h b := View.readAt (Elt F) arg3.view (rRows h b).toLoadRect (harg3.unread x2)
  gate h b := View.readAt (Elt F) arg4.view (rRows h b).toLoadRect (harg4.unread x3)
  dec h := View.readAt (Elt F) arg5.view (rTable h).toLoadRect (harg5.unread x4)
  qd h := View.readAt (Elt F) arg6.view (rHead h).toLoadRect (harg6.unread x5)
  kd h := View.readAt (Elt F) arg7.view (rHead h).toLoadRect (harg7.unread x6)
  gn h := View.readAt (Elt F) arg8.view (rGain h).toLoadRect (harg8.unread x7)

/-- The loads of a step, of the blocks' contents. -/
def blockLoads : Loads F where
  q h b := View.ld x0 (rRows h b)
  k h b := View.ld x1 (rRows h b)
  v h b := View.ld x2 (rRows h b)
  gate h b := View.ld x3 (rRows h b)
  dec h := View.ld x4 (rTable h)
  qd h := View.ld x5 (rHead h)
  kd h := View.ld x6 (rHead h)
  gn h := View.ld x7 (rGain h)

theorem bufLoads_eq : bufLoads arg1 harg1 arg2 harg2 arg3 harg3 arg4 harg4 arg5 harg5 arg6 harg6 arg7 harg7 arg8 harg8 x0 x1 x2 x3 x4 x5 x6 x7 = blockLoads x0 x1 x2 x3 x4 x5 x6 x7 := by
  unfold bufLoads blockLoads
  simp only [View.readAt_eq_ld, harg1.read_unread, harg2.read_unread, harg3.read_unread, harg4.read_unread,
    harg5.read_unread, harg6.read_unread, harg7.read_unread, harg8.read_unread]

/-- A step that carries the state: its pieces of state. -/
theorem carry_state (hc0 : ¬cond0_0 i) (xs0 : Vec F S8x128x128 .f32) :
    (kernelRun0_B c i arg1 harg1 arg2 harg2 arg3 harg3 arg4 harg4 arg5 harg5 arg6 harg6 arg7 harg7 arg8 harg8 arg9 harg9 arg10 harg10 hc0 x0 x1 x2 x3 x4 x5 x6 x7 xs0).2.1
      = (let L := bufLoads arg1 harg1 arg2 harg2 arg3 harg3 arg4 harg4 arg5 harg5 arg6 harg6 arg7 harg7 arg8 harg8 x0 x1 x2 x3 x4 x5 x6 x7
         let s := fun h => View.readAt (Elt F) arg10.view (rState h).toLoadRect (harg10.unread xs0)
         [sPiece L 7 (s 7), sPiece L 6 (s 6), sPiece L 5 (s 5), sPiece L 4 (s 4), sPiece L 3 (s 3), sPiece L 2 (s 2), sPiece L 1 (s 1), sPiece L 0 (s 0)]) := by
  sl_kernel_rfl

/-- A step that carries the state: its pieces of output. -/
theorem carry_out (hc0 : ¬cond0_0 i) (xs0 : Vec F S8x128x128 .f32) :
    (kernelRun0_B c i arg1 harg1 arg2 harg2 arg3 harg3 arg4 harg4 arg5 harg5 arg6 harg6 arg7 harg7 arg8 harg8 arg9 harg9 arg10 harg10 hc0 x0 x1 x2 x3 x4 x5 x6 x7 xs0).1
      = oPieces (bufLoads arg1 harg1 arg2 harg2 arg3 harg3 arg4 harg4 arg5 harg5 arg6 harg6 arg7 harg7 arg8 harg8 x0 x1 x2 x3 x4 x5 x6 x7)
         (fun h => View.readAt (Elt F) arg10.view (rState h).toLoadRect (harg10.unread xs0)) := by
  sl_kernel_rfl

/-- A step that resets the state: its pieces of state. -/
theorem reset_state (hc0 : cond0_0 i) :
    (kernelRun0_A c i arg1 harg1 arg2 harg2 arg3 harg3 arg4 harg4 arg5 harg5 arg6 harg6 arg7 harg7 arg8 harg8 arg9 harg9 arg10 harg10 hc0 x0 x1 x2 x3 x4 x5 x6 x7).2.1
      = resetPieces (bufLoads arg1 harg1 arg2 harg2 arg3 harg3 arg4 harg4 arg5 harg5 arg6 harg6 arg7 harg7 arg8 harg8 x0 x1 x2 x3 x4 x5 x6 x7) arg10.view 8 := by
  sl_kernel_rfl

/-- A step that resets the state: its pieces of output. -/
theorem reset_out (hc0 : cond0_0 i) :
    (kernelRun0_A c i arg1 harg1 arg2 harg2 arg3 harg3 arg4 harg4 arg5 harg5 arg6 harg6 arg7 harg7 arg8 harg8 arg9 harg9 arg10 harg10 hc0 x0 x1 x2 x3 x4 x5 x6 x7).1
      = oPieces (bufLoads arg1 harg1 arg2 harg2 arg3 harg3 arg4 harg4 arg5 harg5 arg6 harg6 arg7 harg7 arg8 harg8 x0 x1 x2 x3 x4 x5 x6 x7)
         (resetState (bufLoads arg1 harg1 arg2 harg2 arg3 harg3 arg4 harg4 arg5 harg5 arg6 harg6 arg7 harg7 arg8 harg8 x0 x1 x2 x3 x4 x5 x6 x7) arg10.view) := by
  sl_kernel_rfl

end Runs

end Cert.Proof.Blocks

end
-- ==== Proof.RetMath.lean ====
/- Retention over the reals: the state after `N` rows, how it goes on over the next rows, and that a block of 256 rows
   with its own masked scores gives what chunks of 64 rows give. -/
module

public import Idealize.ShloMosaic.PureOps.Ideal
public import Mathlib.Algebra.BigOperators.Intervals
public import Mathlib.Tactic.Ring

@[expose] public section

noncomputable section

namespace Cert.Proof.RetMath

open Finset

variable {D E : Type} [Fintype D]

/-- The distance of two rows. -/
def dst (i j : ℕ) : ℕ := (i - j) + (j - i)

theorem abs_cast (i j : ℕ) : |(i : ℝ) - (j : ℝ)| = (dst i j : ℝ) := by
  unfold dst
  rcases le_total i j with h | h
  · rw [Nat.sub_eq_zero_of_le h, Nat.zero_add, Nat.cast_sub h, abs_sub_comm, abs_of_nonneg]
    exact sub_nonneg.mpr (Nat.cast_le.mpr h)
  · rw [Nat.sub_eq_zero_of_le h, Nat.add_zero, Nat.cast_sub h, abs_of_nonneg]
    exact sub_nonneg.mpr (Nat.cast_le.mpr h)

/-- The state after `N` rows: every key times its value, decayed to the last row. -/
def S (γ : ℝ) (k : ℕ → D → ℝ) (v : ℕ → E → ℝ) (N : ℕ) (d : D) (e : E) : ℝ :=
  ∑ m ∈ range N, (k m d * γ ^ (N - 1 - m)) * v m e

theorem S_zero (γ : ℝ) (k : ℕ → D → ℝ) (v : ℕ → E → ℝ) (d : D) (e : E) : S γ k v 0 d e = 0 := by
  simp [S]

theorem S_add (γ : ℝ) (k : ℕ → D → ℝ) (v : ℕ → E → ℝ) (N L : ℕ) (d : D) (e : E) :
    S γ k v (N + L) d e = γ ^ L * S γ k v N d e + ∑ j ∈ range L, (k (N + j) d * γ ^ (L - 1 - j)) * v (N + j) e := by
  unfold S
  rw [sum_range_add, mul_sum]
  congr 1
  · refine sum_congr rfl fun m hm => ?_
    have hm := mem_range.mp hm
    rw [show N + L - 1 - m = L + (N - 1 - m) by omega, pow_add]
    ring
  · refine sum_congr rfl fun m hm => ?_
    have hm := mem_range.mp hm
    rw [show N + L - 1 - (N + m) = L - 1 - m by omega]

/-- The mask and decay of a block's own scores. -/
def dec (γ : ℝ) (i j : ℕ) : ℝ := if j / 64 ≤ i / 64 then γ ^ dst i j else 0

/-- What a block of 256 rows gives at its row `64 * a + i`. -/
def yBlock (γ : ℝ) (q : D → ℝ) (k : ℕ → D → ℝ) (v : ℕ → E → ℝ) (N i : ℕ) (e : E) : ℝ :=
  (∑ j ∈ range 256, ((∑ d, q d * k (N + j) d) * dec γ i j) * v (N + j) e) + (∑ d, q d * S γ k v N d e) * γ ^ (i + 1)

/-- What a chunk of 64 rows gives at its row `i`. -/
def yChunk (γ : ℝ) (q : D → ℝ) (k : ℕ → D → ℝ) (v : ℕ → E → ℝ) (M i : ℕ) (e : E) : ℝ :=
  (∑ j ∈ range 64, ((∑ d, q d * k (M + j) d) * γ ^ dst i j) * v (M + j) e) + ∑ d, (q d * γ ^ (i + 1)) * S γ k v M d e

theorem block_eq_chunk (γ : ℝ) (q : D → ℝ) (k : ℕ → D → ℝ) (v : ℕ → E → ℝ) (N a i : ℕ) (ha : a < 4) (hi : i < 64) (e : E) :
    yBlock γ q k v N (64 * a + i) e = yChunk γ q k v (N + 64 * a) i e := by
  unfold yBlock yChunk
  obtain ⟨r, hr⟩ : ∃ r, 256 = 64 * a + (64 + r) := ⟨256 - 64 * a - 64, by omega⟩
  rw [hr, sum_range_add, sum_range_add]
  have h1 : ∑ j ∈ range (64 * a), ((∑ d, q d * k (N + j) d) * dec γ (64 * a + i) j) * v (N + j) e
      = γ ^ (i + 1) * ∑ d, q d * ∑ j ∈ range (64 * a), (k (N + j) d * γ ^ (64 * a - 1 - j)) * v (N + j) e := by
    simp only [mul_sum, sum_mul]
    rw [sum_comm]
    refine sum_congr rfl fun d _ => sum_congr rfl fun j hj => ?_
    have hj := mem_range.mp hj
    have hd : dec γ (64 * a + i) j = γ ^ (i + 1) * γ ^ (64 * a - 1 - j) := by
      unfold dec dst
      rw [if_pos (by omega), ← pow_add]
      congr 1
      omega
    rw [hd]
    ring
  have h2 : ∑ j ∈ range 64, ((∑ d, q d * k (N + (64 * a + j)) d) * dec γ (64 * a + i) (64 * a + j)) * v (N + (64 * a + j)) e
      = ∑ j ∈ range 64, ((∑ d, q d * k (N + 64 * a + j) d) * γ ^ dst i j) * v (N + 64 * a + j) e := by
    refine sum_congr rfl fun j hj => ?_
    have hj := mem_range.mp hj
    have hd : dec γ (64 * a + i) (64 * a + j) = γ ^ dst i j := by
      unfold dec dst
      rw [if_pos (by omega)]
      congr 1
      omega
    rw [hd, Nat.add_assoc]
  have h3 : ∑ j ∈ range r, ((∑ d, q d * k (N + (64 * a + (64 + j))) d) * dec γ (64 * a + i) (64 * a + (64 + j)))
      * v (N + (64 * a + (64 + j))) e = 0 := by
    refine sum_eq_zero fun j _ => ?_
    have hd : dec γ (64 * a + i) (64 * a + (64 + j)) = 0 := by
      unfold dec
      rw [if_neg (by omega)]
    rw [hd]
    ring
  rw [h1, h2, h3]
  have h4 : ∑ d, (q d * γ ^ (i + 1)) * S γ k v (N + 64 * a) d e
      = (∑ d, q d * S γ k v N d e) * γ ^ (64 * a + i + 1)
        + γ ^ (i + 1) * ∑ d, q d * ∑ j ∈ range (64 * a), (k (N + j) d * γ ^ (64 * a - 1 - j)) * v (N + j) e := by
    simp only [S_add]
    rw [sum_mul, mul_sum, ← sum_add_distrib]
    refine sum_congr rfl fun d _ => ?_
    rw [show 64 * a + i + 1 = (i + 1) + 64 * a by omega, pow_add]
    ring
  rw [h4]
  ring

end Cert.Proof.RetMath

end
-- ==== Proof.RetTables.lean ====
/- The retention kernel's three tables of decay, read at an index. -/
module

public import proofs.«01_k».proof.Proof.Gen.KernelIdeal.Frame
public import proofs.«01_k».proof.Proof.RetMath
public import Idealize.ShloMosaic.Lib.Pointwise

@[expose] public section

set_option maxRecDepth 16384

noncomputable section

namespace Cert.Proof.RetTables

open Idealize.ShloMosaic Idealize.ShloMosaic.TcCoe Idealize.ShloMosaic.Tactic Cert.KernelIdeal Cert.KernelIdeal.Gen

variable (m : (ℓ : Loc nD τ sig) → Buf (Elt Ideal) ℓ) (c : Dev nD)

/-- A head's decay from one row to the next. -/
def gr (h : ℕ) : ℝ := 1 - 1 / 2 ^ (5 + h)

theorem gr_pos (h : ℕ) : 0 < gr h := by
  unfold gr
  have : (1 : ℝ) / 2 ^ (5 + h) ≤ 1 / 2 ^ 5 := by
    apply one_div_le_one_div_of_le (by norm_num)
    exact pow_le_pow_right₀ (by norm_num) (by omega)
  norm_num at this
  norm_num
  linarith

/-- A small counting number, as the kernel's tables have it. -/
theorem num (n : ℕ) (hn : n < 2 ^ 31) : (FloatOps.sitofp FTy.f32 (BitVec.ofNat 32 n) : Ideal .f32) = ((n : ℝ) : EReal) := by
  show (((BitVec.ofNat 32 n).toInt : ℝ) : EReal) = _
  rw [BitVec.toInt_eq_toNat_of_lt (by rw [BitVec.toNat_ofNat]; omega), BitVec.toNat_ofNat, Nat.mod_eq_of_lt (by omega)]
  norm_cast

theorem word_two : Ideal.ofBits .f32 0x40000000#32 = ((2 : ℝ) : EReal) := by
  simp [Ideal.ofBits, Ideal.ieee, -EReal.coe_mul]; norm_num
theorem word_five : Ideal.ofBits .f32 0x40A00000#32 = ((5 : ℝ) : EReal) := by
  simp [Ideal.ofBits, Ideal.ieee, -EReal.coe_mul]; norm_num
theorem word_255 : Ideal.ofBits .f32 0x437F0000#32 = ((255 : ℝ) : EReal) := by
  simp [Ideal.ofBits, Ideal.ieee, -EReal.coe_mul]; norm_num
theorem word_63 : Ideal.ofBits .f32 0x427C0000#32 = ((63 : ℝ) : EReal) := by
  simp [Ideal.ofBits, Ideal.ieee, -EReal.coe_mul]; norm_num
theorem word_64 : Ideal.ofBits .f32 0x42800000#32 = ((64 : ℝ) : EReal) := by
  simp [Ideal.ofBits, Ideal.ieee, -EReal.coe_mul]; norm_num

/-- The logarithm of a head's decay, as the tables compute it. -/
def lg (h : ℕ) : EReal :=
  Ideal.log1p (-Ideal.pow (Ideal.ofBits .f32 0x40000000#32)
    (-(Ideal.ofBits .f32 0x40A00000#32 + (FloatOps.sitofp FTy.f32 (BitVec.ofNat 32 h) : Ideal .f32))))

theorem lg_eq (h : ℕ) (hh : h < 8) : lg h = ((Real.log (gr h) : ℝ) : EReal) := by
  unfold lg
  rw [num h (by omega), word_two, word_five, ← EReal.coe_add, ← EReal.coe_neg]
  have e : Ideal.pow ((2 : ℝ) : EReal) ((-(5 + (h : ℝ)) : ℝ) : EReal) = ((1 / 2 ^ (5 + h) : ℝ) : EReal) := by
    show (((2 : ℝ) ^ (-(5 + (h : ℝ))) : ℝ) : EReal) = _
    rw [Real.rpow_neg (by norm_num), one_div]
    congr 2
    rw [← Real.rpow_natCast]
    push_cast
    rfl
  rw [e]
  unfold Ideal.log1p
  have e1 : (1 : EReal) + -((1 / 2 ^ (5 + h) : ℝ) : EReal) = ((gr h : ℝ) : EReal) := by
    rw [← EReal.coe_one, ← EReal.coe_neg, ← EReal.coe_add]; rfl
  rw [e1, Ideal.log_coe, if_neg (not_le.mpr (gr_pos h))]

/-- Its exponential, a number of times. -/
theorem exp_lg (h : ℕ) (hh : h < 8) (n : ℕ) : Ideal.exp (lg h * ((n : ℝ) : EReal)) = ((gr h ^ n : ℝ) : EReal) := by
  rw [lg_eq h hh, ← EReal.coe_mul, Ideal.exp_coe, mul_comm, Real.exp_nat_mul, Real.exp_log (gr_pos h)]

theorem q_table (r : Fin 256) (l : Fin 1024) :
    (V m c main_v48 : FVec Ideal S256x1024 .f32) (ix2 r l) = ((gr (l.val / 128) ^ (r.val + 1) : ℝ) : EReal) := by
  show StableHlo.after (List.flatten [hostOps0, hostOps0_1, hostOps0_2, hostOps0_3, hostOps0_4]) _ (main_v48 : Ref sig .tc) _ = _
  simp only [List.flatten_cons, List.flatten_nil, List.append_nil, List.cons_append, List.nil_append]
  after_results
  pointwise
  have e : (FloatOps.sitofp FTy.f32 (BitVec.ofNat 32 r.val) : Ideal .f32) + 1 = (((r.val + 1 : ℕ) : ℝ) : EReal) := by
    rw [num _ (by omega), Nat.cast_add, EReal.coe_add, Nat.cast_one, EReal.coe_one]
  exact (congrArg (fun a => Ideal.exp (lg (l.val / 128) * a)) e).trans (exp_lg _ (by omega) _)

theorem k_table (r : Fin 256) (l : Fin 1024) :
    (V m c main_v50 : FVec Ideal S256x1024 .f32) (ix2 r l) = ((gr (l.val / 128) ^ (255 - r.val) : ℝ) : EReal) := by
  show StableHlo.after (List.flatten [hostOps0, hostOps0_1, hostOps0_2, hostOps0_3, hostOps0_4]) _ (main_v50 : Ref sig .tc) _ = _
  simp only [List.flatten_cons, List.flatten_nil, List.append_nil, List.cons_append, List.nil_append]
  after_results
  pointwise
  have e : Ideal.ofBits .f32 0x437F0000#32 - (FloatOps.sitofp FTy.f32 (BitVec.ofNat 32 r.val) : Ideal .f32)
      = (((255 - r.val : ℕ) : ℝ) : EReal) := by
    rw [num _ (by omega), word_255, ← EReal.coe_sub, Nat.cast_sub (by omega)]
    norm_num
  exact (congrArg (fun a => Ideal.exp (lg (l.val / 128) * a)) e).trans (exp_lg _ (by omega) _)

/-- A row's chunk, as the kernel's tables count it. -/
def chunkWord (w : BitVec 32) : BitVec 32 :=
  Scalar.select
    (IntOp.andi
      (IntOp.cmpi CmpIPredicate.ne (if w = 0 then 0 else if w.msb = true then -1 else 1)
        (if 64#32 = 0 then 0 else if (64#32).msb = true then -1 else (1 : BitVec 32)))
      (IntOp.cmpi CmpIPredicate.ne (IntOp.remsi ArithUnit.host w 64#32) 0#32))
    (IntOp.subi (IntOp.divsi ArithUnit.host w 64#32) 1#32)
    (IntOp.divsi ArithUnit.host w 64#32)

theorem chunkWord_eq : ∀ r : Fin 256, chunkWord (BitVec.ofNat 32 r.val) = BitVec.ofNat 32 (r.val / 64) := by
  decide +kernel

theorem sees_eq : ∀ a b : Fin 4, IntOp.cmpi CmpIPredicate.sle (BitVec.ofNat 32 a.val) (BitVec.ofNat 32 b.val)
    = if a.val ≤ b.val then 1#1 else 0#1 := by decide +kernel

theorem abs_eq (r s : ℕ) (hr : r < 256) (hs : s < 256) :
    (FloatOps.absf (((FloatOps.sitofp FTy.f32 (BitVec.ofNat 32 r) : Ideal .f32) : EReal) - (FloatOps.sitofp FTy.f32 (BitVec.ofNat 32 s) : Ideal .f32) : Ideal .f32) : Ideal .f32)
      = ((RetMath.dst r s : ℝ) : EReal) := by
  rw [num r (by omega), num s (by omega), ← RetMath.abs_cast, ← EReal.coe_sub]
  generalize (r : ℝ) - (s : ℝ) = a
  show max (a : EReal) (-(a : EReal)) = _
  rw [← EReal.coe_neg, ← EReal.coe_strictMono.monotone.map_max]
  rfl

theorem d_table (h : Fin 8) (r s : Fin 256) :
    (V m c main_v30 : FVec Ideal S8x256x256 .f32) (ix3 h r s) = ((RetMath.dec (gr h.val) r.val s.val : ℝ) : EReal) := by
  show StableHlo.after (List.flatten [hostOps0, hostOps0_1, hostOps0_2, hostOps0_3, hostOps0_4]) _ (main_v30 : Ref sig .tc) _ = _
  simp only [List.flatten_cons, List.flatten_nil, List.append_nil, List.cons_append, List.nil_append]
  after_results
  simp only [StableHlo.TRef.ofBuf_toBuf]
  simp only [StableHlo.TRef.ofBuf, StableHlo.TRef.toBuf, StableHlo.TRef.of, id, cast_eq]
  pointwise
  have e := abs_eq r.val s.val r.isLt s.isLt
  have v : IntOp.cmpi CmpIPredicate.sle (chunkWord (BitVec.ofNat 32 s.val)) (chunkWord (BitVec.ofNat 32 r.val))
      = if s.val / 64 ≤ r.val / 64 then 1#1 else 0#1 := by
    rw [chunkWord_eq, chunkWord_eq]
    exact sees_eq ⟨s.val / 64, by omega⟩ ⟨r.val / 64, by omega⟩
  refine (congrArg₂ (fun (b : BitVec 1) (x : EReal) => Scalar.select (α := EReal) b (Ideal.exp (lg h.val * x)) 0) v e).trans ?_
  rw [exp_lg _ (by omega)]
  unfold RetMath.dec
  split <;> rfl

end Cert.Proof.RetTables
end
-- ==== Proof.RetRead.lean ====
/- One head's work on a block of 256 rows of the retention kernel, read at an index over the extended reals. -/
module

public import proofs.«01_k».proof.Proof.Blocks
public import proofs.«01_k».proof.Proof.RetTables
public import Idealize.ShloMosaic.Lib.Pointwise

@[expose] public section

set_option maxRecDepth 16384

noncomputable section

namespace Cert.Proof.RetRead

open Idealize.ShloMosaic Idealize.ShloMosaic.TcCoe Idealize.ShloMosaic.Tactic Cert.KernelIdeal Cert.KernelIdeal.Gen
open Cert.Proof.Blocks

theorem stNext_apply (g : Ideal .f32) (S : FVec Ideal S128x128 .f32) (k v : Vec Ideal S256x128 .bf16) (kd : Vec Ideal S256x128 .f32)
    (d e : Fin 128) :
    stNext (F := Ideal) g S k v kd (ix2 d e)
      = g * S (ix2 d e) + ∑ x : Fin 256, k (ix2 x d) * kd (ix2 x d) * v (ix2 x e) := by
  pointwise [stNext]

theorem yOf_apply (S : FVec Ideal S128x128 .f32) (q k v : Vec Ideal S256x128 .bf16) (dec : Vec Ideal S1x256x256 .f32)
    (qd : Vec Ideal S256x128 .f32) (i : Fin 256) (e : Fin 128) :
    yOf (F := Ideal) S q k v dec qd (ix2 i e)
      = ∑ j : Fin 256, (∑ d : Fin 128, q (ix2 i d) * k (ix2 j d)) * dec (ix3 0 i j) * v (ix2 j e)
        + (∑ d : Fin 128, q (ix2 i d) * S (ix2 d e)) * qd (ix2 i e) := by
  pointwise [yOf]

/-- The mean over a head's columns. -/
def mean (y : Fin 128 → EReal) : EReal := Ideal.div (∑ e, y e) (Ideal.ofBits .f32 0x43000000#32)

/-- A row of a head, normed. -/
def normed (y : Fin 128 → EReal) (e : Fin 128) : EReal :=
  (y e - mean y) * Ideal.rsqrt (mean (fun j => (y j - mean y) * (y j - mean y)) + Ideal.ofBits .f32 0x3727C5AC#32)

/-- The gate's swish. -/
def swish (g : EReal) : EReal := g * Ideal.div 1 (1 + Ideal.exp (-g))

theorem word_half : Ideal.ofBits .f32 0x3F000000#32 = ((1 / 2 : ℝ) : EReal) := by
  simp [Ideal.ofBits, Ideal.ieee, -EReal.coe_mul]; norm_num

/-- The kernel's swish, by the hyperbolic tangent, is the swish. -/
theorem swish_tanh (g : EReal) :
    g * (Ideal.ofBits .f32 0x3F000000#32 + Ideal.ofBits .f32 0x3F000000#32 * Ideal.tanh (Ideal.ofBits .f32 0x3F000000#32 * g)) = swish g := by
  unfold swish
  rw [word_half]
  induction g with
  | bot =>
    rw [EReal.coe_mul_bot_of_pos (by norm_num), Ideal.tanh_bot, EReal.neg_bot]
    have e1 : ((1 / 2 : ℝ) : EReal) + ((1 / 2 : ℝ) : EReal) * (-1) = 0 := by
      rw [← EReal.coe_one, ← EReal.coe_neg, ← EReal.coe_mul, ← EReal.coe_add]; norm_num
    have e2 : Ideal.div 1 (1 + Ideal.exp ⊤) = 0 := by
      rw [Ideal.exp_top, ← EReal.coe_one, EReal.coe_add_top]
      unfold Ideal.div
      rw [if_neg (by simp)]
      simp
    rw [e1, e2]
  | top =>
    rw [EReal.coe_mul_top_of_pos (by norm_num), Ideal.tanh_top, EReal.neg_top, Ideal.exp_bot]
    have e1 : ((1 / 2 : ℝ) : EReal) + ((1 / 2 : ℝ) : EReal) * 1 = 1 := by
      rw [← EReal.coe_one, ← EReal.coe_mul, ← EReal.coe_add]; norm_num
    have e2 : Ideal.div 1 (1 + 0) = 1 := by
      unfold Ideal.div
      rw [add_zero, if_neg one_ne_zero]
      rw [← EReal.coe_one, ← EReal.coe_inv, ← EReal.coe_mul]; norm_num
    rw [e1, e2]
  | coe g =>
    have hp : 0 < 1 + Real.exp (-g) := by positivity
    rw [← EReal.coe_mul, Ideal.tanh_coe, ← EReal.coe_mul, ← EReal.coe_add, ← EReal.coe_neg, Ideal.exp_coe, ← EReal.coe_one,
      ← EReal.coe_add]
    unfold Ideal.div
    rw [if_neg (fun h => hp.ne' (EReal.coe_eq_zero.mp h)), ← EReal.coe_inv, ← EReal.coe_mul, ← EReal.coe_mul, ← EReal.coe_mul]
    congr 2
    rw [Real.tanh_eq_sinh_div_cosh, Real.sinh_eq, Real.cosh_eq, one_mul]
    have e : Real.exp (1 / 2 * g) = Real.exp (-(1 / 2 * g)) * Real.exp g := by rw [← Real.exp_add]; congr 1; ring
    have e' : Real.exp (-g) * Real.exp g = 1 := by rw [← Real.exp_add]; simp
    have hq := Real.exp_pos (-(1 / 2 * g))
    have hg := Real.exp_pos g
    have hn := Real.exp_pos (-g)
    rw [e]
    generalize Real.exp (-(1 / 2 * g)) = a at *
    generalize Real.exp g = b at *
    generalize Real.exp (-g) = c at *
    field_simp
    nlinarith

theorem outOf_apply (y : FVec Ideal S256x128 .f32) (gn : Vec Ideal S1x128 .f32) (gate : Vec Ideal S256x128 .bf16) (i : Fin 256) (e : Fin 128) :
    outOf (F := Ideal) y gn gate (ix2 i e) = swish (gate (ix2 i e)) * (normed (fun j => y (ix2 i j)) e * gn (ix2 0 e)) := by
  rw [← swish_tanh]
  pointwise [outOf, centred, rowMean, normed, mean]

end Cert.Proof.RetRead
end
-- ==== Proof.RetStep.lean ====
/- What one grid step of the retention kernel leaves: its stored pieces, put together. -/
module

public import proofs.«01_k».proof.Proof.Blocks
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Proof.RetStep

open Idealize.ShloMosaic Idealize.ShloMosaic.TcCoe Idealize.ShloMosaic.Tactic Cert.KernelIdeal Cert.KernelIdeal.Gen
open Cert.Proof.Blocks

variable {F : FTy → Type} [FloatOps F] [Named F] (L : Loads F)

/-- The step's output rows, each from its head and block. -/
def oG (s : Fin 8 → Vec F S1x128x128 .f32) : Vec F S1024x1024 .bf16 := fun y =>
  ob L (⟨(y 1).val / 128, by have : (y 1).val < 1024 := (y 1).isLt; omega⟩ : Fin 8)
    (s ⟨(y 1).val / 128, by have : (y 1).val < 1024 := (y 1).isLt; omega⟩)
    (⟨(y 0).val / 256, by have : (y 0).val < 1024 := (y 0).isLt; omega⟩ : Fin 4)
    (ix2 ⟨(y 0).val % 256, Nat.mod_lt _ (by decide)⟩ ⟨(y 1).val % 128, Nat.mod_lt _ (by decide)⟩)

theorem oPiece_at (s : Fin 8 → Vec F S1x128x128 .f32) (h : Fin 8) (b : Fin 4) (x : (oPiece L h (s h) b).1.shape.Idx) :
    (oPiece L h (s h) b).2 x = oG L s ((oPiece L h (s h) b).1.emb x) := by
  obtain ⟨i, e, rfl⟩ : ∃ (i : Fin 256) (e : Fin 128), x = ix2 i e := ⟨x 0, x 1, eq_ix2 x⟩
  have e0 : (((oPiece L h (s h) b).1.emb (ix2 i e)) 0).val = 256 * b.val + i.val := by
    show 256 * b.val + 1 * i.val = _; omega
  have e1 : (((oPiece L h (s h) b).1.emb (ix2 i e)) 1).val = 128 * h.val + e.val := by
    show 128 * h.val + 1 * e.val = _; omega
  have hh : (⟨(((oPiece L h (s h) b).1.emb (ix2 i e)) 1).val / 128, by rw [e1]; omega⟩ : Fin 8) = h := by
    apply Fin.ext; show _ / 128 = _; rw [e1]; omega
  have hb : (⟨(((oPiece L h (s h) b).1.emb (ix2 i e)) 0).val / 256, by rw [e0]; omega⟩ : Fin 4) = b := by
    apply Fin.ext; show _ / 256 = _; rw [e0]; omega
  have hi : (⟨(((oPiece L h (s h) b).1.emb (ix2 i e)) 0).val % 256, Nat.mod_lt _ (by decide)⟩ : Fin 256) = i := by
    apply Fin.ext; show _ % 256 = _; rw [e0]; omega
  have he : (⟨(((oPiece L h (s h) b).1.emb (ix2 i e)) 1).val % 128, Nat.mod_lt _ (by decide)⟩ : Fin 128) = e := by
    apply Fin.ext; show _ % 128 = _; rw [e1]; omega
  show ob L h (s h) b (ix2 i e) = _
  unfold oG
  rw [hh, hb, hi, he]

theorem mem_oPieces (s : Fin 8 → Vec F S1x128x128 .f32) (p) : p ∈ oPieces L s ↔ ∃ h b, p = oPiece L h (s h) b := by
  constructor
  · intro hp
    simp only [oPieces, List.mem_cons, List.not_mem_nil, or_false] at hp
    rcases hp with h | h | h | h | h | h | h | h | h | h | h | h | h | h | h | h | h | h | h | h | h | h | h | h | h | h | h | h | h | h | h | h <;>
      exact ⟨_, _, h⟩
  · rintro ⟨h, b, rfl⟩
    simp only [oPieces, List.mem_cons, List.not_mem_nil, or_false]
    fin_cases h <;> fin_cases b <;> simp

theorem canon_out (s : Fin 8 → Vec F S1x128x128 .f32) : View.canon (oPieces L s) = oG L s := by
  funext y
  refine View.canon_apply_of_pieces (oG L s) _ ?_ y ?_
  · intro p hp
    obtain ⟨h, b, rfl⟩ := (mem_oPieces L s p).mp hp
    exact oPiece_at L s h b
  · have h0 : (y 0).val < 1024 := (y 0).isLt
    have h1 : (y 1).val < 1024 := (y 1).isLt
    refine ⟨_, (mem_oPieces L s _).mpr ⟨⟨(y 1).val / 128, by omega⟩, ⟨(y 0).val / 256, by omega⟩, rfl⟩, ?_⟩
    refine (Rect.mem_set_unit (inb := inb_rows ⟨(y 1).val / 128, by omega⟩ ⟨(y 0).val / 256, by omega⟩)).mpr fun a => ?_
    match a with
    | ⟨0, _⟩ => show 256 * ((y 0).val / 256) ≤ (y 0).val ∧ (y 0).val < 256 * ((y 0).val / 256) + 256; omega
    | ⟨1, _⟩ => show 128 * ((y 1).val / 128) ≤ (y 1).val ∧ (y 1).val < 128 * ((y 1).val / 128) + 128; omega

/-- The carried state, each head's after its four blocks. -/
def sG (s : Fin 8 → Vec F S1x128x128 .f32) : Vec F S8x128x128 .f32 := fun y => st L (y 0) (s (y 0)) 4 (ix2 (y 1) (y 2))

theorem sPiece_at (s : Fin 8 → Vec F S1x128x128 .f32) (h : Fin 8) (x : (sPiece L h (s h)).1.shape.Idx) :
    (sPiece L h (s h)).2 x = sG L s ((sPiece L h (s h)).1.emb x) := by
  obtain ⟨i, d, e, rfl⟩ : ∃ (i : Fin 1) (d e : Fin 128), x = ix3 i d e := ⟨x 0, x 1, x 2, eq_ix3 x⟩
  have e0 : ((sPiece L h (s h)).1.emb (ix3 i d e)) 0 = h := by
    apply Fin.ext; show h.val + 1 * i.val = _; omega
  have e1 : ((sPiece L h (s h)).1.emb (ix3 i d e)) 1 = d := by
    apply Fin.ext; show 0 + 1 * d.val = _; omega
  have e2 : ((sPiece L h (s h)).1.emb (ix3 i d e)) 2 = e := by
    apply Fin.ext; show 0 + 1 * e.val = _; omega
  unfold sG
  rw [e0, e1, e2]
  show shapeCast S1x128x128 (st L h (s h) 4) shapeCasts_S128x128_S1x128x128 (ix3 i d e) = _
  pointwise

theorem mem_state (h : Fin 8) (y : S8x128x128.Idx) : y ∈ (rState h).set ↔ y 0 = h := by
  rw [Rect.mem_set_unit]
  have h1 : (y 1).val < 128 := (y 1).isLt
  have h2 : (y 2).val < 128 := (y 2).isLt
  constructor
  · intro hy
    have : h.val ≤ (y 0).val ∧ (y 0).val < h.val + 1 := hy 0
    apply Fin.ext; show (y 0).val = h.val; omega
  · intro hy a
    have hy : (y 0).val = h.val := congrArg Fin.val hy
    match a with
    | ⟨0, _⟩ => show h.val ≤ (y 0).val ∧ (y 0).val < h.val + 1; omega
    | ⟨1, _⟩ => show 0 ≤ (y 1).val ∧ (y 1).val < 0 + 128; omega
    | ⟨2, _⟩ => show 0 ≤ (y 2).val ∧ (y 2).val < 0 + 128; omega

theorem canon_state (s : Fin 8 → Vec F S1x128x128 .f32) :
    View.canon [sPiece L 7 (s 7), sPiece L 6 (s 6), sPiece L 5 (s 5), sPiece L 4 (s 4), sPiece L 3 (s 3), sPiece L 2 (s 2), sPiece L 1 (s 1), sPiece L 0 (s 0)]
      = sG L s := by
  funext y
  refine View.canon_apply_of_pieces (sG L s) _ ?_ y ?_
  · intro p hp
    simp only [List.mem_cons, List.not_mem_nil, or_false] at hp
    rcases hp with rfl | rfl | rfl | rfl | rfl | rfl | rfl | rfl <;> exact sPiece_at L s _
  · refine ⟨sPiece L (y 0) (s (y 0)), ?_, (mem_state _ _).mpr rfl⟩
    generalize (y 0 : Fin 8) = h
    fin_cases h <;> simp

theorem canon_reset (w : View sig .tc .vmem S8x128x128 .f32) (n : ℕ) (hn : n ≤ 8) (y : S8x128x128.Idx) :
    View.canon (resetPieces L w n) y = if (y 0).val < n then sG L (resetState L w) y else k0_pay3 y := by
  induction n with
  | zero =>
    rw [if_neg (by omega)]
    exact congrFun (View.canon_cons_unit_lit' _ _ _ (by decide)) y
  | succ n ih =>
    have hv : (Fin.ofNat 8 n).val = n := Nat.mod_eq_of_lt (by omega)
    have hp : sPiece L (Fin.ofNat 8 n) (View.readCov w (resetPieces L w n) (rState (Fin.ofNat 8 n)).toLoadRect)
        = sPiece L (Fin.ofNat 8 n) (resetState L w (Fin.ofNat 8 n)) := by
      unfold resetState; rw [hv]
    show View.canon (_ :: resetPieces L w n) y = _
    rw [hp]
    by_cases hy : y 0 = Fin.ofNat 8 n
    · have hm := (mem_state _ _).mpr hy
      obtain ⟨x, rfl⟩ := (rState (Fin.ofNat 8 n)).exists_idx_of_mem hm
      rw [if_pos (by have := congrArg Fin.val hy; omega)]
      refine (View.canon_cons_emb (rState (Fin.ofNat 8 n)) (sPiece L (Fin.ofNat 8 n) (resetState L w (Fin.ofNat 8 n))).2 _ x).trans ?_
      exact sPiece_at L (resetState L w) (Fin.ofNat 8 n) x
    · have hm : y ∉ (rState (Fin.ofNat 8 n)).set := fun h => hy ((mem_state _ _).mp h)
      refine (View.canon_cons_of_not_mem (sPiece L (Fin.ofNat 8 n) (resetState L w (Fin.ofNat 8 n))) _ hm).trans ?_
      rw [ih (by omega)]
      have : (y 0).val ≠ n := fun h => hy (Fin.ext (h.trans hv.symm))
      by_cases hl : (y 0).val < n
      · rw [if_pos hl, if_pos (by omega)]
      · rw [if_neg hl, if_neg (by omega)]

/-- A step that resets the state: every head starts from zero. -/
theorem resetState_apply (w : View sig .tc .vmem S8x128x128 .f32) (h : Fin 8) (i : Fin 1) (d e : Fin 128) :
    resetState L w h (ix3 i d e) = k0_pay3 (ix3 h d e) := by
  unfold resetState
  rw [View.readCov_eq_canon']
  refine (canon_reset L w h.val h.isLt.le _).trans ?_
  have : (rState h).toLoadRect.idx (ix3 i d e) = ix3 h d e := by
    funext a; apply Fin.ext
    match a with
    | ⟨0, _⟩ => show h.val + 1 * i.val = h.val; omega
    | ⟨1, _⟩ => show 0 + 1 * d.val = d.val; omega
    | ⟨2, _⟩ => show 0 + 1 * e.val = e.val; omega
  rw [this]
  exact if_neg (lt_irrefl _)

end Cert.Proof.RetStep
end
-- ==== Proof.RetReal.lean ====
/- One head's step of the retention kernel over the reals: the state it leaves and the rows it makes. -/
module

public import proofs.«01_k».proof.Proof.RetRead
public import proofs.«01_k».proof.Proof.RetStep

@[expose] public section

set_option maxRecDepth 16384

noncomputable section

namespace Cert.Proof.RetReal

open Idealize.ShloMosaic Idealize.ShloMosaic.TcCoe Idealize.ShloMosaic.Tactic Cert.KernelIdeal Cert.KernelIdeal.Gen
open Cert.Proof.Blocks Cert.Proof.RetRead Cert.Proof.RetTables Cert.Proof.RetStep

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem gam_eq (h : Fin 8) : gam (F := Ideal) h = ((gr h.val ^ 256 : ℝ) : EReal) := by
  fin_cases h <;>
    exact (IdealRules.named_const.ideal_named_scalar _ _ _ _ rfl).trans (by congr 1; unfold gr; norm_num)

/-- What a head reads in a step, over the reals: its queries, keys and values from row `N` on, and its decays. -/
structure Reads (L : Loads Ideal) (h : Fin 8) (q k v : ℕ → Fin 128 → ℝ) (N : ℕ) : Prop where
  q : ∀ (b : Fin 4) (i : Fin 256) (d : Fin 128), L.q h b (ix2 i d) = ((q (N + 256 * b.val + i.val) d : ℝ) : EReal)
  k : ∀ (b : Fin 4) (i : Fin 256) (d : Fin 128), L.k h b (ix2 i d) = ((k (N + 256 * b.val + i.val) d : ℝ) : EReal)
  v : ∀ (b : Fin 4) (i : Fin 256) (d : Fin 128), L.v h b (ix2 i d) = ((v (N + 256 * b.val + i.val) d : ℝ) : EReal)
  dec : ∀ i j : Fin 256, L.dec h (ix3 0 i j) = ((RetMath.dec (gr h.val) i.val j.val : ℝ) : EReal)
  qd : ∀ (i : Fin 256) (d : Fin 128), L.qd h (ix2 i d) = ((gr h.val ^ (i.val + 1) : ℝ) : EReal)
  kd : ∀ (i : Fin 256) (d : Fin 128), L.kd h (ix2 i d) = ((gr h.val ^ (255 - i.val) : ℝ) : EReal)

variable {L : Loads Ideal} {h : Fin 8} {q k v : ℕ → Fin 128 → ℝ} {N : ℕ}

/-- A head's state after `n` blocks of a step is the state after the rows so far. -/
theorem st_real (H : Reads L h q k v N) (s : Vec Ideal S1x128x128 .f32)
    (hs : ∀ d e : Fin 128, s (ix3 0 d e) = ((RetMath.S (gr h.val) k v N d e : ℝ) : EReal)) :
    ∀ (n : ℕ) (_ : n ≤ 4) (d e : Fin 128), st L h s n (ix2 d e) = ((RetMath.S (gr h.val) k v (N + 256 * n) d e : ℝ) : EReal)
  | 0, _, d, e => by
    refine Eq.trans ?_ (hs d e)
    show shapeCast S128x128 s shapeCasts_S1x128x128_S128x128 (ix2 d e) = _
    pointwise
  | n + 1, hn, d, e => by
    have hb : (Fin.ofNat 4 n).val = n := Nat.mod_eq_of_lt (by omega)
    refine (stNext_apply _ _ _ _ _ d e).trans ?_
    rw [st_real H s hs n (by omega) d e, gam_eq, show N + 256 * (n + 1) = (N + 256 * n) + 256 by ring, RetMath.S_add _ _ _ (N + 256 * n) 256,
      Finset.sum_range, EReal.coe_add, EReal.coe_mul, coe_sum]
    refine congrArg₂ (HAdd.hAdd (α := EReal) (β := EReal) (γ := EReal)) rfl (Finset.sum_congr rfl fun x _ => ?_)
    rw [H.k, H.kd, H.v, hb, ← EReal.coe_mul, ← EReal.coe_mul, show 256 - 1 - x.val = 255 - x.val by omega]

/-- A block's retention is the block's over the reals. -/
theorem y_real (H : Reads L h q k v N) (s : Vec Ideal S1x128x128 .f32)
    (hs : ∀ d e : Fin 128, s (ix3 0 d e) = ((RetMath.S (gr h.val) k v N d e : ℝ) : EReal)) (b : Fin 4) (i : Fin 256) (e : Fin 128) :
    yOf (st L h s b.val) (L.q h b) (L.k h b) (L.v h b) (L.dec h) (L.qd h) (ix2 i e)
      = ((RetMath.yBlock (gr h.val) (q (N + 256 * b.val + i.val)) k v (N + 256 * b.val) i.val e : ℝ) : EReal) := by
  refine (yOf_apply _ _ _ _ _ _ i e).trans ?_
  unfold RetMath.yBlock
  rw [Finset.sum_range, EReal.coe_add, EReal.coe_mul, coe_sum, coe_sum]
  congr 1
  · refine Finset.sum_congr rfl fun j _ => ?_
    rw [EReal.coe_mul, EReal.coe_mul, coe_sum, H.dec, H.v]
    congr 2
    refine Finset.sum_congr rfl fun d _ => ?_
    rw [H.q, H.k, EReal.coe_mul]
  · rw [H.qd]
    congr 1
    refine Finset.sum_congr rfl fun d _ => ?_
    rw [H.q, st_real H s hs b.val (by omega), EReal.coe_mul]

/-- The rows of output a head makes. -/
theorem ob_real (H : Reads L h q k v N) (s : Vec Ideal S1x128x128 .f32)
    (hs : ∀ d e : Fin 128, s (ix3 0 d e) = ((RetMath.S (gr h.val) k v N d e : ℝ) : EReal)) (b : Fin 4) (i : Fin 256) (e : Fin 128) :
    ob L h s b (ix2 i e) = swish (L.gate h b (ix2 i e))
      * (normed (fun j => ((RetMath.yBlock (gr h.val) (q (N + 256 * b.val + i.val)) k v (N + 256 * b.val) i.val j : ℝ) : EReal)) e
        * L.gn h (ix2 0 e)) := by
  refine (outOf_apply _ _ _ i e).trans ?_
  congr 3
  funext j
  exact y_real H s hs b i j

end Cert.Proof.RetReal
end
-- ==== Proof.RetKernel.lean ====
/- The retention kernel's result: every row's head, normed and gated, of the retention over the reals. -/
module

public import proofs.«01_k».proof.Proof.RetReal
public import proofs.«01_k».proof.Proof.Gen.KernelIdeal.Value

@[expose] public section

set_option maxRecDepth 16384

noncomputable section

namespace Cert.Proof.RetKernel

open Idealize.ShloMosaic Idealize.ShloMosaic.TcCoe Idealize.ShloMosaic.Tactic Cert.KernelIdeal Cert.KernelIdeal.Gen
open Cert.Proof.Blocks Cert.Proof.RetRead Cert.Proof.RetTables Cert.Proof.RetStep Cert.Proof.RetReal

/-- An entry of the projection, as a real number. -/
def entry (X : S8192x7168.Idx → EReal) (r l : ℕ) : ℝ := (X (ix2 (Fin.ofNat 8192 r) (Fin.ofNat 7168 l))).toReal

/-- A batch's and head's queries, keys and values, by row. -/
def qR (X : S8192x7168.Idx → EReal) (β h n : ℕ) (d : Fin 128) : ℝ := entry X (4096 * β + n) (128 * h + d.val)
def kR (X : S8192x7168.Idx → EReal) (β h n : ℕ) (d : Fin 128) : ℝ := entry X (4096 * β + n) (1024 + 128 * h + d.val)
def vR (X : S8192x7168.Idx → EReal) (β h n : ℕ) (d : Fin 128) : ℝ := entry X (4096 * β + n) (2048 + 128 * h + d.val)

/-- The queries, keys and values are real. -/
def Real3 (X : S8192x7168.Idx → EReal) : Prop :=
  ∀ (r : Fin 8192) (l : Fin 7168), l.val < 3072 → X (ix2 r l) ≠ ⊤ ∧ X (ix2 r l) ≠ ⊥

theorem entry_eq {X : S8192x7168.Idx → EReal} (hX : Real3 X) (r : Fin 8192) (l : Fin 7168) (hl : l.val < 3072) (r' l' : ℕ)
    (hr : r.val = r') (hl' : l.val = l') : X (ix2 r l) = ((entry X r' l' : ℝ) : EReal) := by
  subst hr hl'
  unfold entry
  have e1 : Fin.ofNat 8192 r.val = r := Fin.ext (Nat.mod_eq_of_lt r.isLt)
  have e2 : Fin.ofNat 7168 l.val = l := Fin.ext (Nat.mod_eq_of_lt l.isLt)
  rw [e1, e2, EReal.coe_toReal (hX r l hl).1 (hX r l hl).2]

variable (m : (ℓ : Loc nD τ sig) → Buf (Elt Ideal) ℓ) (c : Dev nD)

abbrev X : S8192x7168.Idx → EReal := m ((c : Thread nD τ).loc main_arg0)
abbrev Gn : S1x1024.Idx → EReal := m ((c : Thread nD τ).loc main_arg1)

theorem idx : ∀ t : Fin cfg0.N, (win0_0.index t (0 : Fin 2) = t.val ∧ win0_0.index t (1 : Fin 2) = 0)
    ∧ (win0_1.index t (0 : Fin 2) = t.val ∧ win0_1.index t (1 : Fin 2) = 1)
    ∧ (win0_2.index t (0 : Fin 2) = t.val ∧ win0_2.index t (1 : Fin 2) = 2)
    ∧ (win0_3.index t (0 : Fin 2) = t.val ∧ win0_3.index t (1 : Fin 2) = 3)
    ∧ (win0_4.index t (0 : Fin 3) = 0 ∧ win0_4.index t (1 : Fin 3) = 0 ∧ win0_4.index t (2 : Fin 3) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0) :=
  (by decide +kernel : ∀ t : Fin grid0.N, _)

theorem t_lt (t : Fin cfg0.N) : t.val < 8 := lt_of_lt_of_eq t.isLt N_0

/-- A row and a column of the projection. -/
def row (t : ℕ) (r : Fin 1024) : Fin 8192 := Fin.ofNat 8192 (1024 * t + r.val)
def col (s : ℕ) (l : Fin 1024) : Fin 7168 := Fin.ofNat 7168 (1024 * s + l.val)

theorem row_val (t : Fin cfg0.N) (r : Fin 1024) : (row t.val r).val = 1024 * t.val + r.val :=
  Nat.mod_eq_of_lt (by have := t_lt t; omega)
theorem col_val (s : ℕ) (hs : s < 4) (l : Fin 1024) : (col s l).val = 1024 * s + l.val :=
  Nat.mod_eq_of_lt (by omega)

theorem iblk0 (t : Fin cfg0.N) (r l : Fin 1024) : iblk m c 0 t (ix2 r l) = X m c (ix2 (row t.val r) (col 0 l)) := by
  obtain ⟨⟨e0, e1⟩, -⟩ := idx t
  show (V m c main_arg0) (((cfg0.win 0).blk t).view.emb (ix2 r l)) = _
  rw [V_main_arg0]
  congr 1; funext a; apply Fin.ext
  match a with
  | ⟨0, _⟩ => show win0_0.index t (0 : Fin 2) * 1024 + 1 * r.val = (row t.val r).val; rw [row_val]; omega
  | ⟨1, _⟩ => show win0_0.index t (1 : Fin 2) * 1024 + 1 * l.val = (col 0 l).val; rw [col_val _ (by omega)]; omega

theorem iblk1 (t : Fin cfg0.N) (r l : Fin 1024) : iblk m c 1 t (ix2 r l) = X m c (ix2 (row t.val r) (col 1 l)) := by
  obtain ⟨-, ⟨e0, e1⟩, -⟩ := idx t
  show (V m c main_arg0) (((cfg0.win 1).blk t).view.emb (ix2 r l)) = _
  rw [V_main_arg0]
  congr 1; funext a; apply Fin.ext
  match a with
  | ⟨0, _⟩ => show win0_1.index t (0 : Fin 2) * 1024 + 1 * r.val = (row t.val r).val; rw [row_val]; omega
  | ⟨1, _⟩ => show win0_1.index t (1 : Fin 2) * 1024 + 1 * l.val = (col 1 l).val; rw [col_val _ (by omega)]; omega

theorem iblk2 (t : Fin cfg0.N) (r l : Fin 1024) : iblk m c 2 t (ix2 r l) = X m c (ix2 (row t.val r) (col 2 l)) := by
  obtain ⟨-, -, ⟨e0, e1⟩, -⟩ := idx t
  show (V m c main_arg0) (((cfg0.win 2).blk t).view.emb (ix2 r l)) = _
  rw [V_main_arg0]
  congr 1; funext a; apply Fin.ext
  match a with
  | ⟨0, _⟩ => show win0_2.index t (0 : Fin 2) * 1024 + 1 * r.val = (row t.val r).val; rw [row_val]; omega
  | ⟨1, _⟩ => show win0_2.index t (1 : Fin 2) * 1024 + 1 * l.val = (col 2 l).val; rw [col_val _ (by omega)]; omega

theorem iblk3 (t : Fin cfg0.N) (r l : Fin 1024) : iblk m c 3 t (ix2 r l) = X m c (ix2 (row t.val r) (col 3 l)) := by
  obtain ⟨-, -, -, ⟨e0, e1⟩, -⟩ := idx t
  show (V m c main_arg0) (((cfg0.win 3).blk t).view.emb (ix2 r l)) = _
  rw [V_main_arg0]
  congr 1; funext a; apply Fin.ext
  match a with
  | ⟨0, _⟩ => show win0_3.index t (0 : Fin 2) * 1024 + 1 * r.val = (row t.val r).val; rw [row_val]; omega
  | ⟨1, _⟩ => show win0_3.index t (1 : Fin 2) * 1024 + 1 * l.val = (col 3 l).val; rw [col_val _ (by omega)]; omega

theorem iblk4 (t : Fin cfg0.N) (h : Fin 8) (i j : Fin 256) :
    iblk m c 4 t (ix3 h i j) = ((RetMath.dec (gr h.val) i.val j.val : ℝ) : EReal) := by
  obtain ⟨-, -, -, -, ⟨e0, e1, e2⟩, -⟩ := idx t
  rw [← d_table m c h i j]
  show (V m c main_v30) (((cfg0.win 4).blk t).view.emb (ix3 h i j)) = _
  congr 1; funext a; apply Fin.ext
  match a with
  | ⟨0, _⟩ => show win0_4.index t (0 : Fin 3) * 8 + 1 * h.val = h.val; omega
  | ⟨1, _⟩ => show win0_4.index t (1 : Fin 3) * 256 + 1 * i.val = i.val; omega
  | ⟨2, _⟩ => show win0_4.index t (2 : Fin 3) * 256 + 1 * j.val = j.val; omega

theorem iblk5 (t : Fin cfg0.N) (i : Fin 256) (l : Fin 1024) :
    iblk m c 5 t (ix2 i l) = ((gr (l.val / 128) ^ (i.val + 1) : ℝ) : EReal) := by
  obtain ⟨-, -, -, -, -, ⟨e0, e1⟩, -⟩ := idx t
  rw [← q_table m c i l]
  show (V m c main_v48) (((cfg0.win 5).blk t).view.emb (ix2 i l)) = _
  congr 1; funext a; apply Fin.ext
  match a with
  | ⟨0, _⟩ => show win0_5.index t (0 : Fin 2) * 256 + 1 * i.val = i.val; omega
  | ⟨1, _⟩ => show win0_5.index t (1 : Fin 2) * 1024 + 1 * l.val = l.val; omega

theorem iblk6 (t : Fin cfg0.N) (i : Fin 256) (l : Fin 1024) :
    iblk m c 6 t (ix2 i l) = ((gr (l.val / 128) ^ (255 - i.val) : ℝ) : EReal) := by
  obtain ⟨-, -, -, -, -, -, ⟨e0, e1⟩, -⟩ := idx t
  rw [← k_table m c i l]
  show (V m c main_v50) (((cfg0.win 6).blk t).view.emb (ix2 i l)) = _
  congr 1; funext a; apply Fin.ext
  match a with
  | ⟨0, _⟩ => show win0_6.index t (0 : Fin 2) * 256 + 1 * i.val = i.val; omega
  | ⟨1, _⟩ => show win0_6.index t (1 : Fin 2) * 1024 + 1 * l.val = l.val; omega

theorem gain (l : Fin 1024) : (V m c main_v1 : FVec Ideal S1x1024 .f32) (ix2 0 l) = Gn m c (ix2 0 l) := by
  show StableHlo.after (List.flatten [hostOps0, hostOps0_1, hostOps0_2, hostOps0_3, hostOps0_4]) _ (main_v1 : Ref sig .tc) _ = _
  simp only [List.flatten_cons, List.flatten_nil, List.append_nil, List.cons_append, List.nil_append]
  after_results
  pointwise

theorem iblk7 (t : Fin cfg0.N) (l : Fin 1024) : iblk m c 7 t (ix2 0 l) = Gn m c (ix2 0 l) := by
  obtain ⟨-, -, -, -, -, -, -, ⟨e0, e1⟩⟩ := idx t
  rw [← gain m c l]
  show (V m c main_v1) (((cfg0.win 7).blk t).view.emb (ix2 0 l)) = _
  congr 1; funext a; apply Fin.ext
  match a with
  | ⟨0, _⟩ => show win0_7.index t (0 : Fin 2) * 1 + 1 * 0 = 0; omega
  | ⟨1, _⟩ => show win0_7.index t (1 : Fin 2) * 1024 + 1 * l.val = l.val; omega

/-- What step `t` loads. -/
def Ld (t : Fin cfg0.N) : Loads Ideal :=
  blockLoads (iblk m c 0 t) (iblk m c 1 t) (iblk m c 2 t) (iblk m c 3 t) (iblk m c 4 t) (iblk m c 5 t) (iblk m c 6 t) (iblk m c 7 t)

/-- A row of a step's block, a column of a head. -/
def rowIn (b : Fin 4) (i : Fin 256) : Fin 1024 := ⟨256 * b.val + i.val, by omega⟩
def colIn (h : Fin 8) (d : Fin 128) : Fin 1024 := ⟨128 * h.val + d.val, by omega⟩

theorem ld_rows (x : Vec Ideal S1024x1024 .bf16) (h : Fin 8) (b : Fin 4) (i : Fin 256) (d : Fin 128) :
    View.ld x (rRows h b) (ix2 i d) = x (ix2 (rowIn b i) (colIn h d)) := by
  show x _ = x _
  congr 1; funext a; apply Fin.ext
  match a with
  | ⟨0, _⟩ => show 256 * b.val + 1 * i.val = 256 * b.val + i.val; omega
  | ⟨1, _⟩ => show 128 * h.val + 1 * d.val = 128 * h.val + d.val; omega

theorem ld_head (x : Vec Ideal S256x1024 .f32) (h : Fin 8) (i : Fin 256) (d : Fin 128) :
    View.ld x (rHead h) (ix2 i d) = x (ix2 i (colIn h d)) := by
  show x _ = x _
  congr 1; funext a; apply Fin.ext
  match a with
  | ⟨0, _⟩ => show 0 + 1 * i.val = i.val; omega
  | ⟨1, _⟩ => show 128 * h.val + 1 * d.val = 128 * h.val + d.val; omega

theorem ld_gain (x : Vec Ideal S1x1024 .f32) (h : Fin 8) (d : Fin 128) :
    View.ld x (rGain h) (ix2 0 d) = x (ix2 0 (colIn h d)) := by
  show x _ = x _
  congr 1; funext a; apply Fin.ext
  match a with
  | ⟨0, _⟩ => show 0 + 1 * 0 = 0; omega
  | ⟨1, _⟩ => show 128 * h.val + 1 * d.val = 128 * h.val + d.val; omega

theorem ld_table (x : Vec Ideal S8x256x256 .f32) (h : Fin 8) (i j : Fin 256) :
    View.ld x (rTable h) (ix3 0 i j) = x (ix3 h i j) := by
  show x _ = x _
  congr 1; funext a; apply Fin.ext
  match a with
  | ⟨0, _⟩ => show h.val + 1 * 0 = h.val; omega
  | ⟨1, _⟩ => show 0 + 1 * i.val = i.val; omega
  | ⟨2, _⟩ => show 0 + 1 * j.val = j.val; omega

theorem ld_state (x : Vec Ideal S8x128x128 .f32) (h : Fin 8) (d e : Fin 128) :
    View.ld x (rState h) (ix3 0 d e) = x (ix3 h d e) := by
  show x _ = x _
  congr 1; funext a; apply Fin.ext
  match a with
  | ⟨0, _⟩ => show h.val + 1 * 0 = h.val; omega
  | ⟨1, _⟩ => show 0 + 1 * d.val = d.val; omega
  | ⟨2, _⟩ => show 0 + 1 * e.val = e.val; omega

theorem Ld_q (t : Fin cfg0.N) (h : Fin 8) (b : Fin 4) (i : Fin 256) (d : Fin 128) :
    (Ld m c t).q h b (ix2 i d) = X m c (ix2 (row t.val (rowIn b i)) (col 0 (colIn h d))) := by
  unfold Ld blockLoads
  dsimp only
  exact (ld_rows (iblk m c 0 t) h b i d).trans (iblk0 m c t (rowIn b i) (colIn h d))

theorem Ld_k (t : Fin cfg0.N) (h : Fin 8) (b : Fin 4) (i : Fin 256) (d : Fin 128) :
    (Ld m c t).k h b (ix2 i d) = X m c (ix2 (row t.val (rowIn b i)) (col 1 (colIn h d))) := by
  unfold Ld blockLoads
  dsimp only
  exact (ld_rows (iblk m c 1 t) h b i d).trans (iblk1 m c t (rowIn b i) (colIn h d))

theorem Ld_v (t : Fin cfg0.N) (h : Fin 8) (b : Fin 4) (i : Fin 256) (d : Fin 128) :
    (Ld m c t).v h b (ix2 i d) = X m c (ix2 (row t.val (rowIn b i)) (col 2 (colIn h d))) := by
  unfold Ld blockLoads
  dsimp only
  exact (ld_rows (iblk m c 2 t) h b i d).trans (iblk2 m c t (rowIn b i) (colIn h d))

theorem Ld_gate (t : Fin cfg0.N) (h : Fin 8) (b : Fin 4) (i : Fin 256) (d : Fin 128) :
    (Ld m c t).gate h b (ix2 i d) = X m c (ix2 (row t.val (rowIn b i)) (col 3 (colIn h d))) := by
  unfold Ld blockLoads
  dsimp only
  exact (ld_rows (iblk m c 3 t) h b i d).trans (iblk3 m c t (rowIn b i) (colIn h d))

theorem Ld_gn (t : Fin cfg0.N) (h : Fin 8) (d : Fin 128) :
    (Ld m c t).gn h (ix2 0 d) = Gn m c (ix2 0 (colIn h d)) := by
  unfold Ld blockLoads
  dsimp only
  exact (ld_gain (iblk m c 7 t) h d).trans (iblk7 m c t (colIn h d))

theorem Ld_dec (t : Fin cfg0.N) (h : Fin 8) (i j : Fin 256) :
    (Ld m c t).dec h (ix3 0 i j) = ((RetMath.dec (gr h.val) i.val j.val : ℝ) : EReal) := by
  unfold Ld blockLoads
  dsimp only
  exact (ld_table (iblk m c 4 t) h i j).trans (iblk4 m c t h i j)

theorem head_of (h : Fin 8) (d : Fin 128) : (colIn h d).val / 128 = h.val := by
  show (128 * h.val + d.val) / 128 = _; omega

theorem Ld_qd (t : Fin cfg0.N) (h : Fin 8) (i : Fin 256) (d : Fin 128) :
    (Ld m c t).qd h (ix2 i d) = ((gr h.val ^ (i.val + 1) : ℝ) : EReal) := by
  unfold Ld blockLoads
  dsimp only
  have e := (ld_head (iblk m c 5 t) h i d).trans (iblk5 m c t i (colIn h d))
  rw [head_of] at e
  exact e

theorem Ld_kd (t : Fin cfg0.N) (h : Fin 8) (i : Fin 256) (d : Fin 128) :
    (Ld m c t).kd h (ix2 i d) = ((gr h.val ^ (255 - i.val) : ℝ) : EReal) := by
  unfold Ld blockLoads
  dsimp only
  have e := (ld_head (iblk m c 6 t) h i d).trans (iblk6 m c t i (colIn h d))
  rw [head_of] at e
  exact e

theorem entry_at {X : S8192x7168.Idx → EReal} (hX : Real3 X) (t : Fin cfg0.N) (s : ℕ) (hs : s < 3) (h : Fin 8) (b : Fin 4) (i : Fin 256) (d : Fin 128) :
    X (ix2 (row t.val (rowIn b i)) (col s (colIn h d)))
      = ((entry X (4096 * (t.val / 4) + (1024 * (t.val % 4) + 256 * b.val + i.val)) (1024 * s + 128 * h.val + d.val) : ℝ) : EReal) := by
  have hc := col_val s (by omega) (colIn h d)
  have hr := row_val t (rowIn b i)
  have e1 : (colIn h d).val = 128 * h.val + d.val := rfl
  have e2 : (rowIn b i).val = 256 * b.val + i.val := rfl
  exact entry_eq hX _ _ (by omega) _ _ (by omega) (by omega)

variable {m c}

/-- What a head reads in step `t`. -/
theorem reads (hX : Real3 (X m c)) (t : Fin cfg0.N) (h : Fin 8) :
    Reads (Ld m c t) h (qR (X m c) (t.val / 4) h.val) (kR (X m c) (t.val / 4) h.val) (vR (X m c) (t.val / 4) h.val)
      (1024 * (t.val % 4)) where
  q b i d := by rw [Ld_q, entry_at hX t 0 (by omega)]; unfold qR; rw [Nat.mul_zero, Nat.zero_add]
  k b i d := by rw [Ld_k, entry_at hX t 1 (by omega)]; rfl
  v b i d := by rw [Ld_v, entry_at hX t 2 (by omega)]; rfl
  dec := Ld_dec m c t h
  qd := Ld_qd m c t h
  kd := Ld_kd m c t h

variable (m c)

/-- What step `t` leaves: each row's output and each head's state, from the states the step starts with. -/
theorem step (t : Fin cfg0.N) : ∃ s : Fin 8 → Vec Ideal S1x128x128 .f32,
    (outsAt0 m c t.val t.isLt).1 = oG (Ld m c t) s ∧ (outsAt0 m c t.val t.isLt).2 = sG (Ld m c t) s
      ∧ (t.val % 4 = 0 → ∀ h d e, s h (ix3 0 d e) = (0 : EReal))
      ∧ (¬t.val % 4 = 0 → ∀ h d e, s h (ix3 0 d e) = (outsAt0 m c (t.val - 1) (by omega)).2 (ix3 h d e)) := by
  by_cases h0 : t.val % 4 = 0
  · refine ⟨resetState (Ld m c t) scM0_0.view, ?_, ?_, fun _ h d e => ?_, fun h => absurd h0 h⟩
    · rw [outsAt0_A m c t h0]
      dsimp only
      unfold out0_A_8
      rw [View.read_writes_junk_eq_canon, reset_out, bufLoads_eq, canon_out]
      rfl
    · rw [outsAt0_A m c t h0]
      dsimp only
      unfold sout0_A_0
      rw [View.read_writes_junk_eq_canon, reset_state, bufLoads_eq]
      funext y
      rw [canon_reset _ _ 8 (le_refl 8) y, if_pos (show (y 0).val < 8 from (y 0).isLt)]
      rfl
    · rw [resetState_apply]
      pointwise [k0_pay3]
  · refine ⟨fun h => View.ld (outsAt0 m c (t.val - 1) (by omega)).2 (rState h), ?_, ?_, fun h => absurd h h0, fun _ h d e => ?_⟩
    · rw [outsAt0_B m c t h0]
      dsimp only
      unfold out0_B_8
      rw [View.read_writes_junk_eq_canon, carry_out, bufLoads_eq, canon_out]
      unfold Ld
      refine congrArg (oG _) (funext fun h => ?_)
      rw [View.readAt_eq_ld, Memref.IsWhole.read_unread]
    · rw [outsAt0_B m c t h0]
      dsimp only
      unfold sout0_B_0
      rw [View.read_writes_junk_eq_canon, carry_state, bufLoads_eq]
      dsimp only
      simp only [View.readAt_eq_ld, read_unread_whole]
      unfold Ld
      exact canon_state _ (fun h => View.ld (outsAt0 m c (t.val - 1) (by omega)).2 (rState h))
    · exact ld_state _ h d e

variable {m c}

/-- The states a step starts with and ends with. -/
theorem states (hX : Real3 (X m c)) (n : ℕ) : ∀ (hn : n < cfg0.N) (h : Fin 8) (d e : Fin 128),
    (outsAt0 m c n hn).2 (ix3 h d e)
      = ((RetMath.S (gr h.val) (kR (X m c) (n / 4) h.val) (vR (X m c) (n / 4) h.val) (1024 * (n % 4) + 1024) d e : ℝ) : EReal) := by
  induction n with
  | zero =>
    intro hn h d e
    obtain ⟨s, -, e2, hz, -⟩ := step m c ⟨0, hn⟩
    rw [e2]
    refine (st_real (reads hX ⟨0, hn⟩ h) (s h) (fun d e => ?_) 4 (le_refl 4) d e)
    rw [hz rfl]
    show (0 : EReal) = ((RetMath.S _ _ _ 0 d e : ℝ) : EReal)
    rw [RetMath.S_zero]; rfl
  | succ n ih =>
    intro hn h d e
    obtain ⟨s, -, e2, hz, hs⟩ := step m c ⟨n + 1, hn⟩
    rw [e2]
    refine (st_real (reads hX ⟨n + 1, hn⟩ h) (s h) (fun d e => ?_) 4 (le_refl 4) d e)
    by_cases h0 : (n + 1) % 4 = 0
    · rw [hz h0]
      show (0 : EReal) = ((RetMath.S _ _ _ (1024 * ((n + 1) % 4)) d e : ℝ) : EReal)
      rw [h0, Nat.mul_zero, RetMath.S_zero]; rfl
    · refine (hs h0 h d e).trans ((ih (by omega) h d e).trans ?_)
      show _ = ((RetMath.S _ (kR (X m c) ((n + 1) / 4) h.val) (vR (X m c) ((n + 1) / 4) h.val) (1024 * ((n + 1) % 4)) d e : ℝ) : EReal)
      rw [show (n + 1) / 4 = n / 4 by omega, show 1024 * ((n + 1) % 4) = 1024 * (n % 4) + 1024 by omega]

/-- A row's output, from its chunk. -/
theorem out_real (hX : Real3 (X m c)) (t : Fin cfg0.N) (h : Fin 8) (b : Fin 4) (i : Fin 256) (e : Fin 128) :
    (outsAt0 m c t.val t.isLt).1 (ix2 (rowIn b i) (colIn h e))
      = swish (X m c (ix2 (row t.val (rowIn b i)) (col 3 (colIn h e))))
        * (normed (fun j => ((RetMath.yChunk (gr h.val) (qR (X m c) (t.val / 4) h.val (1024 * (t.val % 4) + 256 * b.val + i.val))
              (kR (X m c) (t.val / 4) h.val) (vR (X m c) (t.val / 4) h.val)
              (1024 * (t.val % 4) + 256 * b.val + 64 * (i.val / 64)) (i.val % 64) j : ℝ) : EReal)) e
          * Gn m c (ix2 0 (colIn h e))) := by
  obtain ⟨s, e1, -, hz, hs⟩ := step m c t
  have e1' : (outsAt0 m c t.val t.isLt).1 (ix2 (rowIn b i) (colIn h e)) = ob (Ld m c t) h (s h) b (ix2 i e) := by
    rw [e1]
    have a1 : (colIn h e).val / 128 = h.val := head_of h e
    have a2 : (colIn h e).val % 128 = e.val := by show (128 * h.val + e.val) % 128 = _; omega
    have a3 : (rowIn b i).val / 256 = b.val := by show (256 * b.val + i.val) / 256 = _; omega
    have a4 : (rowIn b i).val % 256 = i.val := by show (256 * b.val + i.val) % 256 = _; omega
    show ob (Ld m c t) ⟨(colIn h e).val / 128, _⟩ (s ⟨(colIn h e).val / 128, _⟩) ⟨(rowIn b i).val / 256, _⟩
      (ix2 ⟨(rowIn b i).val % 256, _⟩ ⟨(colIn h e).val % 128, _⟩) = _
    simp only [a1, a2, a3, a4]
  rw [e1', ob_real (reads hX t h) (s h) (fun d e => ?_) b i e, Ld_gate, Ld_gn]
  · have key : ∀ j : Fin 128, RetMath.yBlock (gr h.val) (qR (X m c) (t.val / 4) h.val (1024 * (t.val % 4) + 256 * b.val + i.val))
        (kR (X m c) (t.val / 4) h.val) (vR (X m c) (t.val / 4) h.val) (1024 * (t.val % 4) + 256 * b.val) i.val j
        = RetMath.yChunk (gr h.val) (qR (X m c) (t.val / 4) h.val (1024 * (t.val % 4) + 256 * b.val + i.val))
        (kR (X m c) (t.val / 4) h.val) (vR (X m c) (t.val / 4) h.val) (1024 * (t.val % 4) + 256 * b.val + 64 * (i.val / 64)) (i.val % 64) j := by
      intro j
      rw [← RetMath.block_eq_chunk _ _ _ _ _ (i.val / 64) (i.val % 64) (by omega) (by omega), show 64 * (i.val / 64) + i.val % 64 = i.val by omega]
    simp only [key]
  · by_cases h0 : t.val % 4 = 0
    · rw [hz h0, h0, Nat.mul_zero, RetMath.S_zero]; rfl
    · rw [hs h0 h d e, states hX (t.val - 1) (by omega) h d e,
        show (t.val - 1) / 4 = t.val / 4 by omega, show 1024 * ((t.val - 1) % 4) + 1024 = 1024 * (t.val % 4) by omega]

/-- A row's retention: over the chunk of 64 rows it lies in. -/
def ret (X : S8192x7168.Idx → EReal) (β h n : ℕ) (j : Fin 128) : ℝ :=
  RetMath.yChunk (gr h) (qR X β h n) (kR X β h) (vR X β h) (64 * (n / 64)) (n % 64) j

/-- The layer's result at a row and a head's column. -/
def result (X : S8192x7168.Idx → EReal) (G : S1x1024.Idx → EReal) (r : Fin 8192) (h : Fin 8) (e : Fin 128) : EReal :=
  swish (X (ix2 r (col 3 (colIn h e))))
    * (normed (fun j => ((ret X (r.val / 4096) h.val (r.val % 4096) j : ℝ) : EReal)) e * G (ix2 0 (colIn h e)))

/-- The kernel's result. -/
theorem kernel (hX : Real3 (X m c)) (r : Fin 8192) (h : Fin 8) (e : Fin 128) :
    Value.G8 m c (ix2 r (colIn h e)) = result (X m c) (Gn m c) r h e := by
  have hc : (colIn h e).val = 128 * h.val + e.val := rfl
  have hp : Value.pt8Of (ix2 r (colIn h e)) = r.val / 1024 := by
    show 1 * (r.val / 1024 - 0) + 1 * ((colIn h e).val / 1024 - 0) = _
    omega
  have hN : cfg0.N = 8 := N_0
  have hlt : r.val / 1024 < cfg0.N := by omega
  have hlt' : Value.pt8Of (ix2 r (colIn h e)) < cfg0.N := by rw [hp]; exact hlt
  unfold Value.G8
  rw [dif_pos hlt', ← Value.outsAt0_sweep m c _ hlt']
  have e0 : ∀ (n : ℕ) (hn : n < cfg0.N), n = r.val / 1024 → outsAt0 m c n hn = outsAt0 m c (r.val / 1024) hlt := by
    intro n hn he; subst he; rfl
  rw [e0 _ _ hp]
  have hl : Value.loc8Of (ix2 r (colIn h e)) = ix2 (rowIn ⟨r.val % 1024 / 256, by omega⟩ ⟨r.val % 256, by omega⟩) (colIn h e) := by
    funext a; apply Fin.ext
    match a with
    | ⟨0, _⟩ => show r.val % 1024 = 256 * (r.val % 1024 / 256) + r.val % 256; omega
    | ⟨1, _⟩ => show (colIn h e).val % 1024 = (colIn h e).val; omega
  rw [hl]
  refine (out_real hX ⟨r.val / 1024, hlt⟩ h ⟨r.val % 1024 / 256, by omega⟩ ⟨r.val % 256, by omega⟩ e).trans ?_
  have hr : row (r.val / 1024) (rowIn ⟨r.val % 1024 / 256, by omega⟩ ⟨r.val % 256, by omega⟩) = r := by
    apply Fin.ext
    refine (row_val ⟨r.val / 1024, hlt⟩ _).trans ?_
    show 1024 * (r.val / 1024) + (256 * (r.val % 1024 / 256) + r.val % 256) = r.val
    omega
  unfold result ret
  dsimp only
  rw [hr, show r.val / 1024 / 4 = r.val / 4096 by omega,
    show 1024 * (r.val / 1024 % 4) + 256 * (r.val % 1024 / 256) + r.val % 256 = r.val % 4096 by omega,
    show 1024 * (r.val / 1024 % 4) + 256 * (r.val % 1024 / 256) + 64 * (r.val % 256 / 64) = 64 * (r.val % 4096 / 64) by omega,
    show r.val % 256 % 64 = r.val % 4096 % 64 by omega]

end Cert.Proof.RetKernel
end
-- ==== Proof.RetRef.lean ====
/- The retention's reference, read: every row's head, normed and gated, of the retention over the reals. -/
module

public import proofs.«01_k».proof.Proof.RefLoop
public import proofs.«01_k».proof.Proof.RetKernel
public import Idealize.ShloMosaic.Lib.Pointwise
public import Idealize.ShloMosaic.Lib.DynamicIndex
public import Idealize.ShloMosaic.Lib.WordCmp

@[expose] public section

set_option maxRecDepth 16384

noncomputable section

namespace Cert.Proof.RetRef

open Idealize.ShloMosaic Cert.ReferenceIdeal Cert.ReferenceIdeal.Gen Cert.ReferenceIdeal.Step
open Cert.Proof.RetTables (gr lg)

section Terms

variable {F : FTy → Type} [FloatOps F]

/-- The values, by batch, chunk, row, head and lane. -/
def vT (x : (⟨S8192x7168, .bf16⟩ : BufTy).Contents (Elt F)) : (⟨S2x64x64x8x128, .f32⟩ : BufTy).Contents (Elt F) :=
  shapeCast _ (extf .f32 (extractStridedSlice S8192x1024 ![0, 2048] x slices_S8192x7168_S8192x1024_0_2048) bitsLt_bf16_f32) shapeCasts_S8192x1024_S2x64x64x8x128

/-- The queries. -/
def qT (x : (⟨S8192x7168, .bf16⟩ : BufTy).Contents (Elt F)) : (⟨S2x64x64x8x128, .f32⟩ : BufTy).Contents (Elt F) :=
  shapeCast _ (extf .f32 (extractStridedSlice S8192x1024 ![0, 0] x slices_S8192x7168_S8192x1024_0_0) bitsLt_bf16_f32) shapeCasts_S8192x1024_S2x64x64x8x128

/-- The keys. -/
def kT (x : (⟨S8192x7168, .bf16⟩ : BufTy).Contents (Elt F)) : (⟨S2x64x64x8x128, .f32⟩ : BufTy).Contents (Elt F) :=
  shapeCast _ (extf .f32 (extractStridedSlice S8192x1024 ![0, 1024] x slices_S8192x7168_S8192x1024_0_1024) bitsLt_bf16_f32) shapeCasts_S8192x1024_S2x64x64x8x128

/-- The gate. -/
def gT (x : (⟨S8192x7168, .bf16⟩ : BufTy).Contents (Elt F)) : (⟨S2x4096x1024, .f32⟩ : BufTy).Contents (Elt F) :=
  shapeCast _ (extf .f32 (extractStridedSlice S8192x1024 ![0, 3072] x slices_S8192x7168_S8192x1024_0_3072) bitsLt_bf16_f32) shapeCasts_S8192x1024_S2x4096x1024

/-- The heads' log decays. -/
def lgT  : (⟨S8, .f32⟩ : BufTy).Contents (Elt F) :=
  Host.log1p (Host.negf (Host.powf (broadcastInDim S8 ![] bcast_S_S8 (constant S_ .f32 0x40000000#32)) (Host.negf (addf (broadcastInDim S8 ![] bcast_S_S8 (constant S_ .f32 0x40A00000#32)) (sitofp .f32 (iotaInDim S8 32 0))))))

/-- The decay between a chunk's rows. -/
def distT  : (⟨S2x64x8x64x64, .f32⟩ : BufTy).Contents (Elt F) :=
  broadcastInDim S2x64x8x64x64 ![0, 1, 2, 3, 4] bcast_S1x1x8x64x64_S2x64x8x64x64_0_1_2_3_4 (broadcastInDim S1x1x8x64x64 ![2, 3, 4] bcast_S8x64x64_S1x1x8x64x64_2_3_4 (Host.exp (mulf (broadcastInDim S8x64x64 ![0, 1, 2] bcast_S8x1x1_S8x64x64_0_1_2 (broadcastInDim S8x1x1 ![0] bcast_S8_S8x1x1_0 (lgT (F := F)))) (broadcastInDim S8x64x64 ![0, 1, 2] bcast_S1x64x64_S8x64x64_0_1_2 (broadcastInDim S1x64x64 ![1, 2] bcast_S64x64_S1x64x64_1_2 (Host.absf (subf (broadcastInDim S64x64 ![0, 1] bcast_S64x1_S64x64_0_1 (broadcastInDim S64x1 ![0] bcast_S64_S64x1_0 (sitofp .f32 (iotaInDim S64 32 0)))) (broadcastInDim S64x64 ![0, 1] bcast_S1x64_S64x64_0_1 (broadcastInDim S1x64 ![1] bcast_S64_S1x64_1 (sitofp .f32 (iotaInDim S64 32 0)))))))))))

/-- The decay from the row before a chunk. -/
def qdT  : (⟨S2x64x64x8x128, .f32⟩ : BufTy).Contents (Elt F) :=
  broadcastInDim S2x64x64x8x128 ![0, 1, 2, 3, 4] bcast_S1x1x64x8x1_S2x64x64x8x128_0_1_2_3_4 (broadcastInDim S1x1x64x8x1 ![2, 3, 4] bcast_S64x8x1_S1x1x64x8x1_2_3_4 (broadcastInDim S64x8x1 ![0, 1] bcast_S64x8_S64x8x1_0_1 (Host.exp (mulf (broadcastInDim S64x8 ![0, 1] bcast_S1x8_S64x8_0_1 (broadcastInDim S1x8 ![1] bcast_S8_S1x8_1 (lgT (F := F)))) (broadcastInDim S64x8 ![0, 1] bcast_S64x1_S64x8_0_1 (broadcastInDim S64x1 ![0] bcast_S64_S64x1_0 (addf (sitofp .f32 (iotaInDim S64 32 0)) (broadcastInDim S64 ![] bcast_S_S64 (constant S_ .f32 0x3F800000#32)))))))))

/-- A chunk's scores. -/
def sT (x : (⟨S8192x7168, .bf16⟩ : BufTy).Contents (Elt F)) : (⟨S2x64x8x64x64, .f32⟩ : BufTy).Contents (Elt F) :=
  mulf (Host.dotGeneral dot_S2x64x64x8x128_S2x64x64x8x128_S2x64x8x64x64_4_4_2_2_013_013 none (qT x) (kT x)) distT

/-- What a chunk gives its own rows. -/
def inT (x : (⟨S8192x7168, .bf16⟩ : BufTy).Contents (Elt F)) : (⟨S2x64x64x8x128, .f32⟩ : BufTy).Contents (Elt F) :=
  transpose S2x64x64x8x128 [0, 1, 4, 2, 3] (Host.dotGeneral dot_S2x64x64x8x128_S2x64x8x64x64_S2x64x8x128x64_2_4_4_3_013_012 none (vT x) (sT x)) transposes_S2x64x8x128x64_S2x64x64x8x128_0_1_4_2_3

/-- What the rows before a chunk give. -/
def crT (p : (⟨S64x2x8x128x128, .f32⟩ : BufTy).Contents (Elt F)) (x : (⟨S8192x7168, .bf16⟩ : BufTy).Contents (Elt F)) : (⟨S2x64x64x8x128, .f32⟩ : BufTy).Contents (Elt F) :=
  transpose S2x64x64x8x128 [0, 1, 4, 2, 3] (Host.dotGeneral dot_S64x2x8x128x128_S2x64x64x8x128_S2x64x8x128x64_3_4_4_2_102_013 none p (mulf (qT x) (qdT (F := F)))) transposes_S2x64x8x128x64_S2x64x64x8x128_0_1_4_2_3

/-- The retention, from the states `p` before each chunk. -/
def yT (p : (⟨S64x2x8x128x128, .f32⟩ : BufTy).Contents (Elt F)) (x : (⟨S8192x7168, .bf16⟩ : BufTy).Contents (Elt F)) : (⟨S2x4096x8x128, .f32⟩ : BufTy).Contents (Elt F) :=
  shapeCast _ (addf (inT x) (crT p x)) shapeCasts_S2x64x64x8x128_S2x4096x8x128

/-- A head's mean. -/
def muT (y : (⟨S2x4096x8x128, .f32⟩ : BufTy).Contents (Elt F)) : (⟨S2x4096x8x1, .f32⟩ : BufTy).Contents (Elt F) :=
  Host.divf (broadcastInDim S2x4096x8x1 ![0, 1, 2] bcast_S2x4096x8_S2x4096x8x1_0_1_2 (Host.reduceAdd y (constant S_ .f32 0x00000000#32) reducesTo_S2x4096x8x128_S2x4096x8_d3 h_S_)) (broadcastInDim S2x4096x8x1 ![] bcast_S_S2x4096x8x1 (constant S_ .f32 0x43000000#32))

/-- The retention, centred. -/
def ycT (y : (⟨S2x4096x8x128, .f32⟩ : BufTy).Contents (Elt F)) : (⟨S2x4096x8x128, .f32⟩ : BufTy).Contents (Elt F) :=
  subf y (broadcastInDim S2x4096x8x128 ![0, 1, 2, 3] bcast_S2x4096x8x1_S2x4096x8x128_0_1_2_3 (muT y))

/-- A head's variance. -/
def varT (y : (⟨S2x4096x8x128, .f32⟩ : BufTy).Contents (Elt F)) : (⟨S2x4096x8x1, .f32⟩ : BufTy).Contents (Elt F) :=
  Host.divf (broadcastInDim S2x4096x8x1 ![0, 1, 2] bcast_S2x4096x8_S2x4096x8x1_0_1_2 (Host.reduceAdd (mulf (ycT y) (ycT y)) (constant S_ .f32 0x00000000#32) reducesTo_S2x4096x8x128_S2x4096x8_d3 h_S_)) (broadcastInDim S2x4096x8x1 ![] bcast_S_S2x4096x8x1 (constant S_ .f32 0x43000000#32))

/-- The norm's gain. -/
def gnT (g : (⟨S1x1024, .f32⟩ : BufTy).Contents (Elt F)) : (⟨S2x4096x8x128, .f32⟩ : BufTy).Contents (Elt F) :=
  broadcastInDim S2x4096x8x128 ![0, 1, 2, 3] bcast_S1x1x8x128_S2x4096x8x128_0_1_2_3 (broadcastInDim S1x1x8x128 ![2, 3] bcast_S8x128_S1x1x8x128_2_3 (shapeCast _ (shapeCast _ g shapeCasts_S1x1024_S1024) shapeCasts_S1024_S8x128))

/-- The retention, normed. -/
def ynT (y : (⟨S2x4096x8x128, .f32⟩ : BufTy).Contents (Elt F)) (g : (⟨S1x1024, .f32⟩ : BufTy).Contents (Elt F)) : (⟨S2x4096x8x128, .f32⟩ : BufTy).Contents (Elt F) :=
  mulf (mulf (ycT y) (broadcastInDim S2x4096x8x128 ![0, 1, 2, 3] bcast_S2x4096x8x1_S2x4096x8x128_0_1_2_3 (Host.rsqrt (addf (varT y) (broadcastInDim S2x4096x8x1 ![] bcast_S_S2x4096x8x1 (constant S_ .f32 0x3727C5AC#32)))))) (gnT g)

/-- The gate, swished. -/
def swT (x : (⟨S8192x7168, .bf16⟩ : BufTy).Contents (Elt F)) : (⟨S2x4096x1024, .f32⟩ : BufTy).Contents (Elt F) :=
  mulf (gT x) (Host.divf (broadcastInDim S2x4096x1024 ![] bcast_S_S2x4096x1024 (constant S_ .f32 0x3F800000#32)) (addf (broadcastInDim S2x4096x1024 ![] bcast_S_S2x4096x1024 (constant S_ .f32 0x3F800000#32)) (Host.exp (Host.negf (gT x)))))

theorem result_eq (s : State F) (x : (⟨S8192x7168, .bf16⟩ : BufTy).Contents (Elt F)) (g : (⟨S1x1024, .f32⟩ : BufTy).Contents (Elt F)) :
    R_main_v113 s x g = truncf .bf16 (shapeCast _ (mulf (swT x) (shapeCast _ (ynT (yT s.main_v30_3 x) g) shapeCasts_S2x4096x8x128_S2x4096x1024)) shapeCasts_S2x4096x1024_S8192x1024) bitsLt_bf16_f32 := rfl

end Terms

open Cert.Proof.RetKernel (qR kR vR Real3 entry_eq ret result colIn col)
open Cert.Proof.RetReal (coe_sum)
open Cert.Proof.RetRead (normed mean swish)

variable {x : S8192x7168.Idx → EReal} (g : S1x1024.Idx → EReal) (p : S64x2x8x128x128.Idx → EReal) (y : S2x4096x8x128.Idx → EReal)

theorem q_real (hX : Real3 x) (b : Fin 2) (n i : Fin 64) (h : Fin 8) (d : Fin 128) :
    (qT (F := Ideal) x : FVec Ideal S2x64x64x8x128 .f32) (ix5 b n i h d) = ((qR x b.val h.val (64 * n.val + i.val) d : ℝ) : EReal) := by
  pointwise [qT]
  exact entry_eq hX _ _ (by simp only; omega) _ _ (by simp only; omega) (by simp only; omega)

theorem k_real (hX : Real3 x) (b : Fin 2) (n i : Fin 64) (h : Fin 8) (d : Fin 128) :
    (kT (F := Ideal) x : FVec Ideal S2x64x64x8x128 .f32) (ix5 b n i h d) = ((kR x b.val h.val (64 * n.val + i.val) d : ℝ) : EReal) := by
  pointwise [kT]
  exact entry_eq hX _ _ (by simp only; omega) _ _ (by simp only; omega) (by simp only; omega)

theorem v_real (hX : Real3 x) (b : Fin 2) (n i : Fin 64) (h : Fin 8) (d : Fin 128) :
    (vT (F := Ideal) x : FVec Ideal S2x64x64x8x128 .f32) (ix5 b n i h d) = ((vR x b.val h.val (64 * n.val + i.val) d : ℝ) : EReal) := by
  pointwise [vT]
  exact entry_eq hX _ _ (by simp only; omega) _ _ (by simp only; omega) (by simp only; omega)

theorem dist_real (b : Fin 2) (n : Fin 64) (h : Fin 8) (i j : Fin 64) :
    (distT (F := Ideal) : FVec Ideal S2x64x8x64x64 .f32) (ix5 b n h i j) = ((gr h.val ^ RetMath.dst i.val j.val : ℝ) : EReal) := by
  pointwise [distT, lgT]
  refine Eq.trans ?_ (RetTables.exp_lg h.val h.isLt (RetMath.dst i.val j.val))
  exact congrArg (fun z : EReal => Ideal.exp (lg h.val * z)) (RetTables.abs_eq i.val j.val (by omega) (by omega))

theorem word_one : Ideal.ofBits .f32 0x3F800000#32 = ((1 : ℝ) : EReal) := by
  simp [Ideal.ofBits, Ideal.ieee, -EReal.coe_mul]; norm_num

theorem qd_real (b : Fin 2) (n i : Fin 64) (h : Fin 8) (d : Fin 128) :
    (qdT (F := Ideal) : FVec Ideal S2x64x64x8x128 .f32) (ix5 b n i h d) = ((gr h.val ^ (i.val + 1) : ℝ) : EReal) := by
  pointwise [qdT, lgT]
  refine Eq.trans ?_ (RetTables.exp_lg h.val h.isLt (i.val + 1))
  refine congrArg (fun z : EReal => Ideal.exp (lg h.val * z)) ?_
  rw [RetTables.num i.val (by omega)]
  norm_cast

theorem kd_real (b : Fin 2) (n i : Fin 64) (h : Fin 8) (d : Fin 128) :
    (K_main_v22 (F := Ideal) : FVec Ideal S2x64x64x8x128 .f32) (ix5 b n i h d) = ((gr h.val ^ (64 - 1 - i.val) : ℝ) : EReal) := by
  pointwise [K_main_v22, K_main_v21, K_main_v20, K_main_v16, K_main_v15, K_main_v14, K_main_v13, K_main_v12, K_main_v11, K_main_v10,
    K_main_cst_1, K_main_v9, K_main_v8, K_main_v7, K_main_v6, K_main_v5, K_main_v4, K_main_cst_0, K_main_v3, K_main_v2, K_main_v1,
    K_main_cst, K_main_v0]
  refine Eq.trans ?_ (RetTables.exp_lg h.val h.isLt (64 - 1 - i.val))
  refine congrArg (fun z : EReal => Ideal.exp (lg h.val * z)) ?_
  rw [RetTables.num i.val (by omega), RetTables.word_63, ← EReal.coe_sub]
  congr 1
  rw [show 64 - 1 - i.val = 63 - i.val by omega, Nat.cast_sub (by omega)]
  norm_num

theorem s_real (hX : Real3 x) (b : Fin 2) (n : Fin 64) (h : Fin 8) (i j : Fin 64) :
    (sT (F := Ideal) x : FVec Ideal S2x64x8x64x64 .f32) (ix5 b n h i j)
      = (((∑ d, qR x b.val h.val (64 * n.val + i.val) d * kR x b.val h.val (64 * n.val + j.val) d) * gr h.val ^ RetMath.dst i.val j.val : ℝ) : EReal) := by
  pointwise [sT]
  rw [dist_real, EReal.coe_mul, coe_sum]
  refine congrArg (fun z : EReal => z * _) (Finset.sum_congr rfl fun d _ => ?_)
  rw [q_real hX, k_real hX, EReal.coe_mul]

theorem y_real (hX : Real3 x) (b : Fin 2) (n : Fin 4096) (h : Fin 8) (e : Fin 128)
    (hp : ∀ d e : Fin 128, p (ix5 ⟨n.val / 64, by omega⟩ b h d e)
      = ((RetMath.S (gr h.val) (kR x b.val h.val) (vR x b.val h.val) (64 * (n.val / 64)) d e : ℝ) : EReal)) :
    (yT (F := Ideal) p x : FVec Ideal S2x4096x8x128 .f32) (ix4 b n h e) = ((ret x b.val h.val n.val e : ℝ) : EReal) := by
  pointwise [yT, inT, crT]
  unfold ret RetMath.yChunk
  rw [EReal.coe_add, Finset.sum_range, coe_sum, coe_sum]
  refine congrArg₂ (HAdd.hAdd (α := EReal) (β := EReal) (γ := EReal)) (Finset.sum_congr rfl fun j _ => ?_) (Finset.sum_congr rfl fun d _ => ?_)
  · rw [v_real hX, s_real hX, ← EReal.coe_mul, mul_comm]
    simp only [show 64 * (n.val / 64) + n.val % 64 = n.val by omega]
  · rw [hp, q_real hX, qd_real, ← EReal.coe_mul, ← EReal.coe_mul, mul_comm]
    simp only [show 64 * (n.val / 64) + n.val % 64 = n.val by omega]

theorem contrib_real (hX : Real3 x) (b : Fin 2) (n : Fin 64) (h : Fin 8) (d e : Fin 128) :
    (A_main_v27 (F := Ideal) x : FVec Ideal S64x2x8x128x128 .f32) (ix5 n b h d e)
      = ((∑ j ∈ Finset.range 64, (kR x b.val h.val (64 * n.val + j) d * gr h.val ^ (64 - 1 - j)) * vR x b.val h.val (64 * n.val + j) e : ℝ) : EReal) := by
  rw [Finset.sum_range, coe_sum]
  have e1 : ∀ j : Fin 64, (A_main_v19 (F := Ideal) x : FVec Ideal S2x64x64x8x128 .f32) (ix5 b n j h d) = _ := fun j => k_real hX b n j h d
  have e2 : ∀ j : Fin 64, (A_main_v26 (F := Ideal) x : FVec Ideal S2x64x64x8x128 .f32) (ix5 b n j h e) = _ := fun j => v_real hX b n j h e
  have key : (A_main_v27 (F := Ideal) x : FVec Ideal S64x2x8x128x128 .f32) (ix5 n b h d e)
      = ∑ j : Fin 64, ((A_main_v19 (F := Ideal) x : FVec Ideal S2x64x64x8x128 .f32) (ix5 b n j h d)
          * (K_main_v22 (F := Ideal) : FVec Ideal S2x64x64x8x128 .f32) (ix5 b n j h d))
          * (A_main_v26 (F := Ideal) x : FVec Ideal S2x64x64x8x128 .f32) (ix5 b n j h e) := by
    unfold A_main_v27 A_main_v23
    pointwise
  rw [key]
  refine Finset.sum_congr rfl fun j _ => ?_
  rw [e1, e2, kd_real, EReal.coe_mul, EReal.coe_mul]

theorem start (j : ℕ) (hj : j < 64) : (BitVec.ofNat 32 j).toInt = (j : ℤ) := by
  rw [BitVec.toInt_eq_toNat_of_lt (by rw [BitVec.toNat_ofNat]; omega), BitVec.toNat_ofNat, Nat.mod_eq_of_lt (by omega)]

theorem fits (j : ℕ) (hj : j < 64) : S64x2x8x128x128.Slices ![j, 0, 0, 0, 0] S1x2x8x128x128 :=
  ⟨rfl, fun a => match a with
    | ⟨0, _⟩ => (by show j + 1 ≤ 64; omega)
    | ⟨1, _⟩ => (by show 0 + 2 ≤ 2; omega)
    | ⟨2, _⟩ => (by show 0 + 8 ≤ 8; omega)
    | ⟨3, _⟩ => (by show 0 + 128 ≤ 128; omega)
    | ⟨4, _⟩ => (by show 0 + 128 ≤ 128; omega)⟩

theorem b4_apply (j : Fin 64) (s : State Ideal) (b : Fin 2) (h : Fin 8) (d e : Fin 128) :
    (b4 (F := Ideal) j.val s : FVec Ideal S1x2x8x128x128 .f32) (ix5 0 b h d e)
      = (s.main_v30_0 : FVec Ideal S64x2x8x128x128 .f32) (ix5 j b h d e) := by
  unfold b4
  rw [Host.dynamicSlice_eq_extractStridedSlice _ _ _ ![j.val, 0, 0, 0, 0] _ (fits j.val j.isLt) (fun a => match a with
    | ⟨0, _⟩ => start j.val j.isLt
    | ⟨1, _⟩ => rfl
    | ⟨2, _⟩ => rfl
    | ⟨3, _⟩ => rfl
    | ⟨4, _⟩ => rfl)]
  pointwise

theorem b30_apply (j : Fin 64) (s : State Ideal) (c : Fin 64) (b : Fin 2) (h : Fin 8) (d e : Fin 128) :
    (b30 (F := Ideal) j.val s : FVec Ideal S64x2x8x128x128 .f32) (ix5 c b h d e)
      = if c = j then (s.main_v30_2 : FVec Ideal S2x8x128x128 .f32) (ix4 b h d e)
        else (s.main_v30_3 : FVec Ideal S64x2x8x128x128 .f32) (ix5 c b h d e) := by
  unfold b30
  rw [WordCmp.dynamicUpdateSlice_eq_update _ _ _ _ ![j.val, 0, 0, 0, 0] (fits j.val j.isLt) (fun a => match a with
    | ⟨0, _⟩ => start j.val j.isLt
    | ⟨1, _⟩ => rfl
    | ⟨2, _⟩ => rfl
    | ⟨3, _⟩ => rfl
    | ⟨4, _⟩ => rfl)]
  rw [updateSlice_apply]
  by_cases hc : c = j
  · subst hc
    rw [if_pos rfl, dif_pos]
    · unfold b25
      pointwise
    · intro a
      match a with
      | ⟨0, _⟩ => exact ⟨le_refl c.val, Nat.lt_succ_self c.val⟩
      | ⟨1, _⟩ => exact ⟨Nat.zero_le _, by show b.val < 0 + 2; omega⟩
      | ⟨2, _⟩ => exact ⟨Nat.zero_le _, by show h.val < 0 + 8; omega⟩
      | ⟨3, _⟩ => exact ⟨Nat.zero_le _, by show d.val < 0 + 128; omega⟩
      | ⟨4, _⟩ => exact ⟨Nat.zero_le _, by show e.val < 0 + 128; omega⟩
  · rw [if_neg hc, dif_neg]
    intro hin
    have h0 : j.val ≤ c.val ∧ c.val < j.val + 1 := hin 0
    exact hc (Fin.ext (by omega))

theorem b24_apply (j : Fin 64) (s : State Ideal) (b : Fin 2) (h : Fin 8) (d e : Fin 128) :
    (b24 (F := Ideal) j.val s : FVec Ideal S2x8x128x128 .f32) (ix4 b h d e)
      = (gr h.val ^ 64 : ℝ) * (s.main_v30_2 : FVec Ideal S2x8x128x128 .f32) (ix4 b h d e)
        + (s.main_v30_0 : FVec Ideal S64x2x8x128x128 .f32) (ix5 j b h d e) := by
  rw [← b4_apply, ← RetTables.exp_lg h.val h.isLt 64, show (((64 : ℕ) : ℝ) : EReal) = ((64 : ℝ) : EReal) by norm_cast, ← RetTables.word_64]
  pointwise [b24, b23, b22, b21, b20, b19, b18, b15, b14, b13, b12, b11, b10, b9, b8, b7, b6, b16, b17, b5]
  rfl

/-- The states of the loop, over the reals. -/
theorem states_real (hX : Real3 x) (n : ℕ) (hn : n ≤ 64) :
    (RefLoop.states (F := Ideal) x n).main_v30_0 = A_main_v27 (F := Ideal) x
    ∧ (∀ (b : Fin 2) (h : Fin 8) (d e : Fin 128), ((RefLoop.states (F := Ideal) x n).main_v30_2 : FVec Ideal S2x8x128x128 .f32) (ix4 b h d e)
        = ((RetMath.S (gr h.val) (kR x b.val h.val) (vR x b.val h.val) (64 * n) d e : ℝ) : EReal))
    ∧ (∀ (c : Fin 64) (b : Fin 2) (h : Fin 8) (d e : Fin 128), c.val < n →
        ((RefLoop.states (F := Ideal) x n).main_v30_3 : FVec Ideal S64x2x8x128x128 .f32) (ix5 c b h d e)
        = ((RetMath.S (gr h.val) (kR x b.val h.val) (vR x b.val h.val) (64 * c.val) d e : ℝ) : EReal)) := by
  induction n with
  | zero =>
    refine ⟨rfl, fun b h d e => ?_, fun c b h d e hc => absurd hc (Nat.not_lt_zero _)⟩
    rw [Nat.mul_zero, RetMath.S_zero]
    show (K_main_v28 (F := Ideal) : FVec Ideal S2x8x128x128 .f32) (ix4 b h d e) = _
    pointwise [K_main_v28, K_main_cst_2]
    rfl
  | succ n ih =>
    obtain ⟨i0, i2, i3⟩ := ih (by omega)
    refine ⟨i0, fun b h d e => ?_, fun c b h d e hc => ?_⟩
    · refine (b24_apply ⟨n, by omega⟩ (RefLoop.states (F := Ideal) x n) b h d e).trans ?_
      rw [i2, i0, contrib_real hX, Nat.mul_succ, RetMath.S_add _ _ _ (64 * n) 64, EReal.coe_add, EReal.coe_mul]
    · refine (b30_apply ⟨n, by omega⟩ (RefLoop.states (F := Ideal) x n) c b h d e).trans ?_
      by_cases hcn : c = ⟨n, by omega⟩
      · rw [if_pos hcn, i2, hcn]
      · rw [if_neg hcn]
        refine i3 c b h d e ?_
        have : c.val ≠ n := fun h => hcn (Fin.ext h)
        omega

theorem yn_apply (b : Fin 2) (n : Fin 4096) (h : Fin 8) (e : Fin 128) :
    (ynT (F := Ideal) y g : FVec Ideal S2x4096x8x128 .f32) (ix4 b n h e)
      = normed (fun j => y (ix4 b n h j)) e * g (ix2 0 (colIn h e)) := by
  pointwise [ynT, gnT, ycT, varT, muT]
  have hc : (⟨h.val * 128 + e.val, by omega⟩ : Fin 1024) = colIn h e := Fin.ext (by show h.val * 128 + e.val = 128 * h.val + e.val; omega)
  rw [hc]
  rfl

/-- The reference's result. -/
theorem reference (hX : Real3 x) (r : Fin 8192) (h : Fin 8) (e : Fin 128) :
    (R_main_v113 (F := Ideal) (RefLoop.states (F := Ideal) x 64) x g : FVec Ideal S8192x1024 .bf16) (ix2 r (colIn h e)) = result x g r h e := by
  rw [result_eq]
  pointwise
  have h1 : (⟨(colIn h e).val / 128, by have := (colIn h e).isLt; omega⟩ : Fin 8) = h :=
    Fin.ext (by show (128 * h.val + e.val) / 128 = h.val; omega)
  have h2 : (⟨(colIn h e).val % 128, by omega⟩ : Fin 128) = e := Fin.ext (by show (128 * h.val + e.val) % 128 = e.val; omega)
  rw [h1, h2, yn_apply]
  have hy : ∀ j : Fin 128, (yT (F := Ideal) (RefLoop.states (F := Ideal) x 64).main_v30_3 x : FVec Ideal S2x4096x8x128 .f32)
      (ix4 ⟨r.val / 4096, by omega⟩ ⟨r.val % 4096, by omega⟩ h j) = ((ret x (r.val / 4096) h.val (r.val % 4096) j : ℝ) : EReal) := fun j =>
    y_real _ hX ⟨r.val / 4096, by omega⟩ ⟨r.val % 4096, by omega⟩ h j
      (fun d e => (states_real hX 64 (le_refl 64)).2.2 ⟨r.val % 4096 / 64, by omega⟩ _ h d e (by show r.val % 4096 / 64 < 64; omega))
  simp only [hy]
  unfold result
  refine congrArg (fun z : EReal => z * _) ?_
  pointwise [swT, gT]
  have hl : (⟨3072 + (colIn h e).val, by have := (colIn h e).isLt; omega⟩ : Fin 7168) = col 3 (colIn h e) :=
    Fin.ext (by rw [RetKernel.col_val 3 (by omega)])
  rw [hl]
  rfl

end Cert.Proof.RetRef

end
-- ==== Proof.Finite.lean ====
/- The precondition of the retention's claim, read: the queries, keys and values are real numbers. -/
module

public import proofs.«01_k».proof.Defs
public import proofs.«01_k».proof.Proof.RetKernel
public import Idealize.ShloMosaic.Lib.ReduceAll
public import Idealize.ShloMosaic.Lib.Pointwise

@[expose] public section

noncomputable section

namespace Cert.Proof.Finite

open Idealize.ShloMosaic Idealize.SL.Sem Cert.Pre_finite

instance facts : Cert.Pre_finite.Facts where
  slices_S8192x7168_S8192x3072_0_0 := by decide
  bitsLt_bf16_f32 := by decide
  bcast_S_S8192x3072 := by decide
  reducesTo_S8192x3072_S_d0_1 := by decide
  h_S_ := by decide

theorem word_inf : Ideal.ofBits .f32 0x7F800000#32 = (⊤ : EReal) := by
  simp [Ideal.ofBits, Ideal.ieee]

theorem real_of_abs_lt (a : EReal)
    (h : BitVec.ofBool (decide ((FloatOps.absf (F := Ideal) (φ := .f32) a : Ideal .f32) < (Ideal.ofBits .f32 0x7F800000#32 : EReal))) = 1#1) : a ≠ ⊤ ∧ a ≠ ⊥ := by
  rw [word_inf] at h
  have h' : max a (-a) < ⊤ := by
    by_contra hn
    have e : decide ((FloatOps.absf (F := Ideal) (φ := .f32) a : Ideal .f32) < (⊤ : EReal)) = false := decide_eq_false hn
    rw [e] at h
    exact absurd h (by decide)
  constructor <;> rintro rfl <;> simp at h'

theorem real3 {X : S8192x7168.Idx → EReal} {G : S1x1024.Idx → EReal}
    (h : Cert.Pre_finite.fn (F := Ideal) X G = fun _ => 1#1) : RetKernel.Real3 X := by
  intro r l hl
  have hs : Subsingleton S_.Idx := ⟨fun a b => funext fun i => i.elim0⟩
  unfold Cert.Pre_finite.fn at h
  dsimp only at h
  have e := Host.reduce_andi_all _ _ _ _ _ (congrFun h (Shape.Idx.first (by decide))) (ix2 r ⟨l.val, hl⟩)
  refine real_of_abs_lt _ (Eq.trans (Eq.symm ?_) e)
  pointwise

end Cert.Proof.Finite

end
-- ==== Proof.OutProjVal.lean ====
/- The output projection: what the kernel's call leaves in its result, and what the reference computes, each as one
   function of the arguments at an index; and their equality. -/
module

public import proofs.«01_k».proof.Proof.Gen.OutProjIdeal.Value
public import proofs.«01_k».proof.Proof.Gen.OutProjRefIdeal.Read
public import Idealize.ShloMosaic.Lib.Pointwise
public import Idealize.ShloMosaic.Lib.Pipeline.ValueKit

@[expose] public section

set_option maxRecDepth 16384

noncomputable section

namespace Cert.Proof.OutProjVal

open Idealize.ShloMosaic Idealize.ShloMosaic.TcCoe Idealize.SL.Sem

/-- A row of the first 1024 columns' weights. -/
def lo (k : Fin 1024) : Fin 2048 := ⟨k.val, by omega⟩
/-- A row of the last 1024 columns' weights. -/
def hi (k : Fin 1024) : Fin 2048 := ⟨1024 + k.val, by omega⟩

/-- The projection of two halves of the features, added to the residual. -/
def G (x0 x1 : ∀ _ : Cert.OutProjIdeal.S8192x1024.Idx, EReal) (x2 : ∀ _ : Cert.OutProjIdeal.S2048x2048.Idx, EReal)
    (x3 : ∀ _ : Cert.OutProjIdeal.S8192x2048.Idx, EReal) (i : Cert.OutProjIdeal.S8192x2048.Idx) : EReal :=
  x3 i + ((∑ k : Fin 1024, x0 (ix2 (i 0) k) * x2 (ix2 (lo k) (i 1)))
    + ∑ k : Fin 1024, x1 (ix2 (i 0) k) * x2 (ix2 (hi k) (i 1)))

section Kernel
open Cert.OutProjIdeal Cert.OutProjIdeal.Gen
variable (m : (ℓ : Loc nD τ sig) → Buf (Elt Ideal) ℓ)

theorem pay_apply (x : FVec Ideal S512x2048 .f32) (a : FVec Ideal S512x1024 .bf16) (w : FVec Ideal S1024x2048 .bf16)
    (b : FVec Ideal S512x1024 .bf16) (w' : FVec Ideal S1024x2048 .bf16) (r : Fin 512) (c : Fin 2048) :
    k0_pay1 x a w b w' (ix2 r c) = x (ix2 r c) + ((∑ k : Fin 1024, a (ix2 r k) * w (ix2 k c))
      + ∑ k : Fin 1024, b (ix2 r k) * w' (ix2 k c)) := by
  pointwise [k0_pay1]

/-- A row of grid point `t`'s block, among all rows. -/
def row (t : Fin cfg0.N) (r : Fin 512) : Fin 8192 := ⟨512 * t.val + r.val, by
  have : t.val < 16 := t.isLt
  omega⟩

theorem idx : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 1 ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0) :=
  (by decide +kernel : ∀ t : Fin grid0.N, _)

theorem iblk0 (c : Dev nD) (t : Fin cfg0.N) (r : Fin 512) (k : Fin 1024) :
    iblk m c 0 t (ix2 r k) = m ((c : Thread nD τ).loc main_arg0) (ix2 (row t r) k) := by
  obtain ⟨⟨e0, e1⟩, -⟩ := idx t
  show m ((c : Thread nD τ).loc main_arg0) (((cfg0.win 0).blk t).view.emb (ix2 r k)) = _
  congr 1; funext a; apply Fin.ext
  match a with
  | ⟨0, _⟩ => show win0_0.index t (0 : Fin 2) * 512 + 1 * r.val = 512 * t.val + r.val; omega
  | ⟨1, _⟩ => show win0_0.index t (1 : Fin 2) * 1024 + 1 * k.val = k.val; omega

theorem iblk1 (c : Dev nD) (t : Fin cfg0.N) (r : Fin 512) (k : Fin 1024) :
    iblk m c 1 t (ix2 r k) = m ((c : Thread nD τ).loc main_arg1) (ix2 (row t r) k) := by
  obtain ⟨-, ⟨e0, e1⟩, -⟩ := idx t
  show m ((c : Thread nD τ).loc main_arg1) (((cfg0.win 1).blk t).view.emb (ix2 r k)) = _
  congr 1; funext a; apply Fin.ext
  match a with
  | ⟨0, _⟩ => show win0_1.index t (0 : Fin 2) * 512 + 1 * r.val = 512 * t.val + r.val; omega
  | ⟨1, _⟩ => show win0_1.index t (1 : Fin 2) * 1024 + 1 * k.val = k.val; omega

theorem iblk2 (c : Dev nD) (t : Fin cfg0.N) (k : Fin 1024) (j : Fin 2048) :
    iblk m c 2 t (ix2 k j) = m ((c : Thread nD τ).loc main_arg2) (ix2 (lo k) j) := by
  obtain ⟨-, -, ⟨e0, e1⟩, -⟩ := idx t
  show m ((c : Thread nD τ).loc main_arg2) (((cfg0.win 2).blk t).view.emb (ix2 k j)) = _
  congr 1; funext a; apply Fin.ext
  match a with
  | ⟨0, _⟩ => show win0_2.index t (0 : Fin 2) * 1024 + 1 * k.val = k.val; omega
  | ⟨1, _⟩ => show win0_2.index t (1 : Fin 2) * 2048 + 1 * j.val = j.val; omega

theorem iblk3 (c : Dev nD) (t : Fin cfg0.N) (k : Fin 1024) (j : Fin 2048) :
    iblk m c 3 t (ix2 k j) = m ((c : Thread nD τ).loc main_arg2) (ix2 (hi k) j) := by
  obtain ⟨-, -, -, ⟨e0, e1⟩, -⟩ := idx t
  show m ((c : Thread nD τ).loc main_arg2) (((cfg0.win 3).blk t).view.emb (ix2 k j)) = _
  congr 1; funext a; apply Fin.ext
  match a with
  | ⟨0, _⟩ => show win0_3.index t (0 : Fin 2) * 1024 + 1 * k.val = 1024 + k.val; omega
  | ⟨1, _⟩ => show win0_3.index t (1 : Fin 2) * 2048 + 1 * j.val = j.val; omega

theorem iblk4 (c : Dev nD) (t : Fin cfg0.N) (r : Fin 512) (j : Fin 2048) :
    iblk m c 4 t (ix2 r j) = m ((c : Thread nD τ).loc main_arg3) (ix2 (row t r) j) := by
  obtain ⟨-, -, -, -, ⟨e0, e1⟩, -⟩ := idx t
  show m ((c : Thread nD τ).loc main_arg3) (((cfg0.win 4).blk t).view.emb (ix2 r j)) = _
  congr 1; funext a; apply Fin.ext
  match a with
  | ⟨0, _⟩ => show win0_4.index t (0 : Fin 2) * 512 + 1 * r.val = 512 * t.val + r.val; omega
  | ⟨1, _⟩ => show win0_4.index t (1 : Fin 2) * 2048 + 1 * j.val = j.val; omega

theorem emb5 (t : Fin cfg0.N) (r : Fin 512) (j : Fin 2048) :
    ((cfg0.win 5).blk t).view.emb (ix2 r j) = ix2 (row t r) j := by
  obtain ⟨-, -, -, -, -, ⟨e0, e1⟩⟩ := idx t
  funext a; apply Fin.ext
  match a with
  | ⟨0, _⟩ => show win0_5.index t (0 : Fin 2) * 512 + 1 * r.val = 512 * t.val + r.val; omega
  | ⟨1, _⟩ => show win0_5.index t (1 : Fin 2) * 2048 + 1 * j.val = j.val; omega

/-- What a grid point writes, at an element of its block. -/
theorem point (c : Dev nD) (t : Fin cfg0.N) (r : Fin 512) (j : Fin 2048) :
    k0_pay1 (F := Ideal) (iblk m c 4 t) (iblk m c 0 t) (iblk m c 2 t) (iblk m c 1 t) (iblk m c 3 t) (ix2 r j)
      = G (m ((c : Thread nD τ).loc main_arg0)) (m ((c : Thread nD τ).loc main_arg1))
        (m ((c : Thread nD τ).loc main_arg2)) (m ((c : Thread nD τ).loc main_arg3)) (ix2 (row t r) j) :=
  (pay_apply _ _ _ _ _ r j).trans
    (congrArg₂ (· + ·) (iblk4 m c t r j)
      (congrArg₂ (· + ·) (Finset.sum_congr rfl fun k _ => congrArg₂ (· * ·) (iblk0 m c t r k) (iblk2 m c t k j))
        (Finset.sum_congr rfl fun k _ => congrArg₂ (· * ·) (iblk1 m c t r k) (iblk3 m c t k j))))

/-- The kernel's result array. -/
theorem final (c : Dev nD) : (dats m 0 c).arrAt 5 cfg0.N
    = G (m ((c : Thread nD τ).loc main_arg0)) (m ((c : Thread nD τ).loc main_arg1))
        (m ((c : Thread nD τ).loc main_arg2)) (m ((c : Thread nD τ).loc main_arg3)) := by
  refine (dats m 0 c).arrAt_eq_of_covers 5 _ (by decide +kernel) fun t hf y => ?_
  blk_simp
  rw [after0_5]
  frame_out
  have hy : y = ix2 (n0 := 512) (n1 := 2048) (y 0) (y 1) := eq_ix2 y
  have he : ((View.whole main_v0).slice (win0_5.rect t)).emb y = ix2 (row t (y 0)) (y 1) := by
    conv_lhs => rw [hy]
    exact emb5 t (y 0) (y 1)
  rw [he]
  exact (congrArg _ hy).trans (point m c t (y 0) (y 1))

end Kernel

section Reference
open Cert.OutProjRefIdeal Cert.OutProjRefIdeal.Gen

/-- The reference's result: the features joined, multiplied by the weights, added to the residual. -/
theorem ref_eq (x0 x1 : FVec Ideal S8192x1024 .bf16) (x2 : FVec Ideal S2048x2048 .bf16) (x3 : FVec Ideal S8192x2048 .f32) :
    addf x3 (Host.dotGeneral dot_S8192x2048_S2048x2048_S8192x2048_1_0_0_1_n_n none (extf .f32 (concatenate S8192x2048 1 [⟨S8192x1024, x0⟩, ⟨S8192x1024, x1⟩] concatenates_S8192x1024_S8192x1024_S8192x2048_d1) bitsLt_bf16_f32) (extf .f32 x2 bitsLt_bf16_f32))
      = G x0 x1 x2 x3 := by
  funext i
  rw [eq_ix2 i]
  generalize i 0 = r; generalize i 1 = j
  pointwise [G]
  rfl

end Reference

end Cert.Proof.OutProjVal

end
-- ==== Proof.lean ====
/- The proof of the certificate's claim: the frames, the names, and the equality of each call with its reference. -/
module

public import proofs.«01_k».proof.Proof.Gen.KernelIdeal.Value
public import proofs.«01_k».proof.Proof.Gen.ReferenceIdeal.Run
public import proofs.«01_k».proof.Proof.RefLoop
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.OutProjRefIdeal.Read
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjRefIdeal
public import proofs.«01_k».proof.Proof.Gen.InProjRefIdeal.Run
public import proofs.«01_k».proof.Proof.Gen.InProjRefIdeal.Read
public import proofs.«01_k».proof.Proof.InBitsFrame
public import proofs.«01_k».proof.Proof.InVal
public import proofs.«01_k».proof.Proof.InRef
public import proofs.«01_k».proof.Proof.RetRef
public import proofs.«01_k».proof.Proof.Finite
public import proofs.«01_k».proof.Proof.OutProjVal
public import proofs.«01_k».proof.Proof.FfnRef
public import Idealize.ShloMosaic.Adequacy
public import Idealize.ShloMosaic.Lib.Quiescent
public import Idealize.ShloMosaic.Init

@[expose] public section

noncomputable section

namespace Cert.Proof

open Idealize.ShloMosaic Idealize.SL.Sem Cert.Kernel

/-- The retention's reference ends with its arguments and its counters as they were. -/
theorem frame_reference : Cert.quiescent_ReferenceIdeal := fun m g _ =>
  (θ_run _ _ _).mono (fun r h => ⟨fun c => (h c).2, sem_eq_zero_of_no_sems rfl r.2⟩) (RefLoop.run m g)

/-- The output projection's reference ends with its arguments and its counters as they were. -/
theorem frame_out : Cert.quiescent_OutProjRefIdeal := fun m g _ =>
  (θ_run _ _ _).mono (fun r h => ⟨fun c => (h c).2, sem_eq_zero_of_no_sems rfl r.2⟩) (Cert.OutProjRefIdeal.Value.run m g)

/-- The feed-forward block's reference ends with its arguments and its counters as they were. -/
theorem frame_ffn : Cert.quiescent_FfnRefIdeal := fun m g _ =>
  (θ_run _ _ _).mono (fun r h => ⟨fun c => (h c).2, sem_eq_zero_of_no_sems rfl r.2⟩) (Cert.FfnRefIdeal.Value.run m g)

/-- The input projection's reference ends with its arguments and its counters as they were. -/
theorem frame_in : Cert.quiescent_InProjRefIdeal := fun m g _ =>
  (θ_run _ _ _).mono (fun r h => ⟨fun c => (h c).2.2.2, sem_eq_zero_of_no_sems rfl r.2⟩) (Cert.InProjRefIdeal.Value.run m g)

/-- The eight decays over a block are named by the number that rounds to the kernel's. -/
theorem names : Cert.preserves_Kernel_KernelIdeal :=
  ⟨IdealRules.named_const.statement Cert.KernelIdeal.κ "g0" .f32 _ _ rfl,
    IdealRules.named_const.statement Cert.KernelIdeal.κ "g1" .f32 _ _ rfl,
    IdealRules.named_const.statement Cert.KernelIdeal.κ "g2" .f32 _ _ rfl,
    IdealRules.named_const.statement Cert.KernelIdeal.κ "g3" .f32 _ _ rfl,
    IdealRules.named_const.statement Cert.KernelIdeal.κ "g4" .f32 _ _ rfl,
    IdealRules.named_const.statement Cert.KernelIdeal.κ "g5" .f32 _ _ rfl,
    IdealRules.named_const.statement Cert.KernelIdeal.κ "g6" .f32 _ _ rfl,
    IdealRules.named_const.statement Cert.KernelIdeal.κ "g7" .f32 _ _ rfl⟩

/-- The two scales of the input projection are named by the numbers that round to the kernel's. -/
theorem names_in : Cert.preserves_InProj_InProjIdeal :=
  ⟨IdealRules.named_const.statement Cert.InProjIdeal.κ "scale" .f32 _ _ rfl,
    IdealRules.named_const.statement Cert.InProjIdeal.κ "scale2" .f32 _ _ rfl⟩

/-- The retention and its reference end with equal results, where the queries, keys and values are finite. -/
theorem ret_value : Cert.algebraic_KernelIdeal_ReferenceIdeal_pre_finite := fun m g m' g' hpre hagree =>
  ⟨fun c => Cert.KernelIdeal.Value.G8 m c,
    (θ_run _ _ _).mono (fun r h c => h c) (Cert.KernelIdeal.Value.run m g),
    (θ_run _ _ _).mono (fun r h c => ⟨(h c).1.trans (by
      obtain ⟨e0, e1⟩ := hagree c
      rw [e0, e1]
      have hX : RetKernel.Real3 (RetKernel.X m c) := Finite.real3 (hpre c)
      funext y
      obtain ⟨r, l, rfl⟩ : ∃ (r : Fin 8192) (l : Fin 1024), y = ix2 r l := ⟨y 0, y 1, eq_ix2 y⟩
      have hl : l = RetKernel.colIn ⟨l.val / 128, by omega⟩ ⟨l.val % 128, by omega⟩ :=
        Fin.ext (by show l.val = 128 * (l.val / 128) + l.val % 128; omega)
      rw [hl]
      exact (RetRef.reference (RetKernel.Gn m c) hX r _ _).trans (RetKernel.kernel hX r _ _).symm), (h c).2⟩)
      (RefLoop.run m' g')⟩

/-- The output projection and its reference end with equal results. -/
theorem out_value : Cert.algebraic_OutProjIdeal_OutProjRefIdeal := fun m g m' g' _ hagree =>
  ⟨fun c => (Cert.OutProjIdeal.Gen.dats m 0 c).arrAt 5 Cert.OutProjIdeal.cfg0.N,
    (θ_run _ _ _).mono (fun r h c => h c) (Cert.OutProjIdeal.Value.run_blocks m g),
    (θ_run _ _ _).mono (fun r h c => ⟨(h c).1.trans (by
      obtain ⟨e0, e1, e2, e3⟩ := hagree c
      rw [e0, e1, e2, e3]
      exact (OutProjVal.ref_eq _ _ _ _).trans (OutProjVal.final m c).symm), (h c).2⟩)
      (Cert.OutProjRefIdeal.Value.run m' g')⟩

/-- The feed-forward block and its reference end with equal results. -/
theorem ffn_value : Cert.algebraic_FfnIdeal_FfnRefIdeal := fun m g m' g' _ hagree =>
  ⟨fun c => (Cert.FfnIdeal.Gen.dats m 0 c).arrAt 4 Cert.FfnIdeal.cfg0.N,
    (θ_run _ _ _).mono (fun r h c => h c) (Cert.FfnIdeal.Value.run_blocks m g),
    (θ_run _ _ _).mono (fun r h c => ⟨(h c).1.trans (by
      obtain ⟨e0, e1, e2, e3⟩ := hagree c
      exact (FfnRef.ref_eq m c m' e0 e1 e2 e3 _ (Cert.FfnRefIdeal.Read.val_main_v20_eq _ _ _ _)).trans
        (FfnVal.final m c).symm), (h c).2⟩)
      (Cert.FfnRefIdeal.Value.run m' g')⟩

/-- The input projection and its reference end with equal results. -/
theorem in_value : Cert.algebraic_InProjIdeal_InProjRefIdeal := fun m g m' g' _ hagree =>
  ⟨fun c => InVal.G9 m c, fun c => InVal.G10 m c, fun c => InVal.G11 m c,
    (θ_run _ _ _).mono (fun r h c => h c) (InVal.run m g),
    (θ_run _ _ _).mono (fun r h c => ⟨(h c).1.trans (by
      obtain ⟨e0, e1, e2, e3, e4, -, -⟩ := hagree c
      rw [Cert.InProjRefIdeal.Read.val_main_v131_eq, e0, e1, e2, e3, e4]
      exact InRef.first_eq m c), (h c).2.1.trans (by
      obtain ⟨-, -, -, -, -, e5, -⟩ := hagree c
      rw [e5]
      exact InRef.second_eq m c), (h c).2.2.1.trans (by
      obtain ⟨-, -, -, -, -, -, e6⟩ := hagree c
      rw [e6]
      exact InRef.third_eq m c), (h c).2.2.2⟩)
      (Cert.InProjRefIdeal.Value.run m' g')⟩

theorem claim : Cert.Claim := ⟨Cert.Kernel.Gen.facts, Cert.KernelIdeal.Gen.facts, Cert.ReferenceIdeal.Gen.facts,
  Cert.OutProj.Gen.facts, Cert.OutProjIdeal.Gen.facts, Cert.OutProjRefIdeal.Gen.facts,
  Cert.Ffn.Gen.facts, Cert.FfnIdeal.Gen.facts, Cert.FfnRefIdeal.Gen.facts,
  Cert.InProj.Gen.facts, Cert.InProjIdeal.Gen.facts, Cert.InProjRefIdeal.Gen.facts, Finite.facts,
  fun m g _ => Cert.Kernel.Gen.frame m g,
  fun m g _ => Cert.KernelIdeal.Gen.frame m g,
  fun m g _ => Cert.KernelIdeal.Gen.frame m g,
  frame_reference,
  fun m g _ => frame_reference m g trivial,
  fun m g _ => Cert.OutProj.Gen.frame m g,
  fun m g _ => Cert.OutProjIdeal.Gen.frame m g,
  frame_out,
  fun m g _ => Cert.Ffn.Gen.frame m g,
  fun m g _ => Cert.FfnIdeal.Gen.frame m g,
  frame_ffn,
  fun m g _ => Cert.InProj.Run.frame m g,
  fun m g _ => Cert.InProjIdeal.Run.frame m g,
  frame_in,
  names, ret_value, trivial, out_value, trivial, ffn_value, names_in, in_value⟩

end Cert.Proof

end
